-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_merge [hPre_finite_merge : Cert.Pre_finite_merge.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_merge.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite_merge.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_finite_merge.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.1 = (fun _ => 1#1)
    ∧ (Cert.Pre_finite_merge.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_merge [hPre_finite_merge : Cert.Pre_finite_merge.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_merge.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite_merge.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_finite_merge.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.1 = (fun _ => 1#1)
    ∧ (Cert.Pre_finite_merge.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite_merge [hKernel4Ideal : Cert.Kernel4Ideal.Facts] [hPre_finite_merge : Cert.Pre_finite_merge.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_merge m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite_merge [hReference4Ideal : Cert.Reference4Ideal.Facts] [hPre_finite_merge : Cert.Pre_finite_merge.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_merge m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "qscale" .f32 0x3E38AA3B#32 ((8⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v64_0)) (v1 : (c : Dev Cert.Kernel3Ideal.nD) → Buf (Elt Ideal) ((c.tc : Thread Cert.Kernel3Ideal.nD Cert.Kernel3Ideal.τ).loc Cert.Kernel3Ideal.main_v64_1)) (v2 : (c : Dev Cert.Kernel3Ideal.nD) → Buf (Elt Ideal) ((c.tc : Thread Cert.Kernel3Ideal.nD Cert.Kernel3Ideal.τ).loc Cert.Kernel3Ideal.main_v64_2)) (v3 : (c : Dev Cert.Kernel3Ideal.nD) → Buf (Elt Ideal) ((c.tc : Thread Cert.Kernel3Ideal.nD Cert.Kernel3Ideal.τ).loc Cert.Kernel3Ideal.main_v64_3)) (v4 : (c : Dev Cert.Kernel3Ideal.nD) → Buf (Elt Ideal) ((c.tc : Thread Cert.Kernel3Ideal.nD Cert.Kernel3Ideal.τ).loc Cert.Kernel3Ideal.main_v64_4)) (v5 : (c : Dev Cert.Kernel3Ideal.nD) → Buf (Elt Ideal) ((c.tc : Thread Cert.Kernel3Ideal.nD Cert.Kernel3Ideal.τ).loc Cert.Kernel3Ideal.main_v64_5)) (v6 : (c : Dev Cert.Kernel3Ideal.nD) → Buf (Elt Ideal) ((c.tc : Thread Cert.Kernel3Ideal.nD Cert.Kernel3Ideal.τ).loc Cert.Kernel3Ideal.main_v64_6)) (v7 : (c : Dev Cert.Kernel3Ideal.nD) → Buf (Elt Ideal) ((c.tc : Thread Cert.Kernel3Ideal.nD Cert.Kernel3Ideal.τ).loc Cert.Kernel3Ideal.main_v64_7)) (v8 : (c : Dev Cert.Kernel3Ideal.nD) → Buf (Elt Ideal) ((c.tc : Thread Cert.Kernel3Ideal.nD Cert.Kernel3Ideal.τ).loc Cert.Kernel3Ideal.main_v64_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v64_0) = v0 c
          ∧ r.2.mem ((c.tc : Thread Cert.Kernel3Ideal.nD Cert.Kernel3Ideal.τ).loc Cert.Kernel3Ideal.main_v64_1) = v1 c
          ∧ r.2.mem ((c.tc : Thread Cert.Kernel3Ideal.nD Cert.Kernel3Ideal.τ).loc Cert.Kernel3Ideal.main_v64_2) = v2 c
          ∧ r.2.mem ((c.tc : Thread Cert.Kernel3Ideal.nD Cert.Kernel3Ideal.τ).loc Cert.Kernel3Ideal.main_v64_3) = v3 c
          ∧ r.2.mem ((c.tc : Thread Cert.Kernel3Ideal.nD Cert.Kernel3Ideal.τ).loc Cert.Kernel3Ideal.main_v64_4) = v4 c
          ∧ r.2.mem ((c.tc : Thread Cert.Kernel3Ideal.nD Cert.Kernel3Ideal.τ).loc Cert.Kernel3Ideal.main_v64_5) = v5 c
          ∧ r.2.mem ((c.tc : Thread Cert.Kernel3Ideal.nD Cert.Kernel3Ideal.τ).loc Cert.Kernel3Ideal.main_v64_6) = v6 c
          ∧ r.2.mem ((c.tc : Thread Cert.Kernel3Ideal.nD Cert.Kernel3Ideal.τ).loc Cert.Kernel3Ideal.main_v64_7) = v7 c
          ∧ r.2.mem ((c.tc : Thread Cert.Kernel3Ideal.nD Cert.Kernel3Ideal.τ).loc Cert.Kernel3Ideal.main_v64_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v187) = v0 c
          ∧ r.2.mem ((c.tc : Thread Cert.Reference3Ideal.nD Cert.Reference3Ideal.τ).loc Cert.Reference3Ideal.main_v189) = v1 c
          ∧ r.2.mem ((c.tc : Thread Cert.Reference3Ideal.nD Cert.Reference3Ideal.τ).loc Cert.Reference3Ideal.main_v191) = v2 c
          ∧ r.2.mem ((c.tc : Thread Cert.Reference3Ideal.nD Cert.Reference3Ideal.τ).loc Cert.Reference3Ideal.main_v193) = v3 c
          ∧ r.2.mem ((c.tc : Thread Cert.Reference3Ideal.nD Cert.Reference3Ideal.τ).loc Cert.Reference3Ideal.main_v195) = v4 c
          ∧ r.2.mem ((c.tc : Thread Cert.Reference3Ideal.nD Cert.Reference3Ideal.τ).loc Cert.Reference3Ideal.main_v197) = v5 c
          ∧ r.2.mem ((c.tc : Thread Cert.Reference3Ideal.nD Cert.Reference3Ideal.τ).loc Cert.Reference3Ideal.main_v199) = v6 c
          ∧ r.2.mem ((c.tc : Thread Cert.Reference3Ideal.nD Cert.Reference3Ideal.τ).loc Cert.Reference3Ideal.main_v201) = v7 c
          ∧ r.2.mem ((c.tc : Thread Cert.Reference3Ideal.nD Cert.Reference3Ideal.τ).loc Cert.Reference3Ideal.main_v203) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_merge [hKernel4Ideal : Cert.Kernel4Ideal.Facts] [hReference4Ideal : Cert.Reference4Ideal.Facts] [hPre_finite_merge : Cert.Pre_finite_merge.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_merge m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_values : Cert.Pre_finite_values.Facts) (hPre_finite_merge : Cert.Pre_finite_merge.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_merge (hKernel4Ideal := hKernel4Ideal) (hPre_finite_merge := hPre_finite_merge)
    ∧ quiescent_Reference4Ideal (hReference4Ideal := hReference4Ideal)
    ∧ quiescent_Reference4Ideal_pre_finite_merge (hReference4Ideal := hReference4Ideal) (hPre_finite_merge := hPre_finite_merge)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_merge (hKernel4Ideal := hKernel4Ideal) (hReference4Ideal := hReference4Ideal) (hPre_finite_merge := hPre_finite_merge)
-- ==== Pre_finite_merge.lean ====
abbrev S8x2048x512 : Shape := ⟨3, ![8, 2048, 512]⟩
abbrev S8x2048x3072 : Shape := ⟨3, ![8, 2048, 3072]⟩
abbrev S8x2048x1024 : Shape := ⟨3, ![8, 2048, 1024]⟩
abbrev S8x1x1024 : Shape := ⟨3, ![8, 1, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩

class Facts : Prop where
  bcast_S_S8x1x1024 : S_.BroadcastsInDim S8x1x1024 (![] : Fin 0 → Fin S8x1x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S8x2048x512 .f32) (main_arg1 : FVec F S8x2048x512 .f32) (main_arg2 : FVec F S8x2048x512 .f32) (main_arg3 : FVec F S8x2048x3072 .f32) (main_arg4 : FVec F S8x2048x1024 .f32) (main_arg5 : FVec F S8x1x1024 .f32) (main_arg6 : FVec F S8x1x1024 .f32) (main_arg7 : FVec F S8x1x1024 .f32) (main_arg8 : FVec F S1024 .f32) (main_arg9 : FVec F S512x1024 .f32) (main_arg10 : FVec F S512x1024 .f32) (main_arg11 : FVec F S512x1024 .f32) (main_arg12 : FVec F S1024x1024 .f32) (main_arg13 : FVec F S1024x16 .f32) : IVec S8x1x1024 1 × IVec S8x1x1024 1 × IVec S1024 1 × IVec S1024x16 1 :=
  let main_v0 : FVec F S8x1x1024 .f32 := Host.absf main_arg6
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_v3 : FVec F S8x1x1024 .f32 := Host.absf main_arg7
  let main_cst_0 : FVec F S_ .f32 := constant S_ .f32 0x7F800000#32
  let main_v4 : FVec F S8x1x1024 .f32 := broadcastInDim S8x1x1024 ![] bcast_S_S8x1x1024 main_cst_0
  let main_v5 : IVec S8x1x1024 1 := cmpf .olt main_v3 main_v4
  let main_v6 : FVec F S1024 .f32 := Host.absf main_arg8
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x16 .f32 := Host.absf main_arg13
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  (main_v2, main_v5, main_v8, main_v11)
-- ==== Pre_finite_values.lean ====
abbrev S8x2048x4x2x64 : Shape := ⟨5, ![8, 2048, 4, 2, 64]⟩
abbrev S8x256x4x2x64 : Shape := ⟨5, ![8, 256, 4, 2, 64]⟩
abbrev S8x2048x4x128 : Shape := ⟨4, ![8, 2048, 4, 128]⟩
abbrev S8x256x4x128 : Shape := ⟨4, ![8, 256, 4, 128]⟩
abbrev S4x64 : Shape := ⟨2, ![4, 64]⟩
abbrev S_ : Shape := ⟨0, ![]⟩

class Facts : Prop where
  bcast_S_S8x2048x4x128 : S_.BroadcastsInDim S8x2048x4x128 (![] : Fin 0 → Fin S8x2048x4x128.rank)
  bcast_S_S8x256x4x128 : S_.BroadcastsInDim S8x256x4x128 (![] : Fin 0 → Fin S8x256x4x128.rank)
  bcast_S_S4x64 : S_.BroadcastsInDim S4x64 (![] : Fin 0 → Fin S4x64.rank)

variable [Facts]

def fn {F : FTy → Type} [FloatOps F] (main_arg0 : FVec F S8x2048x4x2x64 .f32) (main_arg1 : FVec F S8x2048x4x2x64 .f32) (main_arg2 : FVec F S8x256x4x2x64 .f32) (main_arg3 : FVec F S8x2048x4x128 .f32) (main_arg4 : FVec F S8x256x4x128 .f32) (main_arg5 : FVec F S4x64 .f32) : IVec S8x2048x4x128 1 × IVec S8x256x4x128 1 × IVec S4x64 1 :=
  let main_v0 : FVec F S8x2048x4x128 .f32 := Host.absf main_arg3
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_v3 : FVec F S8x256x4x128 .f32 := Host.absf main_arg4
  let main_cst_0 : FVec F S_ .f32 := constant S_ .f32 0x7F800000#32
  let main_v4 : FVec F S8x256x4x128 .f32 := broadcastInDim S8x256x4x128 ![] bcast_S_S8x256x4x128 main_cst_0
  let main_v5 : IVec S8x256x4x128 1 := cmpf .olt main_v3 main_v4
  let main_v6 : FVec F S4x64 .f32 := Host.absf main_arg5
  let main_cst_1 : FVec F S_ .f32 := constant S_ .f32 0x7F800000#32
  let main_v7 : FVec F S4x64 .f32 := broadcastInDim S4x64 ![] bcast_S_S4x64 main_cst_1
  let main_v8 : IVec S4x64 1 := cmpf .olt main_v6 main_v7
  (main_v2, main_v5, main_v8)
-- ==== Kernel.lean ====
abbrev S8x2048x4x2x64 : Shape := ⟨5, ![8, 2048, 4, 2, 64]⟩
abbrev S8x256x4x2x64 : Shape := ⟨5, ![8, 256, 4, 2, 64]⟩
abbrev S8x2048x4x128 : Shape := ⟨4, ![8, 2048, 4, 128]⟩
abbrev S8x256x4x128 : Shape := ⟨4, ![8, 256, 4, 128]⟩
abbrev S4x64 : Shape := ⟨2, ![4, 64]⟩
abbrev S8x2048x512 : Shape := ⟨3, ![8, 2048, 512]⟩
abbrev S_ : Shape := ⟨0, ![]⟩
abbrev S8x256x512 : Shape := ⟨3, ![8, 256, 512]⟩
abbrev S8x2048x4x256 : Shape := ⟨4, ![8, 2048, 4, 256]⟩
abbrev S8x2048x1024 : Shape := ⟨3, ![8, 2048, 1024]⟩
abbrev S8x256x4x256 : Shape := ⟨4, ![8, 256, 4, 256]⟩
abbrev S8x256x1024 : Shape := ⟨3, ![8, 256, 1024]⟩
abbrev S1x1024x512 : Shape := ⟨3, ![1, 1024, 512]⟩
abbrev S1x2048x512 : Shape := ⟨3, ![1, 2048, 512]⟩
abbrev S1x256x512 : Shape := ⟨3, ![1, 256, 512]⟩
abbrev S1x2048x1024 : Shape := ⟨3, ![1, 2048, 1024]⟩
abbrev S1x256x1024 : Shape := ⟨3, ![1, 256, 1024]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S256x512 : Shape := ⟨2, ![256, 512]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S1x256x128 : Shape := ⟨3, ![1, 256, 128]⟩
abbrev S512x256 : Shape := ⟨2, ![512, 256]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 29
  | .vmem => 13
  | .smem => 0
  | _ => 0

abbrev bufTy : (tb : Table) → Fin (tcTables nBuf tb) → BufTy
  | .hbm, ⟨0, _⟩ => ⟨S8x2048x4x2x64, .f32⟩
  | .hbm, ⟨1, _⟩ => ⟨S8x2048x4x2x64, .f32⟩
  | .hbm, ⟨2, _⟩ => ⟨S8x256x4x2x64, .f32⟩
  | .hbm, ⟨3, _⟩ => ⟨S8x2048x4x128, .f32⟩
  | .hbm, ⟨4, _⟩ => ⟨S8x256x4x128, .f32⟩
  | .hbm, ⟨5, _⟩ => ⟨S4x64, .f32⟩
  | .hbm, ⟨6, _⟩ => ⟨S8x2048x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x512, .f32⟩
  | .hbm, ⟨12, _⟩ => ⟨S8x2048x512, .f32⟩
  | .hbm, ⟨13, _⟩ => ⟨S8x2048x512, .bf16⟩
  | .hbm, ⟨14, _⟩ => ⟨S8x2048x512, .f32⟩
  | .hbm, ⟨15, _⟩ => ⟨S8x2048x512, .bf16⟩
  | .hbm, ⟨16, _⟩ => ⟨S8x256x512, .f32⟩
  | .hbm, ⟨17, _⟩ => ⟨S8x256x512, .bf16⟩
  | .hbm, ⟨18, _⟩ => ⟨S_, .f32⟩
  | .hbm, ⟨19, _⟩ => ⟨S8x2048x4x128, .f32⟩
  | .hbm, ⟨20, _⟩ => ⟨S8x2048x4x256, .f32⟩
  | .hbm, ⟨21, _⟩ => ⟨S8x2048x1024, .f32⟩
  | .hbm, ⟨22, _⟩ => ⟨S8x2048x1024, .bf16⟩
  | .hbm, ⟨23, _⟩ => ⟨S_, .f32⟩
  | .hbm, ⟨24, _⟩ => ⟨S8x256x4x128, .f32⟩
  | .hbm, ⟨25, _⟩ => ⟨S8x256x4x256, .f32⟩
  | .hbm, ⟨26, _⟩ => ⟨S8x256x1024, .f32⟩
  | .hbm, ⟨27, _⟩ => ⟨S8x256x1024, .bf16⟩
  | .hbm, ⟨28, _⟩ => ⟨S8x2048x512, .bf16⟩
  | .local _ .vmem, ⟨0, _⟩ => ⟨S4x64, .f32⟩
  | .local _ .vmem, ⟨1, _⟩ => ⟨S1x1024x512, .bf16⟩
  | .local _ .vmem, ⟨2, _⟩ => ⟨S1x1024x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x1024x512, .bf16⟩
  | .local _ .vmem, ⟨12, _⟩ => ⟨S1x1024x512, .bf16⟩
  | _, _ => ⟨S8x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x4x2x64 : Shape := ⟨5, ![8, 2048, 4, 2, 64]⟩
abbrev S8x256x4x2x64 : Shape := ⟨5, ![8, 256, 4, 2, 64]⟩
abbrev S8x2048x4x128 : Shape := ⟨4, ![8, 2048, 4, 128]⟩
abbrev S8x256x4x128 : Shape := ⟨4, ![8, 256, 4, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8x2304x4x2x64 : Shape := ⟨5, ![8, 2304, 4, 2, 64]⟩
abbrev S8x2304x4x128 : Shape := ⟨4, ![8, 2304, 4, 128]⟩
abbrev S8x4x2x2048x2304 : Shape := ⟨5, ![8, 4, 2, 2048, 2304]⟩
abbrev S8x4x2x2048 : Shape := ⟨4, ![8, 4, 2, 2048]⟩
abbrev S8x4x2x2048x1 : Shape := ⟨5, ![8, 4, 2, 2048, 1]⟩
abbrev S8x4x1x2048x2304 : Shape := ⟨5, ![8, 4, 1, 2048, 2304]⟩
abbrev S8x4x2048x2304 : Shape := ⟨4, ![8, 4, 2048, 2304]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S8x2048x512 : Shape := ⟨3, ![8, 2048, 512]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x4x2x64, .f32⟩
  | .hbm, ⟨1, _⟩ => ⟨S8x2048x4x2x64, .f32⟩
  | .hbm, ⟨2, _⟩ => ⟨S8x256x4x2x64, .f32⟩
  | .hbm, ⟨3, _⟩ => ⟨S8x2048x4x128, .f32⟩
  | .hbm, ⟨4, _⟩ => ⟨S8x256x4x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2304x4x2x64, .f32⟩
  | .hbm, ⟨26, _⟩ => ⟨S8x2304x4x128, .f32⟩
  | .hbm, ⟨27, _⟩ => ⟨S8x4x2x2048x2304, .f32⟩
  | .hbm, ⟨28, _⟩ => ⟨S_, .f32⟩
  | .hbm, ⟨29, _⟩ => ⟨S8x4x2x2048x2304, .f32⟩
  | .hbm, ⟨30, _⟩ => ⟨S8x4x2x2048x2304, .f32⟩
  | .hbm, ⟨31, _⟩ => ⟨S_, .f32⟩
  | .hbm, ⟨32, _⟩ => ⟨S8x4x2x2048, .f32⟩
  | .hbm, ⟨33, _⟩ => ⟨S_, .f32⟩
  | .hbm, ⟨34, _⟩ => ⟨S8x4x2x2048, .f32⟩
  | .hbm, ⟨35, _⟩ => ⟨S8x4x2x2048, .f32⟩
  | .hbm, ⟨36, _⟩ => ⟨S8x4x2x2048x1, .f32⟩
  | .hbm, ⟨37, _⟩ => ⟨S8x4x2x2048x2304, .f32⟩
  | .hbm, ⟨38, _⟩ => ⟨S8x4x2x2048x2304, .f32⟩
  | .hbm, ⟨39, _⟩ => ⟨S8x4x2x2048x2304, .f32⟩
  | .hbm, ⟨40, _⟩ => ⟨S_, .f32⟩
  | .hbm, ⟨41, _⟩ => ⟨S8x4x2x2048, .f32⟩
  | .hbm, ⟨42, _⟩ => ⟨S8x4x2x2048x1, .f32⟩
  | .hbm, ⟨43, _⟩ => ⟨S8x4x2x2048x2304, .f32⟩
  | .hbm, ⟨44, _⟩ => ⟨S8x4x2x2048x2304, .f32⟩
  | .hbm, ⟨45, _⟩ => ⟨S8x4x1x2048x2304, .f32⟩
  | .hbm, ⟨46, _⟩ => ⟨S8x4x2048x2304, .f32⟩
  | .hbm, ⟨47, _⟩ => ⟨S8x4x1x2048x2304, .f32⟩
  | .hbm, ⟨48, _⟩ => ⟨S8x4x2048x2304, .f32⟩
  | .hbm, ⟨49, _⟩ => ⟨S8x4x2048x2304, .f32⟩
  | .hbm, ⟨50, _⟩ => ⟨S8x4x2048x2304, .f32⟩
  | .hbm, ⟨51, _⟩ => ⟨S8x4x2048x2304, .f32⟩
  | .hbm, ⟨52, _⟩ => ⟨S8x4x128x2048, .f32⟩
  | .hbm, ⟨53, _⟩ => ⟨S8x2048x4x128, .f32⟩
  | .hbm, ⟨54, _⟩ => ⟨S8x2048x4x128, .f32⟩
  | .hbm, ⟨55, _⟩ => ⟨S_, .f32⟩
  | .hbm, ⟨56, _⟩ => ⟨S8x2048x4, .f32⟩
  | .hbm, ⟨57, _⟩ => ⟨S8x2048x4x1, .f32⟩
  | .hbm, ⟨58, _⟩ => ⟨S_, .f32⟩
  | .hbm, ⟨59, _⟩ => ⟨S8x2048x4x1, .f32⟩
  | .hbm, ⟨60, _⟩ => ⟨S8x2048x4x1, .f32⟩
  | .hbm, ⟨61, _⟩ => ⟨S_, .f32⟩
  | .hbm, ⟨62, _⟩ => ⟨S8x2048x4x1, .f32⟩
  | .hbm, ⟨63, _⟩ => ⟨S8x2048x4x1, .f32⟩
  | .hbm, ⟨64, _⟩ => ⟨S8x2048x4x1, .f32⟩
  | .hbm, ⟨65, _⟩ => ⟨S8x2048x4x128, .f32⟩
  | .hbm, ⟨66, _⟩ => ⟨S8x2048x4x128, .f32⟩
  | .hbm, ⟨67, _⟩ => ⟨S_, .f32⟩
  | .hbm, ⟨68, _⟩ => ⟨S8x2048x4x128, .f32⟩
  | .hbm, ⟨69, _⟩ => ⟨S8x2048x4x128, .f32⟩
  | .hbm, ⟨70, _⟩ => ⟨S8x2048x512, .f32⟩
  | .hbm, ⟨71, _⟩ => ⟨S8x2048x512, .bf16⟩
  | _, _ => ⟨S8x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel2.lean ====
abbrev S8x16x256x1024 : Shape := ⟨4, ![8, 16, 256, 1024]⟩
abbrev S2x16x1024x2048 : Shape := ⟨4, ![2, 16, 1024, 2048]⟩
abbrev S2x16x2048x1024 : Shape := ⟨4, ![2, 16, 2048, 1024]⟩
abbrev S8x1x256x1024 : Shape := ⟨4, ![8, 1, 256, 1024]⟩
abbrev S1x1x1024x512 : Shape := ⟨4, ![1, 1, 1024, 512]⟩
abbrev S1x1x2048x512 : Shape := ⟨4, ![1, 1, 2048, 512]⟩
abbrev S8x1x256x512 : Shape := ⟨4, ![8, 1, 256, 512]⟩
abbrev S2048x1024 : Shape := ⟨2, ![2048, 1024]⟩
abbrev S4x2048x512 : Shape := ⟨3, ![4, 2048, 512]⟩
abbrev S8x256x1024 : Shape := ⟨3, ![8, 256, 1024]⟩
abbrev S1024x512 : Shape := ⟨2, ![1024, 512]⟩
abbrev S2048x512 : Shape := ⟨2, ![2048, 512]⟩
abbrev S1x2048x512 : Shape := ⟨3, ![1, 2048, 512]⟩
abbrev S1x1x512x512 : Shape := ⟨4, ![1, 1, 512, 512]⟩
abbrev S512x512 : Shape := ⟨2, ![512, 512]⟩
abbrev S8x256x512 : Shape := ⟨3, ![8, 256, 512]⟩

abbrev nBuf : Space → Nat
  | .hbm => 6
  | .vmem => 11
  | .smem => 0
  | _ => 0

abbrev bufTy : (tb : Table) → Fin (tcTables nBuf tb) → BufTy
  | .hbm, ⟨0, _⟩ => ⟨S8x16x256x1024, .f32⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S8x16x256x1024, .bf16⟩
  | .hbm, ⟨5, _⟩ => ⟨S8x16x256x1024, .bf16⟩
  | .local _ .vmem, ⟨0, _⟩ => ⟨S8x1x256x1024, .bf16⟩
  | .local _ .vmem, ⟨1, _⟩ => ⟨S1x1x1024x512, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x2048x512, .f32⟩
  | .local _ .vmem, ⟨6, _⟩ => ⟨S1x1x2048x512, .f32⟩
  | .local _ .vmem, ⟨7, _⟩ => ⟨S8x1x256x512, .bf16⟩
  | .local _ .vmem, ⟨8, _⟩ => ⟨S8x1x256x512, .bf16⟩
  | .local _ .vmem, ⟨9, _⟩ => ⟨S2048x1024, .bf16⟩
  | .local _ .vmem, ⟨10, _⟩ => ⟨S4x2048x512, .bf16⟩
  | _, _ => ⟨S8x16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v28 : Index := Scalar.indexCast arg1
  let c0_17 : Index := 0#32
  let c0_18 : Index := 0#32
  ![v28.toNat, 0, 0]
def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let c0_i32 : BitVec 32 := 0#32
  let c0_i32_0 : BitVec 32 := 0#32
  ![c1_i32.toNat, arg0.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let c0_i32 : BitVec 32 := 0#32
  let c0_i32_0 : BitVec 32 := 0#32
  ![c1_i32.toNat, arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  ![c1_i32.toNat, arg0.toNat, c0_i32_0.toNat, v1.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

abbrev stage0_0 : Fin 1 → Memref sig .tc .vmem S8x1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x16x256x1024 : Shape := ⟨4, ![8, 16, 256, 1024]⟩
abbrev S2x16x1024x2048 : Shape := ⟨4, ![2, 16, 1024, 2048]⟩
abbrev S2x16x2048x1024 : Shape := ⟨4, ![2, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x2048x8x256 : Shape := ⟨4, ![16, 2048, 8, 256]⟩
abbrev S8x16x256x2048 : Shape := ⟨4, ![8, 16, 256, 2048]⟩
abbrev S_ : Shape := ⟨0, ![]⟩
abbrev S16x1024x8x256 : Shape := ⟨4, ![16, 1024, 8, 256]⟩

abbrev nBuf : Space → Nat
  | .hbm => 27
  | .vmem => 0
  | .smem => 0
  | _ => 0

abbrev bufTy : (tb : Table) → Fin (tcTables nBuf tb) → BufTy
  | .hbm, ⟨0, _⟩ => ⟨S8x16x256x1024, .f32⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S1x16x1024x2048, .f32⟩
  | .hbm, ⟨5, _⟩ => ⟨S16x1024x2048, .f32⟩
  | .hbm, ⟨6, _⟩ => ⟨S1x16x1024x2048, .f32⟩
  | .hbm, ⟨7, _⟩ => ⟨S16x1024x2048, .f32⟩
  | .hbm, ⟨8, _⟩ => ⟨S1x16x2048x1024, .f32⟩
  | .hbm, ⟨9, _⟩ => ⟨S16x2048x1024, .f32⟩
  | .hbm, ⟨10, _⟩ => ⟨S16x2048x8x256, .f32⟩
  | .hbm, ⟨11, _⟩ => ⟨S8x16x256x2048, .f32⟩
  | .hbm, ⟨12, _⟩ => ⟨S8x16x256x2048, .f32⟩
  | .hbm, ⟨13, _⟩ => ⟨S8x16x256x2048, .f32⟩
  | .hbm, ⟨14, _⟩ => ⟨S_, .f32⟩
  | .hbm, ⟨15, _⟩ => ⟨S8x16x256x2048, .f32⟩
  | .hbm, ⟨16, _⟩ => ⟨S8x16x256x2048, .f32⟩
  | .hbm, ⟨17, _⟩ => ⟨S_, .f32⟩
  | .hbm, ⟨18, _⟩ => ⟨S8x16x256x2048, .f32⟩
  | .hbm, ⟨19, _⟩ => ⟨S8x16x256x2048, .f32⟩
  | .hbm, ⟨20, _⟩ => ⟨S8x16x256x2048, .f32⟩
  | .hbm, ⟨21, _⟩ => ⟨S16x2048x8x256, .f32⟩
  | .hbm, ⟨22, _⟩ => ⟨S8x16x256x2048, .f32⟩
  | .hbm, ⟨23, _⟩ => ⟨S8x16x256x2048, .f32⟩
  | .hbm, ⟨24, _⟩ => ⟨S16x1024x8x256, .f32⟩
  | .hbm, ⟨25, _⟩ => ⟨S8x16x256x1024, .f32⟩
  | .hbm, ⟨26, _⟩ => ⟨S8x16x256x1024, .bf16⟩
  | _, _ => ⟨S8x16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x1x1024 : Shape := ⟨3, ![8, 1, 1024]⟩
abbrev S2x1024 : Shape := ⟨2, ![2, 1024]⟩
abbrev S2x1024x6656 : Shape := ⟨3, ![2, 1024, 6656]⟩
abbrev S2x64 : Shape := ⟨2, ![2, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8x64 : Shape := ⟨2, ![8, 64]⟩
abbrev S512 : Shape := ⟨1, ![512]⟩
abbrev S1x512 : Shape := ⟨2, ![1, 512]⟩
abbrev S16384x1024 : Shape := ⟨2, ![16384, 1024]⟩
abbrev S1x1024 : Shape := ⟨2, ![1, 1024]⟩
abbrev S1024 : Shape := ⟨1, ![1024]⟩
abbrev S1x1024x6656 : Shape := ⟨3, ![1, 1024, 6656]⟩
abbrev S1024x6656 : Shape := ⟨2, ![1024, 6656]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16384x512 : Shape := ⟨2, ![16384, 512]⟩
abbrev S16384x256 : Shape := ⟨2, ![16384, 256]⟩
abbrev S16384x3072 : Shape := ⟨2, ![16384, 3072]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512x256 : Shape := ⟨2, ![512, 256]⟩
abbrev S512x3072 : Shape := ⟨2, ![512, 3072]⟩
abbrev S512x1 : Shape := ⟨2, ![512, 1]⟩
abbrev S1024x512 : Shape := ⟨2, ![1024, 512]⟩
abbrev S1024x256 : Shape := ⟨2, ![1024, 256]⟩
abbrev S1024x1024 : Shape := ⟨2, ![1024, 1024]⟩

abbrev nBuf : Space → Nat
  | .hbm => 84
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S2x1024, .f32⟩
  | .hbm, ⟨4, _⟩ => ⟨S2x1024x6656, .f32⟩
  | .hbm, ⟨5, _⟩ => ⟨S2x64, .f32⟩
  | .hbm, ⟨6, _⟩ => ⟨S2x64, .f32⟩
  | .hbm, ⟨7, _⟩ => ⟨S32, .f32⟩
  | .hbm, ⟨8, _⟩ => ⟨S32x64, .f32⟩
  | .hbm, ⟨9, _⟩ => ⟨S2048, .f32⟩
  | .hbm, ⟨10, _⟩ => ⟨S64, .f32⟩
  | .hbm, ⟨11, _⟩ => ⟨S1x64, .f32⟩
  | .hbm, ⟨12, _⟩ => ⟨S32x64, .f32⟩
  | .hbm, ⟨13, _⟩ => ⟨S2048, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S1x2048x1x32, .f32⟩
  | .hbm, ⟨36, _⟩ => ⟨S1x2048x4x32, .f32⟩
  | .hbm, ⟨37, _⟩ => ⟨S2048x128, .f32⟩
  | .hbm, ⟨38, _⟩ => ⟨S2048x32, .f32⟩
  | .hbm, ⟨39, _⟩ => ⟨S2048x64, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S8x64, .f32⟩
  | .hbm, ⟨47, _⟩ => ⟨S512, .f32⟩
  | .hbm, ⟨48, _⟩ => ⟨S1x512, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S1x512, .f32⟩
  | .hbm, ⟨55, _⟩ => ⟨S16384x1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S1x1024x6656, .f32⟩
  | .hbm, ⟨60, _⟩ => ⟨S1024x6656, .f32⟩
  | .hbm, ⟨61, _⟩ => ⟨S1024x6656, .bf16⟩
  | .hbm, ⟨62, _⟩ => ⟨S4x64, .i32⟩
  | .hbm, ⟨63, _⟩ => ⟨S256, .i32⟩
  | .hbm, ⟨64, _⟩ => ⟨S256x1, .i32⟩
  | .hbm, ⟨65, _⟩ => ⟨S1x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S_, .f32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256x256, .bf16⟩
  | .hbm, ⟨75, _⟩ => ⟨S16384x512, .bf16⟩
  | .hbm, ⟨76, _⟩ => ⟨S16384x256, .bf16⟩
  | .hbm, ⟨77, _⟩ => ⟨S16384x256, .bf16⟩
  | .hbm, ⟨78, _⟩ => ⟨S16384x512, .bf16⟩
  | .hbm, ⟨79, _⟩ => ⟨S16384x512, .bf16⟩
  | .hbm, ⟨80, _⟩ => ⟨S16384x512, .bf16⟩
  | .hbm, ⟨81, _⟩ => ⟨S16384x512, .bf16⟩
  | .hbm, ⟨82, _⟩ => ⟨S16384x1024, .bf16⟩
  | .hbm, ⟨83, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x6656, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S1x512, .f32⟩
  | .local _ .vmem, ⟨14, _⟩ => ⟨S256x256, .bf16⟩
  | .local _ .vmem, ⟨15, _⟩ => ⟨S512x512, .bf16⟩
  | .local _ .vmem, ⟨16, _⟩ => ⟨S512x512, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x1024, .bf16⟩
  | .local _ .vmem, ⟨30, _⟩ => ⟨S512x1024, .bf16⟩
  | .local _ .vmem, ⟨31, _⟩ => ⟨S512x3072, .bf16⟩
  | .local _ .vmem, ⟨32, _⟩ => ⟨S512x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_1 : Ref sig .tc := ⟨.hbm, 69, rfl⟩
abbrev main_v60 : Ref sig .tc := ⟨.hbm, 70, rfl⟩
abbrev main_cst_2 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64_0 : Ref sig .tc := ⟨.hbm, 75, rfl⟩
abbrev main_v64_1 : Ref sig .tc := ⟨.hbm, 76, rfl⟩
abbrev main_v64_2 : Ref sig .tc := ⟨.hbm, 77, rfl⟩
abbrev main_v64_3 : Ref sig .tc := ⟨.hbm, 78, rfl⟩
abbrev main_v64_4 : Ref sig .tc := ⟨.hbm, 79, rfl⟩
abbrev main_v64_5 : Ref sig .tc := ⟨.hbm, 80, rfl⟩
abbrev main_v64_6 : Ref sig .tc := ⟨.hbm, 81, rfl⟩
abbrev main_v64_7 : Ref sig .tc := ⟨.hbm, 82, rfl⟩
abbrev main_v64_8 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel3Ideal.lean ====
variable {F : FTy → Type} [FloatOps F] [Named F]
def κ : String → Option EReal := fun
  | "qscale" => some ((8⁻¹ * (Real.log 2)⁻¹ : ℝ) : EReal)
  | _ => none
-- ==== Reference3Ideal.lean ====
abbrev S8x2048x1024 : Shape := ⟨3, ![8, 2048, 1024]⟩
abbrev S8x1x1024 : Shape := ⟨3, ![8, 1, 1024]⟩
abbrev S2x1024 : Shape := ⟨2, ![2, 1024]⟩
abbrev S2x1024x6656 : Shape := ⟨3, ![2, 1024, 6656]⟩
abbrev S2x64 : Shape := ⟨2, ![2, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x6656 : Shape := ⟨3, ![1, 1024, 6656]⟩
abbrev S1024x6656 : Shape := ⟨2, ![1024, 6656]⟩
abbrev S8x2048x6656 : Shape := ⟨3, ![8, 2048, 6656]⟩
abbrev S8x2048x512 : Shape := ⟨3, ![8, 2048, 512]⟩
abbrev S8x2048x256 : Shape := ⟨3, ![8, 2048, 256]⟩
abbrev S8x2048x3072 : Shape := ⟨3, ![8, 2048, 3072]⟩
abbrev S8x2048x4x64 : Shape := ⟨4, ![8, 2048, 4, 64]⟩
abbrev S2048x1x32 : Shape := ⟨3, ![2048, 1, 32]⟩
abbrev S8x2048x4x32 : Shape := ⟨4, ![8, 2048, 4, 32]⟩
abbrev S1x2048x1x32 : Shape := ⟨4, ![1, 2048, 1, 32]⟩
abbrev S8x2048x4x2x64 : Shape := ⟨5, ![8, 2048, 4, 2, 64]⟩
abbrev S8x2048x4x2 : Shape := ⟨4, ![8, 2048, 4, 2]⟩
abbrev S8x2048x4x2x1 : Shape := ⟨5, ![8, 2048, 4, 2, 1]⟩
abbrev S1x1x1x1x64 : Shape := ⟨5, ![1, 1, 1, 1, 64]⟩
abbrev S2048x1x1x32 : Shape := ⟨4, ![2048, 1, 1, 32]⟩
abbrev S8x2048x4x2x32 : Shape := ⟨5, ![8, 2048, 4, 2, 32]⟩
abbrev S1x2048x1x1x32 : Shape := ⟨5, ![1, 2048, 1, 1, 32]⟩
abbrev S8x2048x4x128 : Shape := ⟨4, ![8, 2048, 4, 128]⟩
abbrev S8x2048x4x256 : Shape := ⟨4, ![8, 2048, 4, 256]⟩
abbrev S16384x512 : Shape := ⟨2, ![16384, 512]⟩
abbrev S16384x256 : Shape := ⟨2, ![16384, 256]⟩
abbrev S16384x1024 : Shape := ⟨2, ![16384, 1024]⟩
abbrev S16384x3072 : Shape := ⟨2, ![16384, 3072]⟩

abbrev nBuf : Space → Nat
  | .hbm => 237
  | .vmem => 0
  | .smem => 0
  | _ => 0

abbrev hbmTy0_0 (i : Nat) : BufTy := match i % 128 with
  | 0 => ⟨S8x2048x1024, .f32⟩
  | 1 => ⟨S8x1x1024, .f32⟩
  | 2 => ⟨S8x1x1024, .f32⟩
  | 3 => ⟨S2x1024, .f32⟩
  | 4 => ⟨S2x1024x6656, .f32⟩
  | 5 => ⟨S2x64, .f32⟩
  | 6 => ⟨S2x64, .f32⟩
  | 7 => ⟨S32, .f32⟩
  | 8 => ⟨S32x64, .f32⟩
  | 9 => ⟨S2048, .f32⟩
  | 10 => ⟨S64, .f32⟩
  | 11 => ⟨S1x64, .f32⟩
  | 12 => ⟨S32x64, .f32⟩
  | 13 => ⟨S2048, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x1, .f32⟩
  | 28 => ⟨S1x16, .f32⟩
  | 29 => ⟨S2048x16, .f32⟩
  | 30 => ⟨S2048x16, .f32⟩
  | 31 => ⟨S2048x16, .f32⟩
  | 32 => ⟨S2048x32, .f32⟩
  | 33 => ⟨S2048x32, .f32⟩
  | 34 => ⟨S2048x32, .f32⟩
  | 35 => ⟨S8x2048x1024, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S_, .f32⟩
  | 43 => ⟨S8x2048x1, .f32⟩
  | 44 => ⟨S8x2048x1, .f32⟩
  | 45 => ⟨S8x2048x1, .f32⟩
  | 46 => ⟨S8x2048x1024, .f32⟩
  | 47 => ⟨S8x2048x1024, .f32⟩
  | 48 => ⟨S1x1024, .f32⟩
  | 49 => ⟨S1024, .f32⟩
  | 50 => ⟨S1x1x1024, .f32⟩
  | 51 => ⟨S8x2048x1024, .f32⟩
  | 52 => ⟨S8x2048x1024, .f32⟩
  | 53 => ⟨S_, .f32⟩
  | 54 => ⟨S8x1x1024, .f32⟩
  | 55 => ⟨S8x1x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S1x1024x6656, .f32⟩
  | 61 => ⟨S1024x6656, .f32⟩
  | 62 => ⟨S8x2048x6656, .f32⟩
  | 63 => ⟨S8x2048x512, .f32⟩
  | 64 => ⟨S8x2048x256, .f32⟩
  | 65 => ⟨S8x2048x256, .f32⟩
  | 66 => ⟨S8x2048x512, .f32⟩
  | 67 => ⟨S8x2048x512, .f32⟩
  | 68 => ⟨S8x2048x512, .f32⟩
  | 69 => ⟨S8x2048x512, .f32⟩
  | 70 => ⟨S8x2048x512, .f32⟩
  | 71 => ⟨S8x2048x3072, .f32⟩
  | 72 => ⟨S8x2048x4x64, .f32⟩
  | 73 => ⟨S_, .f32⟩
  | 74 => ⟨S8x2048x4x64, .f32⟩
  | 75 => ⟨S8x2048x4x64, .f32⟩
  | 76 => ⟨S2048x1x32, .f32⟩
  | 77 => ⟨S2048x1x32, .f32⟩
  | 78 => ⟨S8x2048x4x32, .f32⟩
  | 79 => ⟨S8x2048x4x32, .f32⟩
  | 80 => ⟨S1x2048x1x32, .f32⟩
  | 81 => ⟨S8x2048x4x32, .f32⟩
  | 82 => ⟨S8x2048x4x32, .f32⟩
  | 83 => ⟨S1x2048x1x32, .f32⟩
  | 84 => ⟨S8x2048x4x32, .f32⟩
  | 85 => ⟨S8x2048x4x32, .f32⟩
  | 86 => ⟨S8x2048x4x32, .f32⟩
  | 87 => ⟨S1x2048x1x32, .f32⟩
  | 88 => ⟨S8x2048x4x32, .f32⟩
  | 89 => ⟨S8x2048x4x32, .f32⟩
  | 90 => ⟨S1x2048x1x32, .f32⟩
  | 91 => ⟨S8x2048x4x32, .f32⟩
  | 92 => ⟨S8x2048x4x32, .f32⟩
  | 93 => ⟨S8x2048x4x32, .f32⟩
  | 94 => ⟨S8x2048x4x64, .f32⟩
  | 95 => ⟨S8x2048x4x64, .f32⟩
  | 96 => ⟨S2048x1x32, .f32⟩
  | 97 => ⟨S2048x1x32, .f32⟩
  | 98 => ⟨S8x2048x4x32, .f32⟩
  | 99 => ⟨S8x2048x4x32, .f32⟩
  | 100 => ⟨S1x2048x1x32, .f32⟩
  | 101 => ⟨S8x2048x4x32, .f32⟩
  | 102 => ⟨S8x2048x4x32, .f32⟩
  | 103 => ⟨S1x2048x1x32, .f32⟩
  | 104 => ⟨S8x2048x4x32, .f32⟩
  | 105 => ⟨S8x2048x4x32, .f32⟩
  | 106 => ⟨S8x2048x4x32, .f32⟩
  | 107 => ⟨S1x2048x1x32, .f32⟩
  | 108 => ⟨S8x2048x4x32, .f32⟩
  | 109 => ⟨S8x2048x4x32, .f32⟩
  | 110 => ⟨S1x2048x1x32, .f32⟩
  | 111 => ⟨S8x2048x4x32, .f32⟩
  | 112 => ⟨S8x2048x4x32, .f32⟩
  | 113 => ⟨S8x2048x4x32, .f32⟩
  | 114 => ⟨S8x2048x4x64, .f32⟩
  | 115 => ⟨S8x2048x4x2x64, .f32⟩
  | 116 => ⟨S8x2048x4x2x64, .f32⟩
  | 117 => ⟨S_, .f32⟩
  | 118 => ⟨S8x2048x4x2, .f32⟩
  | 119 => ⟨S8x2048x4x2x1, .f32⟩
  | 120 => ⟨S_, .f32⟩
  | 121 => ⟨S8x2048x4x2x1, .f32⟩
  | 122 => ⟨S8x2048x4x2x1, .f32⟩
  | 123 => ⟨S_, .f32⟩
  | 124 => ⟨S8x2048x4x2x1, .f32⟩
  | 125 => ⟨S8x2048x4x2x1, .f32⟩
  | 126 => ⟨S8x2048x4x2x1, .f32⟩
  | 127 => ⟨S8x2048x4x2x64, .f32⟩
  | _ => ⟨S8x2048x1024, .f32⟩

abbrev hbmTy0_1 (i : Nat) : BufTy := match i % 128 with
  | 0 => ⟨S8x2048x4x2x64, .f32⟩
  | 1 => ⟨S1x64, .f32⟩
  | 2 => ⟨S64, .f32⟩
  | 3 => ⟨S1x1x1x1x64, .f32⟩
  | 4 => ⟨S8x2048x4x2x64, .f32⟩
  | 5 => ⟨S8x2048x4x2x64, .f32⟩
  | 6 => ⟨S2048x1x1x32, .f32⟩
  | 7 => ⟨S2048x1x1x32, .f32⟩
  | 8 => ⟨S8x2048x4x2x32, .f32⟩
  | 9 => ⟨S8x2048x4x2x32, .f32⟩
  | 10 => ⟨S1x2048x1x1x32, .f32⟩
  | 11 => ⟨S8x2048x4x2x32, .f32⟩
  | 12 => ⟨S8x2048x4x2x32, .f32⟩
  | 13 => ⟨S1x2048x1x1x32, .f32⟩
  | 14 => ⟨S8x2048x4x2x32, .f32⟩
  | 15 => ⟨S8x2048x4x2x32, .f32⟩
  | 16 => ⟨S8x2048x4x2x32, .f32⟩
  | 17 => ⟨S1x2048x1x1x32, .f32⟩
  | 18 => ⟨S8x2048x4x2x32, .f32⟩
  | 19 => ⟨S8x2048x4x2x32, .f32⟩
  | 20 => ⟨S1x2048x1x1x32, .f32⟩
  | 21 => ⟨S8x2048x4x2x32, .f32⟩
  | 22 => ⟨S8x2048x4x2x32, .f32⟩
  | 23 => ⟨S8x2048x4x2x32, .f32⟩
  | 24 => ⟨S8x2048x4x2x64, .f32⟩
  | 25 => ⟨S_, .f32⟩
  | 26 => ⟨S8x2048x4x2x64, .f32⟩
  | 27 => ⟨S8x2048x4x2x64, .f32⟩
  | 28 => ⟨S_, .f32⟩
  | 29 => ⟨S_, .f32⟩
  | 30 => ⟨S8x2048x4x2x64, .f32⟩
  | 31 => ⟨S8x2048x4x2x64, .f32⟩
  | 32 => ⟨S8x2048x4x2x64, .f32⟩
  | 33 => ⟨S8x2048x4x2x64, .f32⟩
  | 34 => ⟨S_, .f32⟩
  | 35 => ⟨S8x2048x4x2, .f32⟩
  | 36 => ⟨S8x2048x4x2x1, .f32⟩
  | 37 => ⟨S_, .f32⟩
  | 38 => ⟨S8x2048x4x2x1, .f32⟩
  | 39 => ⟨S8x2048x4x2x1, .f32⟩
  | 40 => ⟨S_, .f32⟩
  | 41 => ⟨S8x2048x4x2x1, .f32⟩
  | 42 => ⟨S8x2048x4x2x1, .f32⟩
  | 43 => ⟨S8x2048x4x2x1, .f32⟩
  | 44 => ⟨S8x2048x4x2x64, .f32⟩
  | 45 => ⟨S8x2048x4x2x64, .f32⟩
  | 46 => ⟨S1x64, .f32⟩
  | 47 => ⟨S64, .f32⟩
  | 48 => ⟨S1x1x1x1x64, .f32⟩
  | 49 => ⟨S8x2048x4x2x64, .f32⟩
  | 50 => ⟨S8x2048x4x2x64, .f32⟩
  | 51 => ⟨S2048x1x1x32, .f32⟩
  | 52 => ⟨S2048x1x1x32, .f32⟩
  | 53 => ⟨S8x2048x4x2x32, .f32⟩
  | 54 => ⟨S8x2048x4x2x32, .f32⟩
  | 55 => ⟨S1x2048x1x1x32, .f32⟩
  | 56 => ⟨S8x2048x4x2x32, .f32⟩
  | 57 => ⟨S8x2048x4x2x32, .f32⟩
  | 58 => ⟨S1x2048x1x1x32, .f32⟩
  | 59 => ⟨S8x2048x4x2x32, .f32⟩
  | 60 => ⟨S8x2048x4x2x32, .f32⟩
  | 61 => ⟨S8x2048x4x2x32, .f32⟩
  | 62 => ⟨S1x2048x1x1x32, .f32⟩
  | 63 => ⟨S8x2048x4x2x32, .f32⟩
  | 64 => ⟨S8x2048x4x2x32, .f32⟩
  | 65 => ⟨S1x2048x1x1x32, .f32⟩
  | 66 => ⟨S8x2048x4x2x32, .f32⟩
  | 67 => ⟨S8x2048x4x2x32, .f32⟩
  | 68 => ⟨S8x2048x4x2x32, .f32⟩
  | 69 => ⟨S8x2048x4x2x64, .f32⟩
  | 70 => ⟨S8x2048x4x128, .f32⟩
  | 71 => ⟨S_, .f32⟩
  | 72 => ⟨S8x2048x4x128, .f32⟩
  | 73 => ⟨S8x2048x4x256, .f32⟩
  | 74 => ⟨S8x2048x512, .f32⟩
  | 75 => ⟨S8x2048x512, .f32⟩
  | 76 => ⟨S_, .f32⟩
  | 77 => ⟨S8x2048x512, .f32⟩
  | 78 => ⟨S8x2048x512, .f32⟩
  | 79 => ⟨S_, .f32⟩
  | 80 => ⟨S8x2048x512, .f32⟩
  | 81 => ⟨S8x2048x512, .f32⟩
  | 82 => ⟨S8x2048x512, .f32⟩
  | 83 => ⟨S8x2048x3072, .f32⟩
  | 84 => ⟨S8x2048x3072, .f32⟩
  | 85 => ⟨S_, .f32⟩
  | 86 => ⟨S8x2048x3072, .f32⟩
  | 87 => ⟨S8x2048x3072, .f32⟩
  | 88 => ⟨S_, .f32⟩
  | 89 => ⟨S8x2048x3072, .f32⟩
  | 90 => ⟨S8x2048x3072, .f32⟩
  | 91 => ⟨S16384x512, .f32⟩
  | 92 => ⟨S16384x512, .bf16⟩
  | 93 => ⟨S16384x256, .f32⟩
  | 94 => ⟨S16384x256, .bf16⟩
  | 95 => ⟨S16384x256, .f32⟩
  | 96 => ⟨S16384x256, .bf16⟩
  | 97 => ⟨S16384x512, .f32⟩
  | 98 => ⟨S16384x512, .bf16⟩
  | 99 => ⟨S16384x512, .f32⟩
  | 100 => ⟨S16384x512, .bf16⟩
  | 101 => ⟨S16384x512, .f32⟩
  | 102 => ⟨S16384x512, .bf16⟩
  | 103 => ⟨S16384x512, .f32⟩
  | 104 => ⟨S16384x512, .bf16⟩
  | 105 => ⟨S16384x1024, .f32⟩
  | 106 => ⟨S16384x1024, .bf16⟩
  | 107 => ⟨S16384x3072, .f32⟩
  | 108 => ⟨S16384x3072, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_6 : Ref sig .tc := ⟨.hbm, 117, rfl⟩
abbrev main_v103 : Ref sig .tc := ⟨.hbm, 118, rfl⟩
abbrev main_v104 : Ref sig .tc := ⟨.hbm, 119, rfl⟩
abbrev main_cst_7 : Ref sig .tc := ⟨.hbm, 120, rfl⟩
abbrev main_v105 : Ref sig .tc := ⟨.hbm, 121, rfl⟩
abbrev main_v106 : Ref sig .tc := ⟨.hbm, 122, rfl⟩
abbrev main_cst_8 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_cst_9 : Ref sig .tc := ⟨.hbm, 153, rfl⟩
abbrev main_v136 : Ref sig .tc := ⟨.hbm, 154, rfl⟩
abbrev main_v137 : Ref sig .tc := ⟨.hbm, 155, rfl⟩
abbrev main_cst_10 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_cst_11 : Ref sig .tc := ⟨.hbm, 162, rfl⟩
abbrev main_v143 : Ref sig .tc := ⟨.hbm, 163, rfl⟩
abbrev main_v144 : Ref sig .tc := ⟨.hbm, 164, rfl⟩
abbrev main_cst_12 : Ref sig .tc := ⟨.hbm, 165, rfl⟩
abbrev main_v145 : Ref sig .tc := ⟨.hbm, 166, rfl⟩
abbrev main_v146 : Ref sig .tc := ⟨.hbm, 167, rfl⟩
abbrev main_cst_13 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_cst_14 : Ref sig .tc := ⟨.hbm, 199, rfl⟩
abbrev main_v177 : Ref sig .tc := ⟨.hbm, 200, rfl⟩
abbrev main_v178 : Ref sig .tc := ⟨.hbm, 201, rfl⟩
abbrev main_call0_v0 : Ref sig .tc := ⟨.hbm, 202, rfl⟩
abbrev main_call0_v1 : Ref sig .tc := ⟨.hbm, 203, rfl⟩
abbrev main_call0_cst : Ref sig .tc := ⟨.hbm, 204, rfl⟩
abbrev main_call0_v2 : Ref sig .tc := ⟨.hbm, 205, rfl⟩
abbrev main_call0_v3 : Ref sig .tc := ⟨.hbm, 206, rfl⟩
abbrev main_call0_cst_0 : Ref sig .tc := ⟨.hbm, 207, rfl⟩
abbrev main_call0_v4 : Ref sig .tc := ⟨.hbm, 208, rfl⟩
abbrev main_call0_v5 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_cst_15 : Ref sig .tc := ⟨.hbm, 213, rfl⟩
abbrev main_v182 : Ref sig .tc := ⟨.hbm, 214, rfl⟩
abbrev main_v183 : Ref sig .tc := ⟨.hbm, 215, rfl⟩
abbrev main_cst_16 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩

abbrev nD : Nat := 1
abbrev τ : Topo := Topo.v7x

variable {F : FTy → Type} [FloatOps F]
-- ==== Kernel4.lean ====
abbrev S8x2048x512 : Shape := ⟨3, ![8, 2048, 512]⟩
abbrev S8x2048x3072 : Shape := ⟨3, ![8, 2048, 3072]⟩
abbrev S8x2048x1024 : Shape := ⟨3, ![8, 2048, 1024]⟩
abbrev S8x1x1024 : Shape := ⟨3, ![8, 1, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x256 : Shape := ⟨2, ![1024, 256]⟩
abbrev S16384x512 : Shape := ⟨2, ![16384, 512]⟩
abbrev S16384x3072 : Shape := ⟨2, ![16384, 3072]⟩
abbrev S16384x1024 : Shape := ⟨2, ![16384, 1024]⟩
abbrev S1x1024 : Shape := ⟨2, ![1, 1024]⟩
abbrev S8x16x2048 : Shape := ⟨3, ![8, 16, 2048]⟩
abbrev S1024x512 : Shape := ⟨2, ![1024, 512]⟩
abbrev S1024x3072 : Shape := ⟨2, ![1024, 3072]⟩
abbrev S1x1x1024 : Shape := ⟨3, ![1, 1, 1024]⟩
abbrev S1x16x1024 : Shape := ⟨3, ![1, 16, 1024]⟩
abbrev S1024x1 : Shape := ⟨2, ![1024, 1]⟩
abbrev S1024x128 : Shape := ⟨2, ![1024, 128]⟩
abbrev S128x1024 : Shape := ⟨2, ![128, 1024]⟩
abbrev S16x1024 : Shape := ⟨2, ![16, 1024]⟩

abbrev nBuf : Space → Nat
  | .hbm => 38
  | .vmem => 28
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x3072, .f32⟩
  | .hbm, ⟨4, _⟩ => ⟨S8x2048x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x16, .f32⟩
  | .hbm, ⟨14, _⟩ => ⟨S1024x16, .bf16⟩
  | .hbm, ⟨15, _⟩ => ⟨S1024x16, .f32⟩
  | .hbm, ⟨16, _⟩ => ⟨S1024x16, .f32⟩
  | .hbm, ⟨17, _⟩ => ⟨S1024x16, .bf16⟩
  | .hbm, ⟨18, _⟩ => ⟨S_, .bf16⟩
  | .hbm, ⟨19, _⟩ => ⟨S1024x112, .bf16⟩
  | .hbm, ⟨20, _⟩ => ⟨S1024x256, .bf16⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x512, .bf16⟩
  | .hbm, ⟨25, _⟩ => ⟨S16384x512, .f32⟩
  | .hbm, ⟨26, _⟩ => ⟨S16384x512, .bf16⟩
  | .hbm, ⟨27, _⟩ => ⟨S16384x3072, .f32⟩
  | .hbm, ⟨28, _⟩ => ⟨S16384x3072, .bf16⟩
  | .hbm, ⟨29, _⟩ => ⟨S16384x1024, .f32⟩
  | .hbm, ⟨30, _⟩ => ⟨S1x1024, .f32⟩
  | .hbm, ⟨31, _⟩ => ⟨S512x1024, .bf16⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S16384x1024, .f32⟩
  | .hbm, ⟨36, _⟩ => ⟨S16384x1024, .bf16⟩
  | .hbm, ⟨37, _⟩ => ⟨S8x16x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x3072, .bf16⟩
  | .local _ .vmem, ⟨7, _⟩ => ⟨S1024x3072, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x256, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1x16x1024, .f32⟩
  | .local _ .vmem, ⟨27, _⟩ => ⟨S1x16x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S8x2048x512 : Shape := ⟨3, ![8, 2048, 512]⟩
abbrev S8x2048x3072 : Shape := ⟨3, ![8, 2048, 3072]⟩
abbrev S8x2048x1024 : Shape := ⟨3, ![8, 2048, 1024]⟩
abbrev S8x1x1024 : Shape := ⟨3, ![8, 1, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x16 : Shape := ⟨3, ![8, 2048, 16]⟩
abbrev S16384x1024 : Shape := ⟨2, ![16384, 1024]⟩
abbrev S8x16x2048 : Shape := ⟨3, ![8, 16, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x3072, .f32⟩
  | .hbm, ⟨4, _⟩ => ⟨S8x2048x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x16, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x16, .f32⟩
  | .hbm, ⟨53, _⟩ => ⟨S_, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048x1, .f32⟩
  | .hbm, ⟨59, _⟩ => ⟨S8x2048x16, .f32⟩
  | .hbm, ⟨60, _⟩ => ⟨S8x2048x16, .f32⟩
  | .hbm, ⟨61, _⟩ => ⟨S8x2048x16, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S8x2048x16, .f32⟩
  | .hbm, ⟨66, _⟩ => ⟨S8x2048x16, .f32⟩
  | .hbm, ⟨67, _⟩ => ⟨S16384x1024, .f32⟩
  | .hbm, ⟨68, _⟩ => ⟨S16384x1024, .f32⟩
  | .hbm, ⟨69, _⟩ => ⟨S16384x1024, .bf16⟩
  | .hbm, ⟨70, _⟩ => ⟨S8x16x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Proof.AttnMath.lean ====
/- The mathematics of the differential attention over the extended reals: base-two and natural exponentials of scaled
   scores agree, a scaled row maximum is the scaled maximum of the row, dividing the weighted sum by the weights' sum is
   summing the divided weights, and the root-mean-square normalisation sends a row of zeros and infinities to zero. -/
module

public import Idealize.ShloMosaic.Lib.Pointwise
public import Idealize.ShloMosaic.Lib.Pipeline.ValueKit

@[expose] public section

set_option maxRecDepth 16384

noncomputable section

open Idealize.ShloMosaic

namespace Cert.AttnMath

/-- The factor of the queries: an eighth, in units of the logarithm of two. -/
def kap : ℝ := (1 / 8) / Real.log 2

theorem kap_pos : 0 < kap := div_pos (by norm_num) (Real.log_pos (by norm_num))

/-- Two to the power of a difference of scores in base-two units is the exponential of the difference of an eighth
    of the scores. -/
theorem exp2_scale (x y : EReal) :
    Ideal.exp2 ((kap : EReal) * x - (kap : EReal) * y)
      = Ideal.exp (x * ((1 / 8 : ℝ) : EReal) - y * ((1 / 8 : ℝ) : EReal)) := by
  have hk := kap_pos
  have h8 : (0 : ℝ) < 1 / 8 := by norm_num
  induction x with
  | bot =>
    rw [EReal.coe_mul_bot_of_pos hk, EReal.bot_mul_coe_of_pos h8]
    simp only [EReal.bot_sub]
    rfl
  | top =>
    rw [EReal.coe_mul_top_of_pos hk, EReal.top_mul_coe_of_pos h8]
    induction y with
    | bot =>
      rw [EReal.coe_mul_bot_of_pos hk, EReal.bot_mul_coe_of_pos h8]; rfl
    | top =>
      rw [EReal.coe_mul_top_of_pos hk, EReal.top_mul_coe_of_pos h8]; rfl
    | coe y => rw [← EReal.coe_mul, ← EReal.coe_mul]; rfl
  | coe x =>
    induction y with
    | bot =>
      rw [EReal.coe_mul_bot_of_pos hk, EReal.bot_mul_coe_of_pos h8, ← EReal.coe_mul, ← EReal.coe_mul]; rfl
    | top =>
      rw [EReal.coe_mul_top_of_pos hk, EReal.top_mul_coe_of_pos h8, ← EReal.coe_mul, ← EReal.coe_mul]; rfl
    | coe y =>
      rw [← EReal.coe_mul, ← EReal.coe_mul, ← EReal.coe_mul, ← EReal.coe_mul, ← EReal.coe_sub, ← EReal.coe_sub]
      show ((Real.rpow 2 _ : ℝ) : EReal) = ((Real.exp _ : ℝ) : EReal)
      congr 1
      show (2 : ℝ) ^ (_ : ℝ) = _
      rw [Real.rpow_def_of_pos (by norm_num)]
      congr 1
      have hl : Real.log 2 ≠ 0 := (Real.log_pos (by norm_num)).ne'
      unfold kap
      field_simp

/-- Multiplication by the factor keeps the order. -/
theorem kap_mono : Monotone fun x : EReal => (kap : EReal) * x := fun x y h => by
  exact mul_le_mul_of_nonneg_left h (by exact_mod_cast kap_pos.le)

/-- The maximum of a scaled row is the scaled maximum of the row. -/
theorem fold_max_kap {ι : Type} [Fintype ι] (T : ι → EReal) :
    (Finset.univ.fold max (⊥ : EReal) fun j => (kap : EReal) * T j)
      = (kap : EReal) * Finset.univ.fold max (⊥ : EReal) T := by
  have h := Finset.fold_hom (s := (Finset.univ : Finset ι)) (op := max) (op' := max) (b := (⊥ : EReal)) (f := T)
    (m := fun x : EReal => (kap : EReal) * x) (fun x y => kap_mono.map_max)
  simpa only [EReal.coe_mul_bot_of_pos kap_pos] using h

/-- Multiplication by the factor goes through a sum. -/
theorem sum_kap {ι : Type} (s : Finset ι) (f : ι → EReal) :
    ∑ j ∈ s, (kap : EReal) * f j = (kap : EReal) * ∑ j ∈ s, f j := by
  classical
  induction s using Finset.induction_on with
  | empty => simp
  | insert a s ha ih =>
    rw [Finset.sum_insert ha, Finset.sum_insert ha, ih,
      EReal.left_distrib_of_nonneg_of_ne_top (by exact_mod_cast kap_pos.le) (EReal.coe_ne_top _)]

/-- An eighth of a score is also monotone, and its row maximum an eighth of the row maximum. -/
theorem fold_max_eighth {ι : Type} [Fintype ι] (T : ι → EReal) :
    (Finset.univ.fold max (⊥ : EReal) fun j => T j * ((1 / 8 : ℝ) : EReal))
      = (Finset.univ.fold max (⊥ : EReal) T) * ((1 / 8 : ℝ) : EReal) := by
  have h8 : (0 : ℝ) < 1 / 8 := by norm_num
  have hm : Monotone fun x : EReal => x * ((1 / 8 : ℝ) : EReal) := fun x y h =>
    mul_le_mul_of_nonneg_right h (by exact_mod_cast h8.le)
  have h := Finset.fold_hom (s := (Finset.univ : Finset ι)) (op := max) (op' := max) (b := (⊥ : EReal)) (f := T)
    (m := fun x : EReal => x * ((1 / 8 : ℝ) : EReal)) (fun x y => hm.map_max)
  simpa only [EReal.bot_mul_coe_of_pos h8] using h

/-- Every entry of a row is at most the row's maximum. -/
theorem le_fold_max {ι : Type} [Fintype ι] (T : ι → EReal) (j : ι) : T j ≤ Finset.univ.fold max (⊥ : EReal) T :=
  (Finset.le_fold_max (T j)).2 (Or.inr ⟨j, Finset.mem_univ j, le_rfl⟩)

/-- The maximum over a row of two parts is the larger of the parts' maxima. -/
theorem fold_max_parts {n a b : ℕ} (h : n = a + b) (T : Fin n → EReal) :
    Finset.univ.fold max (⊥ : EReal) T
      = max (Finset.univ.fold max (⊥ : EReal) fun j : Fin a => T ⟨j, by omega⟩)
          (Finset.univ.fold max (⊥ : EReal) fun j : Fin b => T ⟨a + j, by omega⟩) := by
  refine eq_of_forall_ge_iff fun c => ?_
  rw [max_le_iff, Finset.fold_max_le, Finset.fold_max_le, Finset.fold_max_le]
  constructor
  · rintro ⟨h0, h1⟩
    exact ⟨⟨h0, fun j _ => h1 _ (Finset.mem_univ _)⟩, ⟨h0, fun j _ => h1 _ (Finset.mem_univ _)⟩⟩
  · rintro ⟨⟨h0, h1⟩, ⟨-, h2⟩⟩
    refine ⟨h0, fun j _ => ?_⟩
    by_cases hj : (j : ℕ) < a
    · exact h1 ⟨j, hj⟩ (Finset.mem_univ _)
    · have := h2 ⟨j - a, by omega⟩ (Finset.mem_univ _)
      have e : (⟨a + (j - a), by omega⟩ : Fin n) = j := Fin.ext (by simp; omega)
      simpa only [e] using this

/-- A sum over a row of two parts is the sum of the parts' sums. -/
theorem sum_parts {n a b : ℕ} (h : n = a + b) (T : Fin n → EReal) :
    ∑ j, T j = (∑ j : Fin a, T ⟨j, by omega⟩) + ∑ j : Fin b, T ⟨a + j, by omega⟩ := by
  subst h
  rw [Fin.sum_univ_add]
  rfl

/-- The exponential of a non-positive difference is a real number and not negative. -/
theorem exp_real {x y : EReal} (h : x ≤ y) : ∃ u : ℝ, 0 ≤ u ∧ Ideal.exp (x - y) = (u : EReal) := by
  induction y with
  | bot =>
    rw [le_bot_iff.1 h]; exact ⟨0, le_rfl, rfl⟩
  | top =>
    exact ⟨0, le_rfl, by rw [EReal.sub_top]; rfl⟩
  | coe y =>
    induction x with
    | bot => exact ⟨0, le_rfl, by rw [EReal.bot_sub]; rfl⟩
    | top => exact absurd (le_antisymm le_top h) (EReal.coe_ne_top y)
    | coe x => exact ⟨Real.exp (x - y), (Real.exp_pos _).le, by rw [← EReal.coe_sub]; rfl⟩

/-- A sum of reals, read in the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A quotient of reals with a divisor that is not zero. -/
theorem div_real (x : ℝ) {y : ℝ} (h : y ≠ 0) : Ideal.div (x : EReal) (y : EReal) = ((x / y : ℝ) : EReal) := by
  rw [Ideal.div_coe h, ← EReal.coe_mul]; congr 1; ring

/-- Zero by zero. -/
theorem div_zero_zero : Ideal.div 0 0 = ⊥ := by simp [Ideal.div]

/-- `x` is zero or an infinity. -/
def Degen (x : EReal) : Prop := x = 0 ∨ x = ⊤ ∨ x = ⊥

/-- A sum of zeros and infinities is one. -/
theorem Degen.sum {ι : Type} (s : Finset ι) (f : ι → EReal) (h : ∀ j, Degen (f j)) : Degen (∑ j ∈ s, f j) := by
  classical
  induction s using Finset.induction_on with
  | empty => exact Or.inl (by simp)
  | insert a s ha ih =>
    rw [Finset.sum_insert ha]
    rcases h a with e | e | e <;> rcases ih with e' | e' | e' <;> rw [e, e'] <;> simp [Degen]

/-- A real times an infinity is zero or an infinity. -/
theorem Degen.mul (r : ℝ) {x : EReal} (h : Degen x) : Degen ((r : EReal) * x) := by
  rcases h with e | e | e <;> rw [e]
  · exact Or.inl (mul_zero _)
  · rcases lt_trichotomy r 0 with h | h | h
    · rw [EReal.coe_mul_top_of_neg h]; exact Or.inr (Or.inr rfl)
    · rw [h]; exact Or.inl (by simp)
    · rw [EReal.coe_mul_top_of_pos h]; exact Or.inr (Or.inl rfl)
  · rcases lt_trichotomy r 0 with h | h | h
    · rw [EReal.coe_mul_bot_of_neg h]; exact Or.inr (Or.inl rfl)
    · rw [h]; exact Or.inl (by simp)
    · rw [EReal.coe_mul_bot_of_pos h]; exact Or.inr (Or.inr rfl)

/-- The difference of two quotients of weighted sums, and the weighted sum of the difference of the quotients: they
    agree in every column, or both are zeros and infinities in every column. -/
theorem diff_cases {ι κ : Type} [Fintype ι] (u0 u1 : ι → ℝ) (h0 : ∀ j, 0 ≤ u0 j) (h1 : ∀ j, 0 ≤ u1 j)
    (v : ι → κ → ℝ) (lam : ℝ) :
    (∀ e, Ideal.div (∑ j, (u0 j : EReal) * (v j e : EReal)) (∑ j, (u0 j : EReal))
          - (lam : EReal) * Ideal.div (∑ j, (u1 j : EReal) * (v j e : EReal)) (∑ j, (u1 j : EReal))
        = ∑ j, (v j e : EReal) * (Ideal.div (u0 j : EReal) (∑ j, (u0 j : EReal))
            - (lam : EReal) * Ideal.div (u1 j : EReal) (∑ j, (u1 j : EReal))))
    ∨ ((∀ e, Degen (Ideal.div (∑ j, (u0 j : EReal) * (v j e : EReal)) (∑ j, (u0 j : EReal))
          - (lam : EReal) * Ideal.div (∑ j, (u1 j : EReal) * (v j e : EReal)) (∑ j, (u1 j : EReal))))
      ∧ ∀ e, Degen (∑ j, (v j e : EReal) * (Ideal.div (u0 j : EReal) (∑ j, (u0 j : EReal))
            - (lam : EReal) * Ideal.div (u1 j : EReal) (∑ j, (u1 j : EReal))))) := by
  have hN : ∀ (u : ι → ℝ) (e : κ), ∑ j, (u j : EReal) * (v j e : EReal) = ((∑ j, u j * v j e : ℝ) : EReal) := by
    intro u e; rw [coe_sum]; rfl
  have hL : ∀ u : ι → ℝ, ∑ j, (u j : EReal) = ((∑ j, u j : ℝ) : EReal) := fun u => (coe_sum _ _).symm
  have hz : ∀ u : ι → ℝ, (∀ j, 0 ≤ u j) → ∑ j, u j = 0 → ∀ j, u j = 0 := fun u hu hs j =>
    (Finset.sum_eq_zero_iff_of_nonneg fun j _ => hu j).1 hs j (Finset.mem_univ j)
  simp only [hN, hL]
  have bad : ∀ u : ι → ℝ, (∀ j, 0 ≤ u j) → ∑ j, u j = 0 →
      (∀ e, Ideal.div ((∑ j, u j * v j e : ℝ) : EReal) ((∑ j, u j : ℝ) : EReal) = ⊥)
      ∧ ∀ j, Ideal.div (u j : EReal) ((∑ j, u j : ℝ) : EReal) = ⊥ := by
    intro u hu hs
    have hj := hz u hu hs
    constructor
    · intro e
      rw [hs, show ∑ j, u j * v j e = 0 from Finset.sum_eq_zero fun j _ => by rw [hj j, zero_mul]]
      simpa using div_zero_zero
    · intro j
      rw [hs, hj j]
      simpa using div_zero_zero
  by_cases s0 : ∑ j, u0 j = 0
  · right
    obtain ⟨b1, b2⟩ := bad u0 h0 s0
    simp only [b1, b2, EReal.bot_sub]
    exact ⟨fun e => Or.inr (Or.inr rfl), fun e => Degen.sum _ _ fun j => Degen.mul _ (Or.inr (Or.inr rfl))⟩
  · by_cases s1 : ∑ j, u1 j = 0
    · obtain ⟨b1, b2⟩ := bad u1 h1 s1
      simp only [b1, b2, div_real _ s0]
      rcases lt_trichotomy lam 0 with hl | hl | hl
      · right
        rw [EReal.coe_mul_bot_of_neg hl]
        simp only [EReal.sub_top]
        exact ⟨fun e => Or.inr (Or.inr rfl), fun e => Degen.sum _ _ fun j => Degen.mul _ (Or.inr (Or.inr rfl))⟩
      · left
        intro e
        rw [hl]
        simp only [EReal.coe_zero, zero_mul, sub_zero, ← EReal.coe_mul]
        rw [← coe_sum]
        congr 1
        rw [Finset.sum_div]
        exact Finset.sum_congr rfl fun j _ => by ring
      · right
        rw [EReal.coe_mul_bot_of_pos hl]
        simp only [EReal.coe_sub_bot]
        exact ⟨fun e => Or.inr (Or.inl rfl), fun e => Degen.sum _ _ fun j => Degen.mul _ (Or.inr (Or.inl rfl))⟩
    · left
      intro e
      simp only [div_real _ s0, div_real _ s1, ← EReal.coe_mul, ← EReal.coe_sub]
      rw [← coe_sum]
      congr 1
      rw [Finset.sum_div, Finset.sum_div, Finset.mul_sum, ← Finset.sum_sub_distrib]
      exact Finset.sum_congr rfl fun j _ => by ring

/-- The root-mean-square normalisation of a row of 128, times a constant. -/
def norm (cn ce cc : EReal) (x : Fin 128 → EReal) (e : Fin 128) : EReal :=
  x e * Ideal.rsqrt (Ideal.div (∑ k, x k * x k) cn + ce) * cc

/-- The normalisation of a row of zeros and infinities is zero. -/
theorem norm_degen {n ε : ℝ} (hn : 0 < n) (hε : 0 < ε) (cc : EReal) (x : Fin 128 → EReal) (h : ∀ e, Degen (x e))
    (e : Fin 128) : norm (n : EReal) (ε : EReal) cc x e = 0 := by
  unfold norm
  have hsq : ∀ k, x k * x k = 0 ∨ x k * x k = ⊤ := fun k => by
    rcases h k with e | e | e <;> rw [e] <;> simp
  by_cases hz : x e = 0
  · rw [hz, zero_mul, zero_mul]
  · have ht : x e * x e = ⊤ := by rcases h e with e' | e' | e' <;> [exact absurd e' hz; (rw [e']; simp); (rw [e']; simp)]
    have hsum : ∑ k, x k * x k = ⊤ := by
      refine le_antisymm le_top ?_
      rw [← ht]
      exact Finset.single_le_sum (f := fun k => x k * x k) (fun k _ => by rcases hsq k with e | e <;> simp [e])
        (Finset.mem_univ e)
    rw [hsum, Ideal.div_coe hn.ne', EReal.top_mul_coe_of_pos (by positivity), EReal.top_add_coe]
    show x e * 0 * cc = 0
    rw [mul_zero, zero_mul]

end Cert.AttnMath

end
-- ==== Proof.AttnHead.lean ====
/- What one block of the differential attention's output is: four row blocks, each of them the four heads' results side
   by side. One head's result is stated once, as a function of its 128 query columns. -/
module

public import proofs.«01_k».proof.Proof.AttnMath
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.AttnHead

open Cert.KernelIdeal Cert.KernelIdeal.Gen

variable {F : FTy → Type} [FloatOps F]

/-- The lane numbers of a row block. -/
def lanes : IVec S256x128 32 := iota .tc S256x128 32 [1] iota_S256x128_d1_w32

/-- A head's query rows twice over: with the upper half of the lanes zeroed, then with the lower half zeroed. -/
def twoHalves (q : FVec F S256x128 .f32) : FVec F S512x128 .bf16 :=
  truncf .bf16 (concatenate S512x128 0
    [⟨S256x128, select (cmpi .slt lanes (broadcast S256x128 64#32)) q (broadcast S256x128 (Scalar.ofBits .f32 0x00000000#32))⟩,
     ⟨S256x128, select (cmpi .sge lanes (broadcast S256x128 64#32)) q (broadcast S256x128 (Scalar.ofBits .f32 0x00000000#32))⟩]
    concatenates_S256x128_S256x128_S512x128_d0) bitsLt_bf16_f32

/-- The scores against the latent keys. -/
def scoreLat (qs : FVec F S512x128 .bf16) (k : Vec F S1x2048x128 .bf16) : FVec F S512x2048 .f32 :=
  matmul dot_S512x128_S2048x128_S512x2048_1_1_0_0_n_n none qs
    (shapeCast S2048x128 k shapeCasts_S1x2048x128_S2048x128) (constant S512x2048 .f32 0x00000000#32)

/-- The scores against the context keys. -/
def scoreCtx (qs : FVec F S512x128 .bf16) (k : Vec F S1x256x128 .bf16) : FVec F S512x256 .f32 :=
  matmul dot_S512x128_S256x128_S512x256_1_1_0_0_n_n none qs
    (shapeCast S256x128 k shapeCasts_S1x256x128_S256x128) (constant S512x256 .f32 0x00000000#32)

/-- The row maxima over both sources. -/
def rowMax (s : FVec F S512x2048 .f32) (sc : FVec F S512x256 .f32) : FVec F S512x1 .f32 :=
  maximumf (shapeCast S512x1 (multiReduction .maximumf [1] S512 s 0xFF800000#32 reduces_S512x2048_S512 (.inl rfl) rfl) shapeCasts_S512_S512x1)
    (shapeCast S512x1 (multiReduction .maximumf [1] S512 sc 0xFF800000#32 reduces_S512x256_S512 (.inl rfl) rfl) shapeCasts_S512_S512x1)

/-- The weighted sums of the values and, in the upper 128 columns, of the ones beside them. -/
def sums (m : FVec F S512x1 .f32) (s : FVec F S512x2048 .f32) (sc : FVec F S512x256 .f32)
    (v : Vec F S1x2048x256 .bf16) (vc : Vec F S1x256x256 .bf16) : FVec F S512x256 .f32 :=
  addf (addf (broadcast S512x256 (Scalar.ofBits .f32 0x00000000#32))
      (matmul dot_S512x2048_S2048x256_S512x256_1_0_0_1_n_n none
        (truncf .bf16 (exp2 (subf s (broadcastTo S512x2048 m broadcasts_S512x1_S512x2048))) bitsLt_bf16_f32)
        (shapeCast S2048x256 v shapeCasts_S1x2048x256_S2048x256) (constant S512x256 .f32 0x00000000#32)))
    (matmul dot_S512x256_S256x256_S512x256_1_0_0_1_n_n none
      (truncf .bf16 (exp2 (subf sc (broadcastTo S512x256 m broadcasts_S512x1_S512x256))) bitsLt_bf16_f32)
      (shapeCast S256x256 vc shapeCasts_S1x256x256_S256x256) (constant S512x256 .f32 0x00000000#32))

/-- The two components' quotients. -/
def quot (a : FVec F S512x256 .f32) : FVec F S512x128 .f32 :=
  divf (extractStridedSlice S512x128 ![0, 0] a slices_S512x256_o0_0_S512x128)
    (extractStridedSlice S512x128 ![0, 128] a slices_S512x256_o0_128_S512x128)

/-- The first component less the second one scaled. -/
def diff (lam : FVec F S1x1 .f32) (o : FVec F S512x128 .f32) : FVec F S256x128 .f32 :=
  subf (extractStridedSlice S256x128 ![0, 0] o slices_S512x128_o0_0_S256x128)
    (mulf (broadcastTo S256x128 lam broadcasts_S1x1_S256x128)
      (extractStridedSlice S256x128 ![256, 0] o slices_S512x128_o256_0_S256x128))

/-- The rows normalised and scaled. -/
def normed (x : FVec F S256x128 .f32) : FVec F S256x128 .f32 :=
  mulf (mulf x (broadcastTo S256x128
    (rsqrt (addf (divf (shapeCast S256x1 (multiReduction .add [1] S256 (mulf x x) 0x00000000#32 reduces_S256x128_S256 (.inl rfl) rfl) shapeCasts_S256_S256x1)
        (broadcast S256x1 (Scalar.ofBits .f32 0x43000000#32)))
      (broadcast S256x1 (Scalar.ofBits .f32 0x358637BD#32)))) broadcasts_S256x1_S256x128))
    (broadcast S256x128 (Scalar.ofBits .f32 0x3F24FD5C#32))

/-- One head: from the two sets of scores on. -/
def ofScores (lam : FVec F S1x1 .f32) (s : FVec F S512x2048 .f32) (sc : FVec F S512x256 .f32)
    (v : Vec F S1x2048x256 .bf16) (vc : Vec F S1x256x256 .bf16) : FVec F S256x128 .f32 :=
  normed (diff lam (quot (sums (rowMax s sc) s sc v vc)))

/-- One head's result from its query columns, keys and values. -/
def head (lam : FVec F S1x1 .f32) (q : FVec F S256x128 .f32) (k : Vec F S1x2048x128 .bf16) (kc : Vec F S1x256x128 .bf16)
    (v : Vec F S1x2048x256 .bf16) (vc : Vec F S1x256x256 .bf16) : FVec F S256x128 .f32 :=
  ofScores lam (scoreLat (twoHalves q) k) (scoreCtx (twoHalves q) kc) v vc

/-- A row block's queries. -/
def rows (q : Vec F S1x256x512 .bf16) : FVec F S256x512 .f32 :=
  extf .f32 (shapeCast S256x512 q shapeCasts_S1x256x512_S256x512) bitsLt_bf16_f32

/-- The four heads side by side. -/
def beside (h0 h1 h2 h3 : FVec F S256x128 .f32) : FVec F S1x256x512 .bf16 :=
  shapeCast S1x256x512 (truncf .bf16 (concatenate S256x512 1
    [⟨S256x128, h0⟩, ⟨S256x128, h1⟩, ⟨S256x128, h2⟩, ⟨S256x128, h3⟩]
    concatenates_S256x128_S256x128_S256x128_S256x128_S256x512_d1) bitsLt_bf16_f32) shapeCasts_S256x512_S1x256x512

/-- A row block's result. -/
def rowBlock (lam : FVec F S1x1 .f32) (q : Vec F S1x256x512 .bf16) (x2 : Vec F S1x2048x512 .bf16) (x3 : Vec F S1x256x512 .bf16)
    (x4 : Vec F S1x2048x1024 .bf16) (x5 : Vec F S1x256x1024 .bf16) : FVec F S1x256x512 .bf16 :=
  beside
    (head lam (extractStridedSlice S256x128 ![0, 0] (rows q) slices_S256x512_o0_0_S256x128)
      (View.ld x2 r0_2) (View.ld x3 r0_3) (View.ld x4 r0_4) (View.ld x5 r0_5))
    (head lam (extractStridedSlice S256x128 ![0, 128] (rows q) slices_S256x512_o0_128_S256x128)
      (View.ld x2 r0_6) (View.ld x3 r0_7) (View.ld x4 r0_8) (View.ld x5 r0_9))
    (head lam (extractStridedSlice S256x128 ![0, 256] (rows q) slices_S256x512_o0_256_S256x128)
      (View.ld x2 r0_10) (View.ld x3 r0_11) (View.ld x4 r0_12) (View.ld x5 r0_13))
    (head lam (extractStridedSlice S256x128 ![0, 384] (rows q) slices_S256x512_o0_384_S256x128)
      (View.ld x2 r0_14) (View.ld x3 r0_15) (View.ld x4 r0_16) (View.ld x5 r0_17))

/-- The block that a grid point stores is its four row blocks. -/
theorem out_eq (x0 : Vec F S4x64 .f32) (x1 : Vec F S1x1024x512 .bf16) (x2 : Vec F S1x2048x512 .bf16) (x3 : Vec F S1x256x512 .bf16) (x4 : Vec F S1x2048x1024 .bf16) (x5 : Vec F S1x256x1024 .bf16) :
    out0_6 x0 x1 x2 x3 x4 x5 = View.canon
      [⟨r0_20, rowBlock (k0_pay2 (View.ld x0 r0_0)) (View.ld x1 r0_20) x2 x3 x4 x5⟩,
       ⟨r0_19, rowBlock (k0_pay2 (View.ld x0 r0_0)) (View.ld x1 r0_19) x2 x3 x4 x5⟩,
       ⟨r0_18, rowBlock (k0_pay2 (View.ld x0 r0_0)) (View.ld x1 r0_18) x2 x3 x4 x5⟩,
       ⟨r0_1, rowBlock (k0_pay2 (View.ld x0 r0_0)) (View.ld x1 r0_1) x2 x3 x4 x5⟩] := rfl

end Cert.KernelIdeal.AttnHead

end
-- ==== Proof.AttnPoint.lean ====
/- One head's result, entry by entry, over the extended reals. -/
module

public import proofs.«01_k».proof.Proof.AttnHead

@[expose] public section

set_option maxRecDepth 16384

noncomputable section

open Idealize.ShloMosaic Idealize.ShloMosaic.TcCoe Idealize.SL.Sem
open Idealize.ShloMosaic.Pipeline (Dat)

namespace Cert.KernelIdeal.AttnPoint

open Cert.KernelIdeal Cert.KernelIdeal.Gen Cert.KernelIdeal.AttnHead

/-- Row `i` of component `c` in a stack of two row blocks. -/
def row (c : Fin 2) (i : Fin 256) : Fin 512 := ⟨c * 256 + i, by omega⟩

/-- Lane `d` of component `c`. -/
def lane (c : Fin 2) (d : Fin 64) : Fin 128 := ⟨c * 64 + d, by omega⟩

/-- A stack row's lanes outside its component are zero. -/
theorem twoHalves_at (q : FVec Ideal S256x128 .f32) (c : Fin 2) (i : Fin 256) (l : Fin 128) :
    twoHalves (F := Ideal) q (ix2 (row c i) l : S512x128.Idx) = if (l : ℕ) / 64 = c then q (ix2 i l) else 0 := by
  unfold row
  pointwise [twoHalves, lanes]
  have hl := l.isLt
  have hi := i.isLt
  have e1 : IntOp.cmpi CmpIPredicate.slt (BitVec.ofNat 32 (l : ℕ)) 64#32 = BitVec.ofBool (decide ((l : ℕ) < 64)) := by
    revert l; decide
  have e2 : IntOp.cmpi CmpIPredicate.sge (BitVec.ofNat 32 (l : ℕ)) 64#32 = BitVec.ofBool (decide (64 ≤ (l : ℕ))) := by
    revert l; decide
  rw [e1, e2]
  rcases (by omega : (c : ℕ) = 0 ∨ (c : ℕ) = 1) with hc | hc
  · rw [dif_pos (by omega)]
    have hq : (⟨(c : ℕ) * 256 + i, by omega⟩ : Fin 256) = i := Fin.ext (by simp [hc])
    rw [hq]
    by_cases h : (l : ℕ) < 64
    · rw [if_pos (by omega)]; simp [h, Scalar.select]
    · rw [if_neg (by omega)]; simp [h, Scalar.select]
  · rw [dif_neg (by omega)]
    have hq : (⟨(c : ℕ) * 256 + i - 256, by omega⟩ : Fin 256) = i := Fin.ext (by simp [hc])
    rw [hq]
    by_cases h : 64 ≤ (l : ℕ)
    · rw [if_pos (by omega)]; simp [h, Scalar.select]
    · rw [if_neg (by omega)]; simp [h, Scalar.select]

/-- The word of minus infinity. -/
theorem ofBits_negInf : Ideal.ofBits FTy.f32 0xFF800000#32 = ⊥ := by
  simp [Ideal.ofBits, Ideal.ieee]

/-- The larger of the two sources' row maxima. -/
theorem rowMax_at (s : FVec Ideal S512x2048 .f32) (sc : FVec Ideal S512x256 .f32) (r : Fin 512) :
    rowMax (F := Ideal) s sc (ix2 r 0 : S512x1.Idx)
      = max (Finset.univ.fold max (⊥ : EReal) fun j : Fin 2048 => s (ix2 r j))
          (Finset.univ.fold max (⊥ : EReal) fun j : Fin 256 => sc (ix2 r j)) := by
  pointwise [rowMax]
  rw [ofBits_negInf]

/-- The weighted sums at a row and column. -/
theorem sums_at (m : FVec Ideal S512x1 .f32) (s : FVec Ideal S512x2048 .f32) (sc : FVec Ideal S512x256 .f32)
    (v : Vec Ideal S1x2048x256 .bf16) (vc : Vec Ideal S1x256x256 .bf16) (r : Fin 512) (e : Fin 256) :
    sums (F := Ideal) m s sc v vc (ix2 r e : S512x256.Idx)
      = (∑ j : Fin 2048, Ideal.exp2 (s (ix2 r j) - m (ix2 r 0)) * v (ix3 0 j e))
        + ∑ j : Fin 256, Ideal.exp2 (sc (ix2 r j) - m (ix2 r 0)) * vc (ix3 0 j e) := by
  pointwise [sums]
  rfl

/-- The difference of the quotients at a row and column. -/
theorem diffquot_at (lam : FVec Ideal S1x1 .f32) (a : FVec Ideal S512x256 .f32) (i : Fin 256) (e : Fin 128) :
    diff (F := Ideal) lam (quot a) (ix2 i e : S256x128.Idx)
      = Ideal.div (a (ix2 (row 0 i) ⟨e, by omega⟩)) (a (ix2 (row 0 i) ⟨128 + e, by omega⟩))
        - lam (ix2 0 0) * Ideal.div (a (ix2 (row 1 i) ⟨e, by omega⟩)) (a (ix2 (row 1 i) ⟨128 + e, by omega⟩)) := by
  pointwise [diff, quot, row]

/-- The normalised rows at a row and column. -/
theorem normed_at (x : FVec Ideal S256x128 .f32) (i : Fin 256) (e : Fin 128) :
    normed (F := Ideal) x (ix2 i e : S256x128.Idx)
      = AttnMath.norm (Ideal.ofBits .f32 0x43000000#32) (Ideal.ofBits .f32 0x358637BD#32) (Ideal.ofBits .f32 0x3F24FD5C#32)
          (fun e => x (ix2 i e)) e := by
  pointwise [normed, AttnMath.norm]

/-- The factor of the second component. -/
theorem lam_at (v : Vec Ideal S4x64 .f32) :
    k0_pay2 (F := Ideal) v (ix2 0 0 : S1x1.Idx)
      = Ideal.exp (∑ d : Fin 64, v (ix2 0 d) * v (ix2 1 d)) - Ideal.exp (∑ d : Fin 64, v (ix2 2 d) * v (ix2 3 d))
        + Ideal.ofBits .f32 0x3EB60549#32 := by
  pointwise [k0_pay2]

/-- A score against a latent key. -/
theorem scoreLat_at (qs : FVec Ideal S512x128 .bf16) (k : Vec Ideal S1x2048x128 .bf16) (r : Fin 512) (j : Fin 2048) :
    scoreLat (F := Ideal) qs k (ix2 r j : S512x2048.Idx) = ∑ l : Fin 128, qs (ix2 r l) * k (ix3 0 j l) := by
  pointwise [scoreLat]

/-- A score against a context key. -/
theorem scoreCtx_at (qs : FVec Ideal S512x128 .bf16) (k : Vec Ideal S1x256x128 .bf16) (r : Fin 512) (j : Fin 256) :
    scoreCtx (F := Ideal) qs k (ix2 r j : S512x256.Idx) = ∑ l : Fin 128, qs (ix2 r l) * k (ix3 0 j l) := by
  pointwise [scoreCtx]

/-- A sum over the lanes of products that vanish outside component `c` is a sum over the component's lanes. -/
theorem sum_lanes (c : Fin 2) (f g : Fin 128 → EReal) :
    (∑ l : Fin 128, (if (l : ℕ) / 64 = c then f l else 0) * g l) = ∑ d : Fin 64, f (lane c d) * g (lane c d) := by
  have h := Fin.sum_univ_tiles 2 64 rfl (fun l : Fin 128 => (if (l : ℕ) / 64 = c then f l else 0) * g l)
  rw [h, Finset.sum_eq_single c]
  · refine Finset.sum_congr rfl fun d _ => ?_
    rw [if_pos (by simp only; omega)]; rfl
  · intro c' _ hc
    refine Finset.sum_eq_zero fun d _ => ?_
    rw [if_neg (by simp only; intro h; exact hc (Fin.ext (by omega))), zero_mul]
  · intro h; exact absurd (Finset.mem_univ c) h

/-- One entry of a head's result, in terms of the two components' scores `s` (latent keys) and `s'` (context keys). -/
def entry (lam : EReal) (s : Fin 2 → Fin 2048 → EReal) (s' : Fin 2 → Fin 256 → EReal)
    (v : Fin 2048 → Fin 256 → EReal) (v' : Fin 256 → Fin 256 → EReal) : Fin 128 → EReal :=
  let m := fun c => max (Finset.univ.fold max (⊥ : EReal) (s c)) (Finset.univ.fold max (⊥ : EReal) (s' c))
  let a := fun c e => (∑ j, Ideal.exp2 (s c j - m c) * v j e) + ∑ j, Ideal.exp2 (s' c j - m c) * v' j e
  AttnMath.norm (Ideal.ofBits .f32 0x43000000#32) (Ideal.ofBits .f32 0x358637BD#32) (Ideal.ofBits .f32 0x3F24FD5C#32)
    fun e => Ideal.div (a 0 ⟨e, by omega⟩) (a 0 ⟨128 + e, by omega⟩)
      - lam * Ideal.div (a 1 ⟨e, by omega⟩) (a 1 ⟨128 + e, by omega⟩)

/-- A head's result, entry by entry. -/
theorem head_at (lam : FVec Ideal S1x1 .f32) (q : FVec Ideal S256x128 .f32) (k : Vec Ideal S1x2048x128 .bf16)
    (kc : Vec Ideal S1x256x128 .bf16) (v : Vec Ideal S1x2048x256 .bf16) (vc : Vec Ideal S1x256x256 .bf16)
    (i : Fin 256) (e : Fin 128) :
    head (F := Ideal) lam q k kc v vc (ix2 i e : S256x128.Idx)
      = entry (lam (ix2 0 0)) (fun c j => ∑ d : Fin 64, q (ix2 i (lane c d)) * k (ix3 0 j (lane c d)))
          (fun c j => ∑ d : Fin 64, q (ix2 i (lane c d)) * kc (ix3 0 j (lane c d)))
          (fun j e => v (ix3 0 j e)) (fun j e => vc (ix3 0 j e)) e := by
  have hs : ∀ c j, scoreLat (F := Ideal) (twoHalves q) k (ix2 (row c i) j : S512x2048.Idx)
      = ∑ d : Fin 64, q (ix2 i (lane c d)) * k (ix3 0 j (lane c d)) := fun c j => by
    rw [scoreLat_at]
    simp only [twoHalves_at]
    exact sum_lanes c (fun l => q (ix2 i l)) (fun l => k (ix3 0 j l))
  have hc : ∀ c j, scoreCtx (F := Ideal) (twoHalves q) kc (ix2 (row c i) j : S512x256.Idx)
      = ∑ d : Fin 64, q (ix2 i (lane c d)) * kc (ix3 0 j (lane c d)) := fun c j => by
    rw [scoreCtx_at]
    simp only [twoHalves_at]
    exact sum_lanes c (fun l => q (ix2 i l)) (fun l => kc (ix3 0 j l))
  unfold head ofScores
  rw [normed_at]
  unfold entry
  congr 1
  funext e
  rw [diffquot_at]
  simp only [sums_at, rowMax_at, hs, hc]

end Cert.KernelIdeal.AttnPoint

end
-- ==== Proof.AttnBlock.lean ====
/- The block that a grid point of the attention stores, entry by entry, over the extended reals. -/
module

public import proofs.«01_k».proof.Proof.AttnPoint

@[expose] public section

set_option maxRecDepth 16384

noncomputable section

open Idealize.ShloMosaic Idealize.ShloMosaic.TcCoe Idealize.SL.Sem
open Idealize.ShloMosaic.Pipeline (Dat)

namespace Cert.KernelIdeal.AttnBlock

open Cert.KernelIdeal Cert.KernelIdeal.Gen Cert.KernelIdeal.AttnHead Cert.KernelIdeal.AttnPoint

/-- Lane `d` of component `c` of head `n`, among a row's 512 columns. -/
def col (n : Fin 4) (c : Fin 2) (d : Fin 64) : Fin 512 := ⟨n * 128 + c * 64 + d, by omega⟩

/-- Column `e` of head `n`'s packed values. -/
def vcol (n : Fin 4) (e : Fin 256) : Fin 1024 := ⟨n * 256 + e, by omega⟩

/-- Column `e` of head `n`'s result. -/
def ocol (n : Fin 4) (e : Fin 128) : Fin 512 := ⟨n * 128 + e, by omega⟩

/-- One entry of the attention's result from a row of queries and the keys and values beside it. -/
def blockEntry (lam : EReal) (q : Fin 512 → EReal) (k : Fin 2048 → Fin 512 → EReal) (kc : Fin 256 → Fin 512 → EReal)
    (v : Fin 2048 → Fin 1024 → EReal) (vc : Fin 256 → Fin 1024 → EReal) (n : Fin 4) : Fin 128 → EReal :=
  entry lam (fun c j => ∑ d : Fin 64, q (col n c d) * k j (col n c d))
    (fun c j => ∑ d : Fin 64, q (col n c d) * kc j (col n c d))
    (fun j e => v j (vcol n e)) (fun j e => vc j (vcol n e))

/-- Four heads side by side, read at a column. -/
theorem beside_at (h : Fin 4 → FVec Ideal S256x128 .f32) (i : Fin 256) (n : Fin 4) (e : Fin 128) :
    beside (F := Ideal) (h 0) (h 1) (h 2) (h 3) (ix3 0 i (ocol n e) : S1x256x512.Idx) = h n (ix2 i e) := by
  fin_cases n <;> pointwise [beside, ocol] <;> split_ifs <;> first | omega | blk_ext

/-- A head over its columns of the row block. -/
theorem head_of {lam : FVec Ideal S1x1 .f32} {q : FVec Ideal S256x128 .f32} {k : Vec Ideal S1x2048x128 .bf16}
    {kc : Vec Ideal S1x256x128 .bf16} {v : Vec Ideal S1x2048x256 .bf16} {vc : Vec Ideal S1x256x256 .bf16}
    (x1 : Vec Ideal S1x256x512 .bf16) (x2 : Vec Ideal S1x2048x512 .bf16) (x3 : Vec Ideal S1x256x512 .bf16)
    (x4 : Vec Ideal S1x2048x1024 .bf16) (x5 : Vec Ideal S1x256x1024 .bf16) (n : Fin 4) (i : Fin 256) (e : Fin 128)
    (hq : ∀ l : Fin 128, q (ix2 i l) = x1 (ix3 0 i (ocol n l)))
    (hk : ∀ j (l : Fin 128), k (ix3 0 j l) = x2 (ix3 0 j (ocol n l)))
    (hkc : ∀ j (l : Fin 128), kc (ix3 0 j l) = x3 (ix3 0 j (ocol n l)))
    (hv : ∀ j (l : Fin 256), v (ix3 0 j l) = x4 (ix3 0 j (vcol n l)))
    (hvc : ∀ j (l : Fin 256), vc (ix3 0 j l) = x5 (ix3 0 j (vcol n l))) :
    head (F := Ideal) lam q k kc v vc (ix2 i e : S256x128.Idx)
      = blockEntry (lam (ix2 0 0)) (fun z => x1 (ix3 0 i z)) (fun j z => x2 (ix3 0 j z)) (fun j z => x3 (ix3 0 j z))
          (fun j z => x4 (ix3 0 j z)) (fun j z => x5 (ix3 0 j z)) n e := by
  have ho : ∀ (c : Fin 2) (d : Fin 64), ocol n (lane c d) = col n c d := fun c d => Fin.ext (by simp [ocol, lane, col]; omega)
  rw [head_at]
  simp only [hq, hk, hkc, hv, hvc, ho]
  rfl

/-- A row block, entry by entry. -/
theorem rowBlock_at (lam : FVec Ideal S1x1 .f32) (x1 : Vec Ideal S1x256x512 .bf16) (x2 : Vec Ideal S1x2048x512 .bf16)
    (x3 : Vec Ideal S1x256x512 .bf16) (x4 : Vec Ideal S1x2048x1024 .bf16) (x5 : Vec Ideal S1x256x1024 .bf16)
    (i : Fin 256) (n : Fin 4) (e : Fin 128) :
    rowBlock (F := Ideal) lam x1 x2 x3 x4 x5 (ix3 0 i (ocol n e) : S1x256x512.Idx)
      = blockEntry (lam (ix2 0 0)) (fun z => x1 (ix3 0 i z)) (fun j z => x2 (ix3 0 j z)) (fun j z => x3 (ix3 0 j z))
          (fun j z => x4 (ix3 0 j z)) (fun j z => x5 (ix3 0 j z)) n e := by
  unfold rowBlock
  refine (beside_at ![_, _, _, _] i n e).trans ?_
  fin_cases n
  · refine head_of x1 x2 x3 x4 x5 0 i e ?_ ?_ ?_ ?_ ?_ <;> intros <;> pointwise [rows, ocol, vcol]
  · refine head_of x1 x2 x3 x4 x5 1 i e ?_ ?_ ?_ ?_ ?_ <;> intros <;> pointwise [rows, ocol, vcol]
  · refine head_of x1 x2 x3 x4 x5 2 i e ?_ ?_ ?_ ?_ ?_ <;> intros <;> pointwise [rows, ocol, vcol]
  · refine head_of x1 x2 x3 x4 x5 3 i e ?_ ?_ ?_ ?_ ?_ <;> intros <;> pointwise [rows, ocol, vcol]

/-- The block a grid point stores, entry by entry. -/
theorem out_at (x0 : Vec Ideal S4x64 .f32) (x1 : Vec Ideal S1x1024x512 .bf16) (x2 : Vec Ideal S1x2048x512 .bf16)
    (x3 : Vec Ideal S1x256x512 .bf16) (x4 : Vec Ideal S1x2048x1024 .bf16) (x5 : Vec Ideal S1x256x1024 .bf16)
    (r : Fin 1024) (n : Fin 4) (e : Fin 128) :
    out0_6 (F := Ideal) x0 x1 x2 x3 x4 x5 (ix3 0 r (ocol n e) : S1x1024x512.Idx)
      = blockEntry (k0_pay2 (F := Ideal) x0 (ix2 0 0)) (fun z => x1 (ix3 0 r z)) (fun j z => x2 (ix3 0 j z))
          (fun j z => x3 (ix3 0 j z)) (fun j z => x4 (ix3 0 j z)) (fun j z => x5 (ix3 0 j z)) n e := by
  rw [out_eq]
  canon_tiles x h
  all_goals
    obtain ⟨a, i, z, rfl⟩ : ∃ (a : Fin 1) (i : Fin 256) (z : Fin 512), x = ix3 a i z :=
      ⟨x 0, x 1, x 2, by funext k; match k with | ⟨0, _⟩ => rfl | ⟨1, _⟩ => rfl | ⟨2, _⟩ => rfl⟩
    obtain rfl : a = 0 := Subsingleton.elim _ _
    obtain rfl : z = ocol n e := Fin.ext h2.symm
    rw [rowBlock_at]
    congr 1
    · pointwise [k0_pay2]
    · funext z
      pointwise
      blk_ext
      exact h1.symm

end Cert.KernelIdeal.AttnBlock

end
-- ==== Proof.AttnArray.lean ====
/- The array that the attention leaves, entry by entry, in terms of its arguments. -/
module

public import proofs.«01_k».proof.Proof.AttnBlock
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.AttnArray

open Cert.KernelIdeal Cert.KernelIdeal.Gen Cert.KernelIdeal.AttnHead Cert.KernelIdeal.AttnPoint Cert.KernelIdeal.AttnBlock

/-- The factor the queries are multiplied with. -/
def qscale : EReal := Ideal.div (Ideal.ofBits .f32 0x3E000000#32) (Ideal.log (Ideal.ofBits .f32 0x40000000#32))

/-- Packed values: the values of a head and, beside them, as many ones. -/
def packed {n : ℕ} (v : Fin n → Fin 128 → EReal) (j : Fin n) (e : Fin 256) : EReal :=
  if h : (e : ℕ) < 128 then v j ⟨e, h⟩ else 1

/-- One entry of the attention's result, in terms of the arguments. -/
def value (x0 x1 : FVec Ideal S8x2048x4x2x64 .f32) (x2 : FVec Ideal S8x256x4x2x64 .f32)
    (x3 : FVec Ideal S8x2048x4x128 .f32) (x4 : FVec Ideal S8x256x4x128 .f32) (x5 : FVec Ideal S4x64 .f32)
    (b : Fin 8) (r : Fin 2048) (n : Fin 4) : Fin 128 → EReal :=
  entry (k0_pay2 (F := Ideal) x5 (ix2 0 0))
    (fun c j => ∑ d : Fin 64, x0 (ix5 b r n c d) * qscale * x1 (ix5 b j n c d))
    (fun c j => ∑ d : Fin 64, x0 (ix5 b r n c d) * qscale * x2 (ix5 b j n c d))
    (packed fun j e => x3 (ix4 b j n e)) (packed fun j e => x4 (ix4 b j n e))

theorem value_congr (x0 x1 : FVec Ideal S8x2048x4x2x64 .f32) (x2 : FVec Ideal S8x256x4x2x64 .f32)
    (x3 : FVec Ideal S8x2048x4x128 .f32) (x4 : FVec Ideal S8x256x4x128 .f32) (x5 : FVec Ideal S4x64 .f32)
    (b : Fin 8) (r : Fin 2048) {n n' : Fin 4} {e e' : Fin 128} (hn : n = n') (he : e = e') :
    value x0 x1 x2 x3 x4 x5 b r n e = value x0 x1 x2 x3 x4 x5 b r n' e' := by rw [hn, he]

variable (m : (ℓ : Loc nD τ sig) → Buf (Elt Ideal) ℓ) (c : Dev nD)

theorem idx : ∀ t : Fin cfg0.N, win0_0.index t = ![0, 0] ∧ win0_1.index t = ![t.val / 2, t.val % 2, 0]
    ∧ win0_2.index t = ![t.val / 2, 0, 0] ∧ win0_3.index t = ![t.val / 2, 0, 0] ∧ win0_4.index t = ![t.val / 2, 0, 0]
    ∧ win0_5.index t = ![t.val / 2, 0, 0] ∧ win0_6.index t = ![t.val / 2, t.val % 2, 0] :=
  (by decide +kernel : ∀ t : Fin grid0.N, _)

theorem q_at (b : Fin 8) (r : Fin 2048) (n : Fin 4) (k : Fin 2) (d : Fin 64) :
    (show FVec Ideal S8x2048x512 .bf16 from V m c main_v5) (ix3 b r (col n k d))
      = (show FVec Ideal S8x2048x4x2x64 .f32 from m ((c : Thread nD τ).loc main_arg0)) (ix5 b r n k d) * qscale := by
  entry_read
  pointwise [col, qscale]
  blk_point []

theorem k_at (b : Fin 8) (r : Fin 2048) (n : Fin 4) (k : Fin 2) (d : Fin 64) :
    (show FVec Ideal S8x2048x512 .bf16 from V m c main_v7) (ix3 b r (col n k d))
      = (show FVec Ideal S8x2048x4x2x64 .f32 from m ((c : Thread nD τ).loc main_arg1)) (ix5 b r n k d) := by
  entry_read
  pointwise [col]
  blk_ext

theorem kc_at (b : Fin 8) (r : Fin 256) (n : Fin 4) (k : Fin 2) (d : Fin 64) :
    (show FVec Ideal S8x256x512 .bf16 from V m c main_v9) (ix3 b r (col n k d))
      = (show FVec Ideal S8x256x4x2x64 .f32 from m ((c : Thread nD τ).loc main_arg2)) (ix5 b r n k d) := by
  entry_read
  pointwise [col]
  blk_ext

theorem v_at (b : Fin 8) (r : Fin 2048) (n : Fin 4) (e : Fin 256) :
    (show FVec Ideal S8x2048x1024 .bf16 from V m c main_v13) (ix3 b r (vcol n e))
      = packed (fun j e => (show FVec Ideal S8x2048x4x128 .f32 from m ((c : Thread nD τ).loc main_arg3)) (ix4 b j n e)) r e := by
  entry_read
  pointwise [vcol, packed]
  have e1 : ((n : ℕ) * 256 + e) % 256 = e := by omega
  by_cases he : (e : ℕ) < 128
  · rw [dif_pos (by omega), dif_pos he]; blk_ext
  · rw [dif_neg (by omega), dif_neg he]

theorem vc_at (b : Fin 8) (r : Fin 256) (n : Fin 4) (e : Fin 256) :
    (show FVec Ideal S8x256x1024 .bf16 from V m c main_v17) (ix3 b r (vcol n e))
      = packed (fun j e => (show FVec Ideal S8x256x4x128 .f32 from m ((c : Thread nD τ).loc main_arg4)) (ix4 b j n e)) r e := by
  entry_read
  pointwise [vcol, packed]
  have e1 : ((n : ℕ) * 256 + e) % 256 = e := by omega
  by_cases he : (e : ℕ) < 128
  · rw [dif_pos (by omega), dif_pos he]; blk_ext
  · rw [dif_neg (by omega), dif_neg he]

/-- The attention's array, entry by entry. -/
def result : FVec Ideal S8x2048x512 .bf16 := fun i =>
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (i 1) ⟨(i 2 : ℕ) / 128, by have h : (i 2 : ℕ) < 512 := (i 2).isLt; omega⟩ ⟨(i 2 : ℕ) % 128, by omega⟩

/-- The batch row of a grid point. -/
def bat (t : Fin cfg0.N) : Fin 8 := ⟨t.val / 2, by have h : t.val < 16 := lt_of_lt_of_eq t.isLt N_0; omega⟩

/-- The row of a grid point's tile. -/
def tok (t : Fin cfg0.N) (r : Fin 1024) : Fin 2048 := ⟨t.val % 2 * 1024 + r, by omega⟩

theorem blk0 (t : Fin cfg0.N) : (iblk m c 0 t : Vec Ideal S4x64 .f32) = m ((c : Thread nD τ).loc main_arg5) := by
  funext i
  have e : ((cfg0.win 0).blk t).view.emb i = i := by blk_ext [idx t]
  exact (congrArg (V m c main_arg5) e).trans (congrFun (V_main_arg5 m c) i)

theorem emb1 (t : Fin cfg0.N) (r : Fin 1024) (z : Fin 512) :
    ((cfg0.win 1).blk t).view.emb (ix3 0 r z) = (ix3 (bat t) (tok t r) z : S8x2048x512.Idx) := by
  unfold bat tok
  blk_ext [idx t]

theorem blk1 (t : Fin cfg0.N) (r : Fin 1024) (z : Fin 512) : (iblk m c 1 t : Vec Ideal S1x1024x512 .bf16) (ix3 0 r z)
    = (show FVec Ideal S8x2048x512 .bf16 from V m c main_v5) (ix3 (bat t) (tok t r) z) := by
  have key : ∀ X : (b : Ref sig .tc) → Buf (Elt Ideal) ((c : Thread nD τ).loc b),
      ((cfg0.win 1).blk t).view.read (Elt Ideal) (X (Pipeline.arrRef spec0 1)) (ix3 0 r z) = X main_v5 (ix3 (bat t) (tok t r) z) :=
    fun X => congrArg (X main_v5) (emb1 t r z)
  exact key (V m c)

theorem emb2 (t : Fin cfg0.N) (r : Fin 2048) (z : Fin 512) :
    ((cfg0.win 2).blk t).view.emb (ix3 0 r z) = (ix3 (bat t) (r) z : S8x2048x512.Idx) := by
  unfold bat
  blk_ext [idx t]

theorem blk2 (t : Fin cfg0.N) (r : Fin 2048) (z : Fin 512) : (iblk m c 2 t : Vec Ideal S1x2048x512 .bf16) (ix3 0 r z)
    = (show FVec Ideal S8x2048x512 .bf16 from V m c main_v7) (ix3 (bat t) (r) z) := by
  have key : ∀ X : (b : Ref sig .tc) → Buf (Elt Ideal) ((c : Thread nD τ).loc b),
      ((cfg0.win 2).blk t).view.read (Elt Ideal) (X (Pipeline.arrRef spec0 2)) (ix3 0 r z) = X main_v7 (ix3 (bat t) (r) z) :=
    fun X => congrArg (X main_v7) (emb2 t r z)
  exact key (V m c)

theorem emb3 (t : Fin cfg0.N) (r : Fin 256) (z : Fin 512) :
    ((cfg0.win 3).blk t).view.emb (ix3 0 r z) = (ix3 (bat t) (r) z : S8x256x512.Idx) := by
  unfold bat
  blk_ext [idx t]

theorem blk3 (t : Fin cfg0.N) (r : Fin 256) (z : Fin 512) : (iblk m c 3 t : Vec Ideal S1x256x512 .bf16) (ix3 0 r z)
    = (show FVec Ideal S8x256x512 .bf16 from V m c main_v9) (ix3 (bat t) (r) z) := by
  have key : ∀ X : (b : Ref sig .tc) → Buf (Elt Ideal) ((c : Thread nD τ).loc b),
      ((cfg0.win 3).blk t).view.read (Elt Ideal) (X (Pipeline.arrRef spec0 3)) (ix3 0 r z) = X main_v9 (ix3 (bat t) (r) z) :=
    fun X => congrArg (X main_v9) (emb3 t r z)
  exact key (V m c)

theorem emb4 (t : Fin cfg0.N) (r : Fin 2048) (z : Fin 1024) :
    ((cfg0.win 4).blk t).view.emb (ix3 0 r z) = (ix3 (bat t) (r) z : S8x2048x1024.Idx) := by
  unfold bat
  blk_ext [idx t]

theorem blk4 (t : Fin cfg0.N) (r : Fin 2048) (z : Fin 1024) : (iblk m c 4 t : Vec Ideal S1x2048x1024 .bf16) (ix3 0 r z)
    = (show FVec Ideal S8x2048x1024 .bf16 from V m c main_v13) (ix3 (bat t) (r) z) := by
  have key : ∀ X : (b : Ref sig .tc) → Buf (Elt Ideal) ((c : Thread nD τ).loc b),
      ((cfg0.win 4).blk t).view.read (Elt Ideal) (X (Pipeline.arrRef spec0 4)) (ix3 0 r z) = X main_v13 (ix3 (bat t) (r) z) :=
    fun X => congrArg (X main_v13) (emb4 t r z)
  exact key (V m c)

theorem emb5 (t : Fin cfg0.N) (r : Fin 256) (z : Fin 1024) :
    ((cfg0.win 5).blk t).view.emb (ix3 0 r z) = (ix3 (bat t) (r) z : S8x256x1024.Idx) := by
  unfold bat
  blk_ext [idx t]

theorem blk5 (t : Fin cfg0.N) (r : Fin 256) (z : Fin 1024) : (iblk m c 5 t : Vec Ideal S1x256x1024 .bf16) (ix3 0 r z)
    = (show FVec Ideal S8x256x1024 .bf16 from V m c main_v17) (ix3 (bat t) (r) z) := by
  have key : ∀ X : (b : Ref sig .tc) → Buf (Elt Ideal) ((c : Thread nD τ).loc b),
      ((cfg0.win 5).blk t).view.read (Elt Ideal) (X (Pipeline.arrRef spec0 5)) (ix3 0 r z) = X main_v17 (ix3 (bat t) (r) z) :=
    fun X => congrArg (X main_v17) (emb5 t r z)
  exact key (V m c)

theorem emb6 (t : Fin cfg0.N) (r : Fin 1024) (z : Fin 512) :
    ((cfg0.win 6).blk t).view.emb (ix3 0 r z) = (ix3 (bat t) (tok t r) z : S8x2048x512.Idx) := by
  unfold bat tok
  blk_ext [idx t]

theorem result_at (b : Fin 8) (r : Fin 2048) (n : Fin 4) (e : Fin 128) :
    result m c (ix3 b r (ocol n e) : S8x2048x512.Idx)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b r n e := by
  have hn : ∀ h, (⟨((ocol n e : Fin 512) : ℕ) / 128, h⟩ : Fin 4) = n := fun h => Fin.ext (by simp only [ocol]; omega)
  have he : ∀ h, (⟨((ocol n e : Fin 512) : ℕ) % 128, h⟩ : Fin 128) = e := fun h => Fin.ext (by simp only [ocol]; omega)
  unfold result
  exact value_congr _ _ _ _ _ _ _ _ (hn _) (he _)

/-- What grid point `t` stores at a row and column is the array's entry there. -/
theorem point_at (t : Fin cfg0.N) (r : Fin 1024) (n : Fin 4) (e : Fin 128) :
    out0_6 (F := Ideal) (iblk m c 0 t) (iblk m c 1 t) (iblk m c 2 t) (iblk m c 3 t) (iblk m c 4 t) (iblk m c 5 t)
        (ix3 0 r (ocol n e) : S1x1024x512.Idx)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (bat t) (tok t r) n e := by
  refine (out_at _ _ _ _ _ _ r n e).trans ?_
  unfold blockEntry value
  have h1 := fun k d => (blk1 m c t r (col n k d)).trans (q_at m c (bat t) (tok t r) n k d)
  have h2 := fun j k d => (blk2 m c t j (col n k d)).trans (k_at m c (bat t) j n k d)
  have h3 := fun j k d => (blk3 m c t j (col n k d)).trans (kc_at m c (bat t) j n k d)
  have h4 := fun j e => (blk4 m c t j (vcol n e)).trans (v_at m c (bat t) j n e)
  have h5 := fun j e => (blk5 m c t j (vcol n e)).trans (vc_at m c (bat t) j n e)
  rw [blk0]
  simp only [h1, h2, h3, h4, h5]

/-- What grid point `t` stores at `y` is the array's entry there. -/
theorem point (t : Fin cfg0.N) (y : S1x1024x512.Idx) :
    out0_6 (F := Ideal) (iblk m c 0 t) (iblk m c 1 t) (iblk m c 2 t) (iblk m c 3 t) (iblk m c 4 t) (iblk m c 5 t) y
      = result m c (((cfg0.win 6).blk t).view.emb y) := by
  obtain ⟨a, r, z, rfl⟩ : ∃ (a : Fin 1) (r : Fin 1024) (z : Fin 512), y = ix3 a r z :=
    ⟨y 0, y 1, y 2, by funext k; match k with | ⟨0, _⟩ => rfl | ⟨1, _⟩ => rfl | ⟨2, _⟩ => rfl⟩
  obtain rfl : a = 0 := Subsingleton.elim _ _
  obtain ⟨n, e, rfl⟩ : ∃ (n : Fin 4) (e : Fin 128), z = ocol n e :=
    ⟨⟨z / 128, by omega⟩, ⟨z % 128, by omega⟩, Fin.ext (by simp only [ocol]; omega)⟩
  rw [emb6, result_at]
  exact point_at m c t r n e

/-- After the run the result array is `result`. -/
theorem final : (dats m 0 c).arrAt 6 (cfgs 0).N = result m c := by
  refine (dats m 0 c).arrAt_eq_of_covers 6 _ (by decide +kernel) fun t _ y => ?_
  blk_simp
  rw [after0_6]
  exact point m c t y

end Cert.KernelIdeal.AttnArray

end
-- ==== Proof.AttnRef.lean ====
/- The reference's differential attention, entry by entry, over the extended reals. -/
module

public import proofs.«01_k».proof.Proof.AttnMath
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.AttnRef

open Cert.ReferenceIdeal Cert.ReferenceIdeal.Gen Cert.ReferenceIdeal.Read

variable (x0 x1 : FVec Ideal S8x2048x4x2x64 .f32) (x2 : FVec Ideal S8x256x4x2x64 .f32)
  (x3 : FVec Ideal S8x2048x4x128 .f32) (x4 : FVec Ideal S8x256x4x128 .f32) (x5 : FVec Ideal S4x64 .f32)

theorem ofBits_negInf : Ideal.ofBits .f32 0xFF800000#32 = (⊥ : EReal) := by
  simp [Ideal.ofBits, Ideal.ieee]

/-- The keys of both sources, one after the other. -/
def keys (b : Fin 8) (h : Fin 4) (c : Fin 2) (j : Fin 2304) (d : Fin 64) : EReal :=
  if hj : (j : ℕ) < 2048 then x1 (ix5 b ⟨j, hj⟩ h c d) else x2 (ix5 b ⟨j - 2048, by omega⟩ h c d)

/-- The values of both sources, one after the other. -/
def vals (b : Fin 8) (h : Fin 4) (j : Fin 2304) (e : Fin 128) : EReal :=
  if hj : (j : ℕ) < 2048 then x3 (ix4 b ⟨j, hj⟩ h e) else x4 (ix4 b ⟨j - 2048, by omega⟩ h e)

/-- The products of a query with the keys. -/
def prods (b : Fin 8) (h : Fin 4) (c : Fin 2) (q : Fin 2048) (j : Fin 2304) : EReal :=
  ∑ d : Fin 64, x0 (ix5 b q h c d) * keys x1 x2 b h c j d

/-- The scores. -/
theorem scores_at (b : Fin 8) (h : Fin 4) (c : Fin 2) (q : Fin 2048) (j : Fin 2304) :
    val_main_v20 (F := Ideal) x0 x1 x2 (ix5 b h c q j : S8x4x2x2048x2304.Idx)
      = prods x0 x1 x2 b h c q j * Ideal.ofBits .f32 0x3E000000#32 := by
  pointwise [val_main_v20, val_main_v19, val_main_cst_2, val_main_v18, val_main_v16, prods, keys]

theorem max_at (s : FVec Ideal S8x4x2x2048x2304 .f32) (z : FVec Ideal S_ .f32)  (b : Fin 8) (h : Fin 4) (c : Fin 2) (q : Fin 2048) :
   (show FVec Ideal S8x4x2x2048 .f32 from Host.reduce FloatOps.maximumf s z reducesTo_S8x4x2x2048x2304_S8x4x2x2048_d4 h_S_) (ix4 b h c q)
      = Finset.univ.fold max (z (Shape.Idx.first h_S_)) fun j => s (ix5 b h c q j) := by
  pointwise []

theorem v23_at (b : Fin 8) (h : Fin 4) (c : Fin 2) (q : Fin 2048) :
   val_main_v23 (F := Ideal) x0 x1 x2 (ix4 b h c q : S8x4x2x2048.Idx)
     = Finset.univ.fold max (⊥ : EReal) fun j => val_main_v20 (F := Ideal) x0 x1 x2 (ix5 b h c q j) := by
  rw [val_main_v23_apply, val_main_v22_apply]
  refine (congrArg (max (Ideal.ofBits .f32 0xFF800000#32)) (max_at (val_main_v20 (F := Ideal) x0 x1 x2) (val_main_cst_3 (F := Ideal)) b h c q)).trans ?_
  have e : val_main_cst_3 (F := Ideal) (Shape.Idx.first h_S_) = Ideal.ofBits .f32 0xFF800000#32 := rfl
  rw [e, ofBits_negInf, max_eq_right bot_le]

theorem weights_at (b : Fin 8) (h : Fin 4) (c : Fin 2) (q : Fin 2048) (j : Fin 2304) :
    val_main_v27 (F := Ideal) x0 x1 x2 (ix5 b h c q j : S8x4x2x2048x2304.Idx)
      = Ideal.exp (val_main_v20 (F := Ideal) x0 x1 x2 (ix5 b h c q j)
          - Finset.univ.fold max (⊥ : EReal) fun j => val_main_v20 (F := Ideal) x0 x1 x2 (ix5 b h c q j)) := by
  rw [val_main_v27_apply, val_main_v26_apply, val_main_v25_apply, val_main_v24_apply]
  have e : idx_main_v24 (idx_main_v25 (ix5 b h c q j)) = (ix4 b h c q : S8x4x2x2048.Idx) := by
    funext k; match k with | ⟨0, _⟩ => rfl | ⟨1, _⟩ => rfl | ⟨2, _⟩ => rfl | ⟨3, _⟩ => rfl
  rw [e, v23_at]
  rfl

theorem probs_at (b : Fin 8) (h : Fin 4) (c : Fin 2) (q : Fin 2048) (j : Fin 2304) :
    val_main_v31 (F := Ideal) x0 x1 x2 (ix5 b h c q j : S8x4x2x2048x2304.Idx)
      = Ideal.div (val_main_v27 (F := Ideal) x0 x1 x2 (ix5 b h c q j))
          (∑ j, val_main_v27 (F := Ideal) x0 x1 x2 (ix5 b h c q j)) := by
  unfold val_main_v31 val_main_v30 val_main_v29 val_main_v28 val_main_cst_5
  generalize val_main_v27 (F := Ideal) x0 x1 x2 = s
  pointwise []

/-- The values of both sources, read. -/
theorem vals_at (b : Fin 8) (h : Fin 4) (j : Fin 2304) (e : Fin 128) :
    val_main_v17 (F := Ideal) x3 x4 (ix4 b j h e : S8x2304x4x128.Idx) = vals x3 x4 b h j e := by
  pointwise [val_main_v17, vals]

theorem out_at (b : Fin 8) (q : Fin 2048) (h : Fin 4) (e : Fin 128) :
    val_main_v40 (F := Ideal) x0 x1 x2 x3 x4 x5 (ix4 b q h e : S8x2048x4x128.Idx)
      = ∑ j : Fin 2304, vals x3 x4 b h j e * (val_main_v31 (F := Ideal) x0 x1 x2 (ix5 b h 0 q j)
          - val_main_v15 (F := Ideal) x5 ix0 * val_main_v31 (F := Ideal) x0 x1 x2 (ix5 b h 1 q j)) := by
  rw [val_main_v40_apply, val_main_v39_apply]
  refine Finset.sum_congr rfl fun j _ => ?_
  have el : lidx_main_v39 (idx_main_v40 (ix4 b q h e)) j = (ix4 b j h e : S8x2304x4x128.Idx) := by
    funext k; match k with | ⟨0, _⟩ => rfl | ⟨1, _⟩ => rfl | ⟨2, _⟩ => rfl | ⟨3, _⟩ => rfl
  have er : ridx_main_v39 (idx_main_v40 (ix4 b q h e)) j = (ix4 b h q j : S8x4x2048x2304.Idx) := by
    funext k; match k with | ⟨0, _⟩ => rfl | ⟨1, _⟩ => rfl | ⟨2, _⟩ => rfl | ⟨3, _⟩ => rfl
  rw [el, er, vals_at, val_main_v38_apply, val_main_v37_apply, val_main_v36_apply, val_main_v33_apply, val_main_v35_apply,
    val_main_v32_apply, val_main_v34_apply]
  have e0 : idx_main_v32 (idx_main_v33 (ix4 b h q j)) = (ix5 b h 0 q j : S8x4x2x2048x2304.Idx) := by
    funext k
    refine Fin.ext ?_
    match k with
    | ⟨0, _⟩ => show ((((b : ℕ) * 4 + h) * 2048 + q) * 2304 + j) / 18874368 = b; omega
    | ⟨1, _⟩ => show ((((b : ℕ) * 4 + h) * 2048 + q) * 2304 + j) / 4718592 % 4 = h; omega
    | ⟨2, _⟩ => rfl
    | ⟨3, _⟩ => show ((((b : ℕ) * 4 + h) * 2048 + q) * 2304 + j) / 2304 % 2048 = q; omega
    | ⟨4, _⟩ => show ((((b : ℕ) * 4 + h) * 2048 + q) * 2304 + j) % 2304 = j; omega
  have e1 : idx_main_v34 (idx_main_v35 (ix4 b h q j)) = (ix5 b h 1 q j : S8x4x2x2048x2304.Idx) := by
    funext k
    refine Fin.ext ?_
    match k with
    | ⟨0, _⟩ => show ((((b : ℕ) * 4 + h) * 2048 + q) * 2304 + j) / 18874368 = b; omega
    | ⟨1, _⟩ => show ((((b : ℕ) * 4 + h) * 2048 + q) * 2304 + j) / 4718592 % 4 = h; omega
    | ⟨2, _⟩ => rfl
    | ⟨3, _⟩ => show ((((b : ℕ) * 4 + h) * 2048 + q) * 2304 + j) / 2304 % 2048 = q; omega
    | ⟨4, _⟩ => show ((((b : ℕ) * 4 + h) * 2048 + q) * 2304 + j) % 2304 = j; omega
  rw [e0, e1]
  have e2 : idx_main_v36 (ix4 b h q j) = (ix0 : S_.Idx) := funext fun a => a.elim0
  rw [e2]
  rfl

theorem lam_at :
    val_main_v15 (F := Ideal) x5 ix0
      = Ideal.exp (∑ d : Fin 64, x5 (ix2 0 d) * x5 (ix2 1 d)) - Ideal.exp (∑ d : Fin 64, x5 (ix2 2 d) * x5 (ix2 3 d))
        + Ideal.ofBits .f32 0x3EB60549#32 := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem result_at (b : Fin 8) (q : Fin 2048) (z : Fin 512) :
    val_main_v54 (F := Ideal) x0 x1 x2 x3 x4 x5 (ix3 b q z : S8x2048x512.Idx)
      = AttnMath.norm (Ideal.ofBits .f32 0x43000000#32) (Ideal.ofBits .f32 0x358637BD#32) (Ideal.ofBits .f32 0x3F24FD5C#32)
          (fun e => val_main_v40 (F := Ideal) x0 x1 x2 x3 x4 x5 (ix4 b q ⟨z / 128, by omega⟩ e)) ⟨z % 128, by omega⟩ := by
  unfold val_main_v54 val_main_v53 val_main_v52 val_main_v51 val_main_v50 val_main_v49 val_main_v48 val_main_v47 val_main_v46 val_main_v45 val_main_v44 val_main_v43 val_main_v42 val_main_v41 val_main_cst_6 val_main_cst_7 val_main_cst_8 val_main_cst_9
  generalize val_main_v40 (F := Ideal) x0 x1 x2 x3 x4 x5 = s
  pointwise [AttnMath.norm]

end Cert.ReferenceIdeal.AttnRef

end
-- ==== Proof.AttnEq.lean ====
/- The attention of the kernel and of the reference are equal, entry by entry, over the extended reals. -/
module

public import proofs.«01_k».proof.Proof.AttnArray
public import proofs.«01_k».proof.Proof.AttnRef

@[expose] public section

set_option maxRecDepth 16384

noncomputable section

open Idealize.ShloMosaic Idealize.ShloMosaic.TcCoe Idealize.SL.Sem

namespace Cert.AttnEq

open Cert.AttnMath Cert.KernelIdeal.AttnPoint Cert.KernelIdeal.AttnArray

/-- The word of one eighth. -/
theorem ofBits_eighth : Ideal.ofBits .f32 0x3E000000#32 = ((1 / 8 : ℝ) : EReal) := by
  simp [Ideal.ofBits, Ideal.ieee]; rw [← EReal.coe_mul]; norm_num

/-- The word of two. -/
theorem ofBits_two : Ideal.ofBits .f32 0x40000000#32 = ((2 : ℝ) : EReal) := by
  simp [Ideal.ofBits, Ideal.ieee]; rw [← EReal.coe_mul]; norm_num

/-- The word of the lane count. -/
theorem ofBits_lanes : Ideal.ofBits .f32 0x43000000#32 = ((128 : ℝ) : EReal) := by
  simp [Ideal.ofBits, Ideal.ieee]; rw [← EReal.coe_mul]; norm_num

/-- The word added to a mean of squares is a positive real. -/
theorem ofBits_eps : ∃ ε : ℝ, 0 < ε ∧ Ideal.ofBits .f32 0x358637BD#32 = (ε : EReal) := by
  refine ⟨_, ?_, by simp [Ideal.ofBits, Ideal.ieee]; rfl⟩
  norm_num

/-- The word added to the difference of exponentials is real. -/
theorem ofBits_init : ∃ l : ℝ, Ideal.ofBits .f32 0x3EB60549#32 = (l : EReal) :=
  ⟨_, by simp [Ideal.ofBits, Ideal.ieee]; rfl⟩

/-- The queries' factor. -/
theorem qscale_eq : qscale = (kap : EReal) := by
  have hl : Real.log 2 ≠ 0 := ne_of_gt (Real.log_pos (by norm_num))
  unfold qscale kap
  rw [ofBits_eighth, ofBits_two]
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [e, div_real _ hl]

/-- The reference's weights before their division by the sum. -/
def weight (T : Fin 2304 → EReal) (j : Fin 2304) : EReal :=
  Ideal.exp (T j * ((1 / 8 : ℝ) : EReal) - Finset.univ.fold max (⊥ : EReal) fun j => T j * ((1 / 8 : ℝ) : EReal))

/-- A weight of the kernel is a weight of the reference. -/
theorem weight_eq (T : Fin 2304 → EReal) (j : Fin 2304) :
    Ideal.exp2 ((kap : EReal) * T j
        - max (Finset.univ.fold max (⊥ : EReal) fun j : Fin 2048 => (kap : EReal) * T ⟨j, by omega⟩)
            (Finset.univ.fold max (⊥ : EReal) fun j : Fin 256 => (kap : EReal) * T ⟨2048 + j, by omega⟩))
      = weight T j := by
  rw [← fold_max_parts (n := 2304) rfl (fun j => (kap : EReal) * T j), fold_max_kap, exp2_scale]
  unfold weight
  rw [fold_max_eighth]

/-- A weight is real and not negative. -/
theorem weight_real (T : Fin 2304 → EReal) : ∃ u : Fin 2304 → ℝ, (∀ j, 0 ≤ u j) ∧ ∀ j, weight T j = (u j : EReal) := by
  have h : ∀ j, ∃ u : ℝ, 0 ≤ u ∧ weight T j = (u : EReal) := fun j =>
    exp_real (le_fold_max (fun j => T j * ((1 / 8 : ℝ) : EReal)) j)
  choose u hu using h
  exact ⟨u, fun j => (hu j).1, fun j => (hu j).2⟩

/-- The kernel's entry from scaled products is the reference's, normalised. -/
theorem core (T : Fin 2 → Fin 2304 → EReal) (v : Fin 2304 → Fin 128 → ℝ) (lam : ℝ) (e : Fin 128) :
    entry (lam : EReal) (fun c j => (kap : EReal) * T c ⟨j, by omega⟩) (fun c j => (kap : EReal) * T c ⟨2048 + j, by omega⟩)
        (packed fun j e => (v ⟨j, by omega⟩ e : EReal)) (packed fun j e => (v ⟨2048 + j, by omega⟩ e : EReal)) e
      = norm (Ideal.ofBits .f32 0x43000000#32) (Ideal.ofBits .f32 0x358637BD#32) (Ideal.ofBits .f32 0x3F24FD5C#32)
          (fun e => ∑ j, (v j e : EReal) * (Ideal.div (weight (T 0) j) (∑ j, weight (T 0) j)
            - (lam : EReal) * Ideal.div (weight (T 1) j) (∑ j, weight (T 1) j))) e := by
  obtain ⟨u0, p0, h0⟩ := weight_real (T 0)
  obtain ⟨u1, p1, h1⟩ := weight_real (T 1)
  have hn : ∀ (c : Fin 2) (e : Fin 128),
      ((∑ j : Fin 2048, weight (T c) ⟨j, by omega⟩ * packed (fun j e => (v ⟨j, by omega⟩ e : EReal)) j ⟨e, by omega⟩)
        + ∑ j : Fin 256, weight (T c) ⟨2048 + j, by omega⟩ * packed (fun j e => (v ⟨2048 + j, by omega⟩ e : EReal)) j ⟨e, by omega⟩)
      = ∑ j, weight (T c) j * (v j e : EReal) := fun c e => by
    rw [sum_parts (n := 2304) (a := 2048) (b := 256) rfl (fun j => weight (T c) j * (v j e : EReal))]
    simp only [packed, e.isLt, dif_pos]
  have hd : ∀ (c : Fin 2) (e : Fin 128),
      ((∑ j : Fin 2048, weight (T c) ⟨j, by omega⟩ * packed (fun j e => (v ⟨j, by omega⟩ e : EReal)) j ⟨128 + e, by omega⟩)
        + ∑ j : Fin 256, weight (T c) ⟨2048 + j, by omega⟩ * packed (fun j e => (v ⟨2048 + j, by omega⟩ e : EReal)) j ⟨128 + e, by omega⟩)
      = ∑ j, weight (T c) j := fun c e => by
    rw [sum_parts (n := 2304) (a := 2048) (b := 256) rfl (fun j => weight (T c) j)]
    have hne : ¬ (128 + (e : ℕ) < 128) := by omega
    simp only [packed, hne, dif_neg, not_false_eq_true, mul_one]
  have hw : entry (lam : EReal) (fun c j => (kap : EReal) * T c ⟨j, by omega⟩) (fun c j => (kap : EReal) * T c ⟨2048 + j, by omega⟩)
        (packed fun j e => (v ⟨j, by omega⟩ e : EReal)) (packed fun j e => (v ⟨2048 + j, by omega⟩ e : EReal)) e
      = norm (Ideal.ofBits .f32 0x43000000#32) (Ideal.ofBits .f32 0x358637BD#32) (Ideal.ofBits .f32 0x3F24FD5C#32)
          (fun e => Ideal.div (∑ j, weight (T 0) j * (v j e : EReal)) (∑ j, weight (T 0) j)
            - (lam : EReal) * Ideal.div (∑ j, weight (T 1) j * (v j e : EReal)) (∑ j, weight (T 1) j)) e := by
    unfold entry
    simp only [weight_eq, hn, hd]
  rw [hw]
  simp only [h0, h1]
  rcases diff_cases u0 u1 p0 p1 v lam with h | ⟨h, h'⟩
  · exact congrArg (fun x => norm _ _ _ x e) (funext h)
  · obtain ⟨ε, hε, eε⟩ := ofBits_eps
    rw [ofBits_lanes, eε, norm_degen (by norm_num) hε _ _ h, norm_degen (by norm_num) hε _ _ h']

end Cert.AttnEq

end
-- ==== Proof.AttnFinal.lean ====
/- From finite values on, the attention of the kernel is the attention of the reference. -/
module

public import proofs.«01_k».proof.Defs
public import proofs.«01_k».proof.Proof.AttnEq
public import proofs.«01_k».proof.Proof.Gen.Pre_finite_values

@[expose] public section

set_option maxRecDepth 16384

noncomputable section

open Idealize.ShloMosaic Idealize.ShloMosaic.TcCoe Idealize.SL.Sem

namespace Cert.AttnFinal

open Cert.AttnMath Cert.AttnEq Cert.KernelIdeal Cert.KernelIdeal.Gen Cert.KernelIdeal.AttnPoint Cert.KernelIdeal.AttnArray
open Cert.ReferenceIdeal.AttnRef (keys vals prods)

/-- A number whose absolute value is below infinity is real. -/
theorem real_of_lt {x : EReal} (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  have hlt : max x (-x) < ⊤ := by
    by_contra hc
    simp [Ideal.cmp, hc] at h
  rw [max_lt_iff] at hlt
  induction x with
  | bot => simp at hlt
  | top => simp at hlt
  | coe r => exact ⟨r, rfl⟩

/-- The second component's factor is real when the vectors it comes from are. -/
theorem lam_real (x5 : FVec Ideal S4x64 .f32) (h5 : ∀ i, ∃ r : ℝ, x5 i = (r : EReal)) :
    ∃ l : ℝ, k0_pay2 (F := Ideal) x5 (ix2 0 0) = (l : EReal)
      ∧ Cert.ReferenceIdeal.Read.val_main_v15 (F := Ideal) x5 ix0 = (l : EReal) := by
  choose f hf using h5
  obtain ⟨w, hw⟩ := ofBits_init
  have e : ∀ a b : Fin 4, (∑ d : Fin 64, x5 (ix2 a d) * x5 (ix2 b d)) = ((∑ d : Fin 64, f (ix2 a d) * f (ix2 b d) : ℝ) : EReal) :=
    fun a b => by
      rw [coe_sum]
      exact Finset.sum_congr rfl fun d _ => by rw [hf, hf, EReal.coe_mul]
  have hx : ∀ r : ℝ, Ideal.exp (r : EReal) = ((Real.exp r : ℝ) : EReal) := fun r => rfl
  refine ⟨Real.exp (∑ d : Fin 64, f (ix2 0 d) * f (ix2 1 d)) - Real.exp (∑ d : Fin 64, f (ix2 2 d) * f (ix2 3 d)) + w, ?_, ?_⟩
  · rw [AttnPoint.lam_at, e, e, hw, hx, hx, EReal.coe_add, EReal.coe_sub]
  · rw [Cert.ReferenceIdeal.AttnRef.lam_at, e, e, hw, hx, hx, EReal.coe_add, EReal.coe_sub]

variable (x0 x1 : FVec Ideal S8x2048x4x2x64 .f32) (x2 : FVec Ideal S8x256x4x2x64 .f32)
  (x3 : FVec Ideal S8x2048x4x128 .f32) (x4 : FVec Ideal S8x256x4x128 .f32) (x5 : FVec Ideal S4x64 .f32)

/-- A scaled query's product with a key is the scaled product. -/
theorem scaled (f g : Fin 64 → EReal) : (∑ d, f d * qscale * g d) = (kap : EReal) * ∑ d, f d * g d := by
  rw [← sum_kap]
  refine Finset.sum_congr rfl fun d _ => ?_
  rw [qscale_eq, mul_comm (f d), mul_assoc]

/-- A row entry of the reference before its normalisation. -/
theorem ref_row (b : Fin 8) (q : Fin 2048) (n : Fin 4) (e : Fin 128) :
    Cert.ReferenceIdeal.Read.val_main_v40 (F := Ideal) x0 x1 x2 x3 x4 x5 (ix4 b q n e)
      = ∑ j, vals x3 x4 b n j e * (Ideal.div (weight (prods x0 x1 x2 b n 0 q) j) (∑ j, weight (prods x0 x1 x2 b n 0 q) j)
          - Cert.ReferenceIdeal.Read.val_main_v15 (F := Ideal) x5 ix0
            * Ideal.div (weight (prods x0 x1 x2 b n 1 q) j) (∑ j, weight (prods x0 x1 x2 b n 1 q) j)) := by
  have hw : ∀ c j, Cert.ReferenceIdeal.Read.val_main_v27 (F := Ideal) x0 x1 x2 (ix5 b n c q j)
      = weight (prods x0 x1 x2 b n c q) j := fun c j => by
    rw [Cert.ReferenceIdeal.AttnRef.weights_at]
    unfold weight
    simp only [Cert.ReferenceIdeal.AttnRef.scores_at, ofBits_eighth]
  rw [Cert.ReferenceIdeal.AttnRef.out_at]
  simp only [Cert.ReferenceIdeal.AttnRef.probs_at, hw]

/-- The kernel's entry is the reference's. -/
theorem value_eq (h3 : ∀ i, ∃ r : ℝ, x3 i = (r : EReal)) (h4 : ∀ i, ∃ r : ℝ, x4 i = (r : EReal))
    (h5 : ∀ i, ∃ r : ℝ, x5 i = (r : EReal)) (b : Fin 8) (q : Fin 2048) (n : Fin 4) (e : Fin 128) :
    value x0 x1 x2 x3 x4 x5 b q n e
      = norm (Ideal.ofBits .f32 0x43000000#32) (Ideal.ofBits .f32 0x358637BD#32) (Ideal.ofBits .f32 0x3F24FD5C#32)
          (fun e => Cert.ReferenceIdeal.Read.val_main_v40 (F := Ideal) x0 x1 x2 x3 x4 x5 (ix4 b q n e)) e := by
  obtain ⟨l, hl, hl'⟩ := lam_real x5 h5
  have hv : ∀ j e, ∃ r : ℝ, vals x3 x4 b n j e = (r : EReal) := fun j e => by
    unfold vals; split
    · exact h3 _
    · exact h4 _
  choose v hv using hv
  have key := core (fun c => prods x0 x1 x2 b n c q) v l e
  simp only [ref_row, hl', hv]
  rw [← key]
  unfold value
  rw [hl]
  have k0 : ∀ (c : Fin 2) (j : Fin 2048), prods x0 x1 x2 b n c q ⟨j, by omega⟩ = ∑ d, x0 (ix5 b q n c d) * x1 (ix5 b j n c d) :=
    fun c j => Finset.sum_congr rfl fun d _ => by
      unfold keys; rw [dif_pos j.isLt]
  have k1 : ∀ (c : Fin 2) (j : Fin 256), prods x0 x1 x2 b n c q ⟨2048 + j, by omega⟩ = ∑ d, x0 (ix5 b q n c d) * x2 (ix5 b j n c d) :=
    fun c j => Finset.sum_congr rfl fun d _ => by
      unfold keys
      rw [dif_neg (by simp)]
      congr 3
      exact Fin.ext (by simp)
  have v0 : ∀ (j : Fin 2048) e, (v ⟨j, by omega⟩ e : EReal) = x3 (ix4 b j n e) := fun j e => by
    rw [← hv]; unfold vals; rw [dif_pos j.isLt]
  have v1 : ∀ (j : Fin 256) e, (v ⟨2048 + j, by omega⟩ e : EReal) = x4 (ix4 b j n e) := fun j e => by
    rw [← hv]; unfold vals
    rw [dif_neg (by simp)]
    congr 2
    exact Fin.ext (by simp)
  simp only [scaled, k0, k1, v0, v1]

end Cert.AttnFinal

end
-- ==== Proof.AttnClaim.lean ====
/- The attention's result array is the reference's, on every memory that the precondition admits. -/
module

public import proofs.«01_k».proof.Proof.AttnFinal
public import proofs.«01_k».proof.Proof.Gen.ReferenceIdeal.Run

@[expose] public section

set_option maxRecDepth 16384

noncomputable section

open Idealize.ShloMosaic Idealize.ShloMosaic.TcCoe Idealize.SL.Sem

namespace Cert.AttnClaim

open Cert.AttnMath Cert.AttnEq Cert.AttnFinal Cert.KernelIdeal Cert.KernelIdeal.Gen Cert.KernelIdeal.AttnArray Cert.KernelIdeal.AttnBlock

variable (m : (ℓ : Loc nD τ sig) → Buf (Elt Ideal) ℓ)

/-- The precondition's three arrays are real everywhere. -/
theorem reals (h : Cert.Pre_KernelIdeal_finite_values m) (c : Dev nD) :
    (∀ i, ∃ r : ℝ, (show FVec Ideal S8x2048x4x128 .f32 from m ((c : Thread nD τ).loc main_arg3)) i = (r : EReal))
    ∧ (∀ i, ∃ r : ℝ, (show FVec Ideal S8x256x4x128 .f32 from m ((c : Thread nD τ).loc main_arg4)) i = (r : EReal))
    ∧ (∀ i, ∃ r : ℝ, (show FVec Ideal S4x64 .f32 from m ((c : Thread nD τ).loc main_arg5)) i = (r : EReal)) := by
  obtain ⟨h3, h4, h5⟩ := h c
  exact ⟨fun i => real_of_lt (congrFun h3 i), fun i => real_of_lt (congrFun h4 i), fun i => real_of_lt (congrFun h5 i)⟩

/-- The attention's array is the reference's. -/
theorem result_eq (h : Cert.Pre_KernelIdeal_finite_values m) (c : Dev nD) :
    result m c = Cert.ReferenceIdeal.Read.val_main_v54 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  obtain ⟨h3, h4, h5⟩ := reals m h c
  funext i
  obtain ⟨b, q, z, rfl⟩ : ∃ (b : Fin 8) (q : Fin 2048) (z : Fin 512), i = ix3 b q z :=
    ⟨i 0, i 1, i 2, by funext k; match k with | ⟨0, _⟩ => rfl | ⟨1, _⟩ => rfl | ⟨2, _⟩ => rfl⟩
  refine Eq.trans ?_ (Cert.ReferenceIdeal.AttnRef.result_at _ _ _ _ _ _ b q z).symm
  exact value_eq _ _ _ _ _ _ h3 h4 h5 b q ⟨z / 128, by omega⟩ ⟨z % 128, by omega⟩

end Cert.AttnClaim

end
-- ==== Proof.MergeMath.lean ====
/- The merge and the router over the extended reals: the values of one row as functions of that row, that the
   normalised row is real whatever the row is, and that the router's low parts and the lanes past the experts add nothing. -/
module

public import proofs.«01_k».proof.Proof.AttnMath

@[expose] public section

set_option maxRecDepth 16384

noncomputable section

open Idealize.ShloMosaic Idealize.ShloMosaic.TcCoe Idealize.SL.Sem
open Idealize.ShloMosaic.Pipeline (Dat)

namespace Cert.MergeMath

open Cert.AttnMath

/-- The small number added under the root. -/
abbrev eps : EReal := Ideal.ofBits .f32 0x358637BD#32
/-- The length of a row, as the programs write it. -/
abbrev len : EReal := Ideal.ofBits .f32 0x44800000#32

/-- The gated sum of the three branches' projections. -/
def mix (f ro dd : Fin 512 → EReal) (gt : Fin 3072 → EReal) (wf wr wd : Fin 512 → Fin 1024 → EReal) (k : Fin 1024) : EReal :=
  gt ⟨k, by omega⟩ * (∑ i : Fin 512, f i * wf i k) + gt ⟨1024 + k, by omega⟩ * (∑ i : Fin 512, ro i * wr i k)
    + gt ⟨2048 + k, by omega⟩ * (∑ i : Fin 512, dd i * wd i k)

/-- The token after the merge. -/
def merged (x m2 : Fin 1024 → EReal) (t : Fin 1024 → EReal) (wo : Fin 1024 → Fin 1024 → EReal) (j : Fin 1024) : EReal :=
  x j + m2 j * ∑ k : Fin 1024, t k * wo k j

/-- One entry of a row divided by its root mean square. -/
def unit (x : Fin 1024 → EReal) (k : Fin 1024) : EReal :=
  x k * Ideal.rsqrt (Ideal.div (∑ j : Fin 1024, x j * x j) len + eps)

/-- One entry of a normalised, scaled and shifted row. -/
def hid (x g sc sh : Fin 1024 → EReal) (k : Fin 1024) : EReal := unit x k * g k * (1 + sc k) + sh k

/-- An entry of the softmax of a row. -/
def soft {n : ℕ} (l : Fin n → EReal) (e : Fin n) : EReal :=
  Ideal.div (Ideal.exp (l e - Finset.univ.fold max (⊥ : EReal) l)) (∑ j, Ideal.exp (l j - Finset.univ.fold max (⊥ : EReal) l))

theorem len_eq : len = ((1024 : ℝ) : EReal) := by
  simp [len, Ideal.ofBits, Ideal.ieee]
  rw [← EReal.coe_mul]
  congr 1
  norm_num

theorem eps_eq : ∃ e : ℝ, 0 < e ∧ eps = (e : EReal) := by
  refine ⟨_, ?_, by simp [eps, Ideal.ofBits, Ideal.ieee]; rfl⟩
  positivity

theorem square_nonneg (x : EReal) : 0 ≤ x * x := by
  induction x with
  | bot => simp
  | top => simp
  | coe r => rw [← EReal.coe_mul]; exact_mod_cast mul_self_nonneg r

/-- A normalised row is real, whatever the row is. -/
theorem unit_real (x : Fin 1024 → EReal) (k : Fin 1024) : ∃ r : ℝ, unit x k = (r : EReal) := by
  obtain ⟨e, he, heq⟩ := eps_eq
  have hlen : (1024 : ℝ) ≠ 0 := by norm_num
  by_cases h : ∀ j, ∃ r : ℝ, x j = (r : EReal)
  · choose f hf using h
    have hs : ∑ j : Fin 1024, x j * x j = ((∑ j, f j * f j : ℝ) : EReal) := by
      rw [coe_sum]
      exact Finset.sum_congr rfl fun j _ => by rw [hf, EReal.coe_mul]
    have hn : 0 ≤ ∑ j, f j * f j := Finset.sum_nonneg fun j _ => mul_self_nonneg _
    have hp : 0 < (∑ j, f j * f j) / 1024 + e := by positivity
    unfold unit
    rw [hs, len_eq, heq, div_real _ hlen, ← EReal.coe_add, hf k]
    have hr : Ideal.rsqrt (((∑ j, f j * f j) / 1024 + e : ℝ) : EReal) = (((Real.sqrt ((∑ j, f j * f j) / 1024 + e))⁻¹ : ℝ) : EReal) := by
      generalize (∑ j, f j * f j) / 1024 + e = s at hp
      show (if s < 0 then (⊥ : EReal) else if s = 0 then ⊤ else ((Real.sqrt s)⁻¹ : ℝ)) = _
      rw [if_neg (not_lt.2 hp.le), if_neg hp.ne']
    rw [hr, ← EReal.coe_mul]
    exact ⟨_, rfl⟩
  · simp only [not_forall, not_exists] at h
    obtain ⟨j, hj⟩ := h
    have ht : x j * x j = ⊤ := by
      generalize x j = y at hj
      induction y with
      | bot => simp
      | top => simp
      | coe r => exact absurd rfl (hj r)
    have hsum : ∑ k, x k * x k = ⊤ := by
      refine le_antisymm le_top ?_
      rw [← ht]
      exact Finset.single_le_sum (f := fun k => x k * x k) (fun k _ => square_nonneg _) (Finset.mem_univ j)
    unfold unit
    rw [hsum, len_eq, heq, Ideal.div_coe hlen, EReal.top_mul_coe_of_pos (by positivity), EReal.top_add_coe]
    exact ⟨0, mul_zero _⟩

/-- The modulated row is real when the norm's gain, scale and shift are. -/
theorem hid_real (x g sc sh : Fin 1024 → EReal) (k : Fin 1024) (hg : ∃ r : ℝ, g k = (r : EReal)) (hsc : ∃ r : ℝ, sc k = (r : EReal))
    (hsh : ∃ r : ℝ, sh k = (r : EReal)) : ∃ r : ℝ, hid x g sc sh k = (r : EReal) := by
  obtain ⟨u, hu⟩ := unit_real x k
  obtain ⟨a, ha⟩ := hg
  obtain ⟨b, hb⟩ := hsc
  obtain ⟨d, hd⟩ := hsh
  refine ⟨u * a * (1 + b) + d, ?_⟩
  unfold hid
  rw [hu, ha, hb, hd]
  push_cast
  rfl

theorem sub_self_real {x : EReal} (h : ∃ r : ℝ, x = (r : EReal)) : x - x = 0 := by
  obtain ⟨r, rfl⟩ := h
  rw [← EReal.coe_sub, sub_self]
  rfl

/-- The low parts of real factors add nothing to their product. -/
theorem low_parts (h w : Fin 1024 → EReal) (hh : ∀ k, ∃ r : ℝ, h k = (r : EReal)) (hw : ∀ k, ∃ r : ℝ, w k = (r : EReal)) :
    (∑ k, h k * w k) + (∑ k, h k * (w k - w k)) + (∑ k, (h k - h k) * w k) = ∑ k, h k * w k := by
  have e1 : (∑ k, h k * (w k - w k)) = 0 := Finset.sum_eq_zero fun k _ => by rw [sub_self_real (hw k), mul_zero]
  have e2 : (∑ k, (h k - h k) * w k) = 0 := Finset.sum_eq_zero fun k _ => by rw [sub_self_real (hh k), zero_mul]
  rw [e1, e2, add_zero, add_zero]

/-- The lanes past the experts, at minus infinity, change neither the maximum nor the sum of the softmax. -/
theorem soft_lanes (L : Fin 128 → EReal) (l : Fin 16 → EReal) (h : ∀ e : Fin 16, L ⟨e, by omega⟩ = l e)
    (hbot : ∀ j : Fin 112, L ⟨16 + j, by omega⟩ = ⊥) (e : Fin 16) : soft L ⟨e, by omega⟩ = soft l e := by
  have hl : (fun e : Fin 16 => L ⟨e, by omega⟩) = l := funext h
  have hb : (fun j : Fin 112 => L ⟨16 + j, by omega⟩) = fun _ => ⊥ := funext hbot
  have hm : Finset.univ.fold max (⊥ : EReal) L = Finset.univ.fold max (⊥ : EReal) l := by
    rw [fold_max_parts (show (128 : ℕ) = 16 + 112 from rfl) L, hl, hb]
    refine max_eq_left ?_
    exact (Finset.fold_max_le _).2 ⟨bot_le, fun _ _ => bot_le⟩
  unfold soft
  rw [hm, h e]
  refine congrArg (Ideal.div _) ?_
  rw [sum_parts (show (128 : ℕ) = 16 + 112 from rfl)]
  have hz : (∑ j : Fin 112, Ideal.exp (L ⟨16 + j, by omega⟩ - Finset.univ.fold max (⊥ : EReal) l)) = 0 :=
    Finset.sum_eq_zero fun j _ => by rw [hbot, EReal.bot_sub]; rfl
  rw [hz, add_zero]
  exact Finset.sum_congr rfl fun j _ => by rw [h j]

end Cert.MergeMath

end
-- ==== Proof.MergePoint.lean ====
/- The merge kernel's payloads, entry by entry, over the extended reals. -/
module

public import proofs.«01_k».proof.Proof.MergeMath
public import proofs.«01_k».proof.Proof.Gen.Kernel4Ideal.Frame

@[expose] public section

set_option maxRecDepth 16384

noncomputable section

open Idealize.ShloMosaic Idealize.ShloMosaic.TcCoe Idealize.SL.Sem
open Idealize.ShloMosaic.Pipeline (Dat)

namespace Cert.Kernel4Ideal.MergePoint

open Cert.Kernel4Ideal Cert.Kernel4Ideal.Gen Cert.MergeMath

theorem pay2_at (g1 : FVec Ideal S1024x1024 .bf16) (f : FVec Ideal S1024x512 .bf16) (wf : FVec Ideal S512x1024 .bf16)
    (g2 : FVec Ideal S1024x1024 .bf16) (ro : FVec Ideal S1024x512 .bf16) (wr : FVec Ideal S512x1024 .bf16)
    (g3 : FVec Ideal S1024x1024 .bf16) (dd : FVec Ideal S1024x512 .bf16) (wd : FVec Ideal S512x1024 .bf16)
    (wo : FVec Ideal S1024x1024 .bf16) (r j : Fin 1024) :
    k0_pay2 (F := Ideal) g1 f wf g2 ro wr g3 dd wd wo (ix2 r j : S1024x1024.Idx)
      = ∑ k : Fin 1024, (g1 (ix2 r k) * (∑ i : Fin 512, f (ix2 r i) * wf (ix2 i k)) + g2 (ix2 r k) * (∑ i : Fin 512, ro (ix2 r i) * wr (ix2 i k))
          + g3 (ix2 r k) * (∑ i : Fin 512, dd (ix2 r i) * wd (ix2 i k))) * wo (ix2 k j) := by
  pointwise [k0_pay2]

theorem pay3_at (a x : FVec Ideal S1024x1024 .f32) (m2 : FVec Ideal S1x1x1024 .f32) (r j : Fin 1024) :
    k0_pay3 (F := Ideal) a x m2 (ix2 r j : S1024x1024.Idx) = x (ix2 r j) + m2 (ix3 0 0 j) * a (ix2 r j) := by
  pointwise [k0_pay3]

theorem pay4_at (a x : FVec Ideal S1024x1024 .f32) (m2 : FVec Ideal S1x1x1024 .f32) (g : FVec Ideal S1x1024 .f32)
    (sc sh : FVec Ideal S1x1x1024 .f32) (r j : Fin 1024) :
    k0_pay4 (F := Ideal) a x m2 g sc sh (ix2 r j : S1024x1024.Idx)
      = hid (fun k => k0_pay3 (F := Ideal) a x m2 (ix2 r k)) (fun k => g (ix2 0 k)) (fun k => sc (ix3 0 0 k)) (fun k => sh (ix3 0 0 k)) j := by
  unfold k0_pay4
  generalize k0_pay3 (F := Ideal) a x m2 = y
  pointwise [hid, unit]

theorem pay5_at (a x : FVec Ideal S1024x1024 .f32) (m2 : FVec Ideal S1x1x1024 .f32) (g : FVec Ideal S1x1024 .f32)
    (sc sh : FVec Ideal S1x1x1024 .f32) (r j : Fin 1024) :
    k0_pay5 (F := Ideal) a x m2 g sc sh (ix2 r j : S1024x1024.Idx) = k0_pay4 (F := Ideal) a x m2 g sc sh (ix2 r j) := rfl

theorem pay6_at (a x : FVec Ideal S1024x1024 .f32) (m2 : FVec Ideal S1x1x1024 .f32) (g : FVec Ideal S1x1024 .f32)
    (sc sh : FVec Ideal S1x1x1024 .f32) (r j : Fin 1024) :
    k0_pay6 (F := Ideal) a x m2 g sc sh (ix2 r j : S1024x1024.Idx)
      = k0_pay4 (F := Ideal) a x m2 g sc sh (ix2 r j) - k0_pay4 (F := Ideal) a x m2 g sc sh (ix2 r j) := rfl

/-- The comparison that tells the experts' lanes from the rest. -/
theorem expert_lane : ∀ l : Fin 128, IntOp.cmpi .slt (BitVec.ofNat 32 (l : ℕ)) 16#32 = if (l : ℕ) < 16 then 1#1 else 0#1 := by
  decide +kernel

theorem ofBits_negInf : Ideal.ofBits FTy.f32 0xFF800000#32 = ⊥ := by
  simp [Ideal.ofBits, Ideal.ieee]

/-- A row's products with the router's lanes, those past the experts at minus infinity. -/
def lanes (h l : FVec Ideal S1024x1024 .bf16) (w : FVec Ideal S1024x256 .bf16) (w' : FVec Ideal S1024x128 .bf16) (r : Fin 1024) (e : Fin 128) : EReal :=
  if (e : ℕ) < 16 then (∑ k : Fin 1024, h (ix2 r k) * w (ix2 k ⟨e, by omega⟩)) + (∑ k : Fin 1024, h (ix2 r k) * w (ix2 k ⟨128 + e, by omega⟩))
    + ∑ k : Fin 1024, l (ix2 r k) * w' (ix2 k e) else ⊥

/-- The lanes' array, as the kernel writes it. -/
def lanesV (h l : FVec Ideal S1024x1024 .bf16) (w : FVec Ideal S1024x256 .bf16) (w' : FVec Ideal S1024x128 .bf16) : FVec Ideal S1024x128 .f32 :=
  let v72 : FVec Ideal S1024x256 .f32 := matmul dot_S1024x1024_S1024x256_S1024x256_1_0_0_1_n_n none h (shapeCast S1024x256 w shapeCasts_S1024x256_S1024x256) (constant S1024x256 .f32 0x00000000#32)
  select (cmpi .slt (iota .tc S1024x128 32 [1] iota_S1024x128_d1_w32) (broadcast S1024x128 16#32))
    (addf (addf (extractStridedSlice S1024x128 ![0, 0] v72 slices_S1024x256_o0_0_S1024x128) (extractStridedSlice S1024x128 ![0, 128] v72 slices_S1024x256_o0_128_S1024x128))
      (matmul dot_S1024x1024_S1024x128_S1024x128_1_0_0_1_n_n none l (shapeCast S1024x128 w' shapeCasts_S1024x128_S1024x128) (constant S1024x128 .f32 0x00000000#32)))
    (broadcast S1024x128 (Scalar.ofBits .f32 0xFF800000#32))

theorem lanes_at (h l : FVec Ideal S1024x1024 .bf16) (w : FVec Ideal S1024x256 .bf16) (w' : FVec Ideal S1024x128 .bf16) (r : Fin 1024) (e : Fin 128) :
    lanesV h l w w' (ix2 r e : S1024x128.Idx) = lanes h l w w' r e := by
  pointwise [lanesV]
  rw [expert_lane e, ofBits_negInf]
  unfold lanes
  by_cases he : (e : ℕ) < 16
  · simp only [he, ↓reduceIte]
    rfl
  · simp only [he, ↓reduceIte]
    rfl

/-- The softmax of the lanes, turned, as the kernel writes it. -/
def softV (v : FVec Ideal S1024x128 .f32) : FVec Ideal S1x16x1024 .f32 :=
  let e := exp (subf v (broadcastTo S1024x128 (shapeCast S1024x1 (multiReduction .maximumf [1] S1024 v 0xFF800000#32 reduces_S1024x128_S1024 (.inl rfl) rfl) shapeCasts_S1024_S1024x1) broadcasts_S1024x1_S1024x128))
  shapeCast S1x16x1024 (extractStridedSlice S16x1024 ![0, 0] (transpose S128x1024 [1, 0]
    (divf e (broadcastTo S1024x128 (shapeCast S1024x1 (multiReduction .add [1] S1024 e 0x00000000#32 reduces_S1024x128_S1024 (.inl rfl) rfl) shapeCasts_S1024_S1024x1) broadcasts_S1024x1_S1024x128))
    transposes_S1024x128_p1_0_S128x1024) slices_S128x1024_o0_0_S16x1024) shapeCasts_S16x1024_S1x16x1024

theorem soft_at (v : FVec Ideal S1024x128 .f32) (e : Fin 16) (r : Fin 1024) : softV v (ix3 0 e r : S1x16x1024.Idx)
    = soft (fun j : Fin 128 => v (ix2 r j)) ⟨e, by omega⟩ := by
  pointwise [softV, soft]
  rw [ofBits_negInf]

theorem pay1_at (h l : FVec Ideal S1024x1024 .bf16) (w : FVec Ideal S1024x256 .bf16) (w' : FVec Ideal S1024x128 .bf16) (e : Fin 16) (r : Fin 1024) :
    k0_pay1 (F := Ideal) h l w w' (ix3 0 e r : S1x16x1024.Idx) = soft (lanes h l w w' r) ⟨e, by omega⟩ := by
  refine (show k0_pay1 (F := Ideal) h l w w' (ix3 0 e r : S1x16x1024.Idx) = softV (lanesV h l w w') (ix3 0 e r) from rfl).trans ?_
  refine (soft_at _ e r).trans ?_
  exact congrArg (fun L => soft L _) (funext fun j => lanes_at h l w w' r j)

end Cert.Kernel4Ideal.MergePoint

end
-- ==== Proof.MergeHost.lean ====
/- The arrays that the merge's host code hands to the kernel, entry by entry. -/
module

public import proofs.«01_k».proof.Proof.MergePoint
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.MergeHost

open Cert.Kernel4Ideal Cert.Kernel4Ideal.Gen Cert.Kernel4Ideal.MergePoint

variable (m : (ℓ : Loc nD τ sig) → Buf (Elt Ideal) ℓ) (c : Dev nD)

/-- The row of the flattened tokens that holds token `n` of batch `b`. -/
def row (b : Fin 8) (n : Fin 2048) : Fin 16384 := ⟨b * 2048 + n, by omega⟩

theorem f_at (b : Fin 8) (n : Fin 2048) (i : Fin 512) : (show FVec Ideal S16384x512 .bf16 from V m c main_v7) (ix2 (row b n) i)
    = (show FVec Ideal S8x2048x512 .f32 from m ((c : Thread nD τ).loc main_arg0)) (ix3 b n i) := by
  entry_read
  pointwise [row]
  blk_ext []

theorem ro_at (b : Fin 8) (n : Fin 2048) (i : Fin 512) : (show FVec Ideal S16384x512 .bf16 from V m c main_v9) (ix2 (row b n) i)
    = (show FVec Ideal S8x2048x512 .f32 from m ((c : Thread nD τ).loc main_arg1)) (ix3 b n i) := by
  entry_read
  pointwise [row]
  blk_ext []

theorem do_at (b : Fin 8) (n : Fin 2048) (i : Fin 512) : (show FVec Ideal S16384x512 .bf16 from V m c main_v11) (ix2 (row b n) i)
    = (show FVec Ideal S8x2048x512 .f32 from m ((c : Thread nD τ).loc main_arg2)) (ix3 b n i) := by
  entry_read
  pointwise [row]
  blk_ext []

theorem gt_at (b : Fin 8) (n : Fin 2048) (j : Fin 3072) : (show FVec Ideal S16384x3072 .bf16 from V m c main_v13) (ix2 (row b n) j)
    = (show FVec Ideal S8x2048x3072 .f32 from m ((c : Thread nD τ).loc main_arg3)) (ix3 b n j) := by
  entry_read
  pointwise [row]
  blk_ext []

theorem x_at (b : Fin 8) (n : Fin 2048) (j : Fin 1024) : (show FVec Ideal S16384x1024 .f32 from V m c main_v14) (ix2 (row b n) j)
    = (show FVec Ideal S8x2048x1024 .f32 from m ((c : Thread nD τ).loc main_arg4)) (ix3 b n j) := by
  entry_read
  pointwise [row]
  blk_ext []

theorem g_at (k : Fin 1024) : (show FVec Ideal S1x1024 .f32 from V m c main_v15) (ix2 0 k)
    = (show FVec Ideal S1024 .f32 from m ((c : Thread nD τ).loc main_arg8)) (ix1 k) := by
  entry_read
  pointwise []
  blk_ext []

theorem wf_at (i : Fin 512) (k : Fin 1024) : (show FVec Ideal S512x1024 .bf16 from V m c main_v16) (ix2 i k)
    = (show FVec Ideal S512x1024 .f32 from m ((c : Thread nD τ).loc main_arg9)) (ix2 i k) := by
  entry_read
  pointwise []
  blk_ext []

theorem wr_at (i : Fin 512) (k : Fin 1024) : (show FVec Ideal S512x1024 .bf16 from V m c main_v17) (ix2 i k)
    = (show FVec Ideal S512x1024 .f32 from m ((c : Thread nD τ).loc main_arg10)) (ix2 i k) := by
  entry_read
  pointwise []
  blk_ext []

theorem wd_at (i : Fin 512) (k : Fin 1024) : (show FVec Ideal S512x1024 .bf16 from V m c main_v18) (ix2 i k)
    = (show FVec Ideal S512x1024 .f32 from m ((c : Thread nD τ).loc main_arg11)) (ix2 i k) := by
  entry_read
  pointwise []
  blk_ext []

theorem wo_at (k j : Fin 1024) : (show FVec Ideal S1024x1024 .bf16 from V m c main_v19) (ix2 k j)
    = (show FVec Ideal S1024x1024 .f32 from m ((c : Thread nD τ).loc main_arg12)) (ix2 k j) := by
  entry_read
  pointwise []
  blk_ext []

/-- Two arrays of sixteen columns, each padded to 128 lanes. -/
abbrev padded (a : FVec Ideal S1024x16 .bf16) (y : FVec Ideal S1024x112 .bf16) (b : FVec Ideal S1024x16 .bf16) (z : FVec Ideal S1024x112 .bf16) : FVec Ideal S1024x256 .bf16 :=
  concatenate S1024x256 1 [⟨S1024x16, a⟩, ⟨S1024x112, y⟩, ⟨S1024x16, b⟩, ⟨S1024x112, z⟩] concatenates_S1024x16_S1024x112_S1024x16_S1024x112_S1024x256_d1

theorem padded_low (a b : FVec Ideal S1024x16 .bf16) (y z : FVec Ideal S1024x112 .bf16) (k : Fin 1024) (e : Fin 16) :
    padded a y b z (ix2 k ⟨e, by omega⟩) = a (ix2 k e) := by
  have he := e.isLt
  generalize hE : (⟨e, by omega⟩ : Fin 256) = E
  have hv : (E : ℕ) = e := by rw [← hE]
  unfold padded
  pointwise []
  rw [dif_pos (by omega)]
  exact congrArg (fun j => a (ix2 k j)) (Fin.ext (by dsimp only; omega))

theorem padded_high (a b : FVec Ideal S1024x16 .bf16) (y z : FVec Ideal S1024x112 .bf16) (k : Fin 1024) (e : Fin 16) :
    padded a y b z (ix2 k ⟨128 + e, by omega⟩) = b (ix2 k e) := by
  have he := e.isLt
  generalize hE : (⟨128 + e, by omega⟩ : Fin 256) = E
  have hv : (E : ℕ) = 128 + e := by rw [← hE]
  unfold padded
  pointwise []
  rw [dif_neg (by omega), dif_neg (by omega), dif_pos (by omega)]
  exact congrArg (fun j => b (ix2 k j)) (Fin.ext (by dsimp only; omega))

/-- The router's weights, in the first lanes. -/
theorem hi_at (k : Fin 1024) (e : Fin 16) : (show FVec Ideal S1024x256 .bf16 from V m c main_v5) (ix2 k ⟨e, by omega⟩)
    = (show FVec Ideal S1024x16 .f32 from m ((c : Thread nD τ).loc main_arg13)) (ix2 k e) := by
  after_reads_simp
  exact padded_low _ _ _ _ k e

/-- What rounding the router's weights leaves over, in the lanes from 128. -/
theorem lo_at (k : Fin 1024) (e : Fin 16) : (show FVec Ideal S1024x256 .bf16 from V m c main_v5) (ix2 k ⟨128 + e, by omega⟩)
    = (show FVec Ideal S1024x16 .f32 from m ((c : Thread nD τ).loc main_arg13)) (ix2 k e)
      - (show FVec Ideal S1024x16 .f32 from m ((c : Thread nD τ).loc main_arg13)) (ix2 k e) := by
  after_reads_simp
  exact padded_high _ _ _ _ k e

end Cert.Kernel4Ideal.MergeHost

end
-- ==== Proof.MergeBlock.lean ====
/- The blocks that a grid point of the merge stores, entry by entry, over the extended reals. -/
module

public import proofs.«01_k».proof.Proof.MergeHost

@[expose] public section

set_option maxRecDepth 16384

noncomputable section

open Idealize.ShloMosaic Idealize.ShloMosaic.TcCoe Idealize.SL.Sem
open Idealize.ShloMosaic.Pipeline (Dat)

namespace Cert.Kernel4Ideal.MergeBlock

open Cert.Kernel4Ideal Cert.Kernel4Ideal.Gen Cert.Kernel4Ideal.MergePoint Cert.MergeMath

variable (x0 x1 x2 : Vec Ideal S1024x512 .bf16) (x3 : Vec Ideal S1024x3072 .bf16) (x4 : Vec Ideal S1024x1024 .f32)
  (x5 x6 x7 : Vec Ideal S1x1x1024 .f32) (x8 : Vec Ideal S1x1024 .f32) (x9 x10 x11 : Vec Ideal S512x1024 .bf16)
  (x12 : Vec Ideal S1024x1024 .bf16) (x13 : Vec Ideal S1024x256 .bf16)

/-- The merged token of a row of the block. -/
def mergedRow (r : Fin 1024) (j : Fin 1024) : EReal :=
  merged (fun k => x4 (ix2 r k)) (fun k => x5 (ix3 0 0 k)) (mix (fun i => x0 (ix2 r i)) (fun i => x1 (ix2 r i)) (fun i => x2 (ix2 r i))
    (fun j => x3 (ix2 r j)) (fun i k => x9 (ix2 i k)) (fun i k => x10 (ix2 i k)) (fun i k => x11 (ix2 i k))) (fun k j => x12 (ix2 k j)) j

/-- The modulated token of a row of the block. -/
def hidRow (r : Fin 1024) (j : Fin 1024) : EReal :=
  hid (mergedRow x0 x1 x2 x3 x4 x5 x9 x10 x11 x12 r) (fun k => x8 (ix2 0 k)) (fun k => x7 (ix3 0 0 k)) (fun k => x6 (ix3 0 0 k)) j

theorem acc_at (r j : Fin 1024) : k0_pay7 (F := Ideal) x0 x1 x2 x3 x4 x5 x6 x7 x8 x9 x10 x11 x12 x13 (ix2 r j : S1024x1024.Idx)
    = ∑ k : Fin 1024, mix (fun i => x0 (ix2 r i)) (fun i => x1 (ix2 r i)) (fun i => x2 (ix2 r i))
    (fun j => x3 (ix2 r j)) (fun i k => x9 (ix2 i k)) (fun i k => x10 (ix2 i k)) (fun i k => x11 (ix2 i k)) k * x12 (ix2 k j) := by
  unfold k0_pay7
  refine (pay2_at _ _ _ _ _ _ _ _ _ _ r j).trans ?_
  pointwise [mix]

theorem row_at (r j : Fin 1024) : k0_pay3 (F := Ideal) (k0_pay7 (F := Ideal) x0 x1 x2 x3 x4 x5 x6 x7 x8 x9 x10 x11 x12 x13) (View.ld x4 r0_5) (View.ld x5 r0_6) (ix2 r j : S1024x1024.Idx)
    = mergedRow x0 x1 x2 x3 x4 x5 x9 x10 x11 x12 r j := by
  refine (pay3_at _ _ _ r j).trans ?_
  rw [acc_at]
  pointwise [mergedRow, merged]

theorem hid_at (r j : Fin 1024) : k0_pay4 (F := Ideal) (k0_pay7 (F := Ideal) x0 x1 x2 x3 x4 x5 x6 x7 x8 x9 x10 x11 x12 x13) (View.ld x4 r0_5) (View.ld x5 r0_6) (View.ld x8 r0_7) (View.ld x7 r0_6) (View.ld x6 r0_6) (ix2 r j : S1024x1024.Idx)
    = hidRow x0 x1 x2 x3 x4 x5 x6 x7 x8 x9 x10 x11 x12 r j := by
  refine (pay4_at _ _ _ _ _ _ r j).trans ?_
  rw [show (fun k => k0_pay3 (F := Ideal) (k0_pay7 (F := Ideal) x0 x1 x2 x3 x4 x5 x6 x7 x8 x9 x10 x11 x12 x13) (View.ld x4 r0_5) (View.ld x5 r0_6) (ix2 r k))
    = mergedRow x0 x1 x2 x3 x4 x5 x9 x10 x11 x12 r from funext fun k => row_at x0 x1 x2 x3 x4 x5 x6 x7 x8 x9 x10 x11 x12 x13 r k]
  unfold hidRow
  generalize mergedRow x0 x1 x2 x3 x4 x5 x9 x10 x11 x12 r = y
  have e8 : (fun k : Fin 1024 => (View.ld x8 r0_7) (ix2 0 k)) = fun k => x8 (ix2 0 k) := funext fun k => by pointwise []
  have e7 : (fun k : Fin 1024 => (View.ld x7 r0_6) (ix3 0 0 k)) = fun k => x7 (ix3 0 0 k) := funext fun k => by pointwise []
  have e6 : (fun k : Fin 1024 => (View.ld x6 r0_6) (ix3 0 0 k)) = fun k => x6 (ix3 0 0 k) := funext fun k => by pointwise []
  exact (congrArg (fun a => hid y a _ _ j) e8).trans ((congrArg (fun a => hid y _ a _ j) e7).trans (congrArg (fun a => hid y _ _ a j) e6))

theorem out14_at (r j : Fin 1024) : out0_14 (F := Ideal) x0 x1 x2 x3 x4 x5 x6 x7 x8 x9 x10 x11 x12 x13 (ix2 r j : S1024x1024.Idx)
    = mergedRow x0 x1 x2 x3 x4 x5 x9 x10 x11 x12 r j := by
  refine Eq.trans ?_ (row_at x0 x1 x2 x3 x4 x5 x6 x7 x8 x9 x10 x11 x12 x13 r j)
  unfold out0_14
  generalize k0_pay3 (F := Ideal) (k0_pay7 (F := Ideal) x0 x1 x2 x3 x4 x5 x6 x7 x8 x9 x10 x11 x12 x13) (View.ld x4 r0_5) (View.ld x5 r0_6) = p
  canon_tiles x h
  exact congrArg p (funext fun k => Fin.ext (match k with | ⟨0, _⟩ => h0.symm | ⟨1, _⟩ => h1.symm))

theorem out15_at (r j : Fin 1024) : out0_15 (F := Ideal) x0 x1 x2 x3 x4 x5 x6 x7 x8 x9 x10 x11 x12 x13 (ix2 r j : S1024x1024.Idx)
    = hidRow x0 x1 x2 x3 x4 x5 x6 x7 x8 x9 x10 x11 x12 r j := by
  refine Eq.trans ?_ ((pay5_at _ _ _ _ _ _ r j).trans (hid_at x0 x1 x2 x3 x4 x5 x6 x7 x8 x9 x10 x11 x12 x13 r j))
  unfold out0_15
  generalize k0_pay5 (F := Ideal) (k0_pay7 (F := Ideal) x0 x1 x2 x3 x4 x5 x6 x7 x8 x9 x10 x11 x12 x13) (View.ld x4 r0_5) (View.ld x5 r0_6) (View.ld x8 r0_7) (View.ld x7 r0_6) (View.ld x6 r0_6) = p
  canon_tiles x h
  exact congrArg p (funext fun k => Fin.ext (match k with | ⟨0, _⟩ => h0.symm | ⟨1, _⟩ => h1.symm))

/-- A row's products with the router's lanes, those past the experts at minus infinity. -/
def lanesRow (r : Fin 1024) (e : Fin 128) : EReal :=
  if (e : ℕ) < 16 then (∑ k : Fin 1024, hidRow x0 x1 x2 x3 x4 x5 x6 x7 x8 x9 x10 x11 x12 r k * x13 (ix2 k ⟨e, by omega⟩))
    + (∑ k : Fin 1024, hidRow x0 x1 x2 x3 x4 x5 x6 x7 x8 x9 x10 x11 x12 r k * x13 (ix2 k ⟨128 + e, by omega⟩))
    + ∑ k : Fin 1024, (hidRow x0 x1 x2 x3 x4 x5 x6 x7 x8 x9 x10 x11 x12 r k - hidRow x0 x1 x2 x3 x4 x5 x6 x7 x8 x9 x10 x11 x12 r k) * x13 (ix2 k ⟨e, by omega⟩)
  else ⊥

theorem out16_at (e : Fin 16) (r : Fin 1024) : out0_16 (F := Ideal) x0 x1 x2 x3 x4 x5 x6 x7 x8 x9 x10 x11 x12 x13 (ix3 0 e r : S1x16x1024.Idx)
    = soft (lanesRow x0 x1 x2 x3 x4 x5 x6 x7 x8 x9 x10 x11 x12 x13 r) ⟨e, by omega⟩ := by
  have hh := hid_at x0 x1 x2 x3 x4 x5 x6 x7 x8 x9 x10 x11 x12 x13 r
  have h5 := fun j => pay5_at (k0_pay7 (F := Ideal) x0 x1 x2 x3 x4 x5 x6 x7 x8 x9 x10 x11 x12 x13) (View.ld x4 r0_5) (View.ld x5 r0_6) (View.ld x8 r0_7) (View.ld x7 r0_6) (View.ld x6 r0_6) r j
  have h6 := fun j => pay6_at (k0_pay7 (F := Ideal) x0 x1 x2 x3 x4 x5 x6 x7 x8 x9 x10 x11 x12 x13) (View.ld x4 r0_5) (View.ld x5 r0_6) (View.ld x8 r0_7) (View.ld x7 r0_6) (View.ld x6 r0_6) r j
  unfold out0_16
  generalize k0_pay4 (F := Ideal) (k0_pay7 (F := Ideal) x0 x1 x2 x3 x4 x5 x6 x7 x8 x9 x10 x11 x12 x13) (View.ld x4 r0_5) (View.ld x5 r0_6) (View.ld x8 r0_7) (View.ld x7 r0_6) (View.ld x6 r0_6) = p4 at hh h5 h6
  generalize k0_pay5 (F := Ideal) (k0_pay7 (F := Ideal) x0 x1 x2 x3 x4 x5 x6 x7 x8 x9 x10 x11 x12 x13) (View.ld x4 r0_5) (View.ld x5 r0_6) (View.ld x8 r0_7) (View.ld x7 r0_6) (View.ld x6 r0_6) = p5 at h5 ⊢
  generalize k0_pay6 (F := Ideal) (k0_pay7 (F := Ideal) x0 x1 x2 x3 x4 x5 x6 x7 x8 x9 x10 x11 x12 x13) (View.ld x4 r0_5) (View.ld x5 r0_6) (View.ld x8 r0_7) (View.ld x7 r0_6) (View.ld x6 r0_6) = p6 at h6 ⊢
  have hl : lanes p5 p6 (View.ld x13 r0_8) (View.ld x13 r0_9) r = lanesRow x0 x1 x2 x3 x4 x5 x6 x7 x8 x9 x10 x11 x12 x13 r := by
    funext l
    unfold lanes lanesRow
    simp only [h5, h6, hh]
    pointwise []
  refine Eq.trans ?_ ((pay1_at p5 p6 (View.ld x13 r0_8) (View.ld x13 r0_9) e r).trans (congrArg (fun L => soft L _) hl))
  generalize k0_pay1 (F := Ideal) p5 p6 (View.ld x13 r0_8) (View.ld x13 r0_9) = p
  canon_tiles x h
  exact congrArg p (funext fun k => Fin.ext (match k with | ⟨0, _⟩ => h0.symm | ⟨1, _⟩ => h1.symm | ⟨2, _⟩ => h2.symm))

end Cert.Kernel4Ideal.MergeBlock

end
-- ==== Proof.MergeRef.lean ====
/- The reference's merge, norm and router, entry by entry, over the extended reals. -/
module

public import proofs.«01_k».proof.Proof.MergeMath
public import proofs.«01_k».proof.Proof.Gen.Reference4Ideal.Read

@[expose] public section

set_option maxRecDepth 16384

noncomputable section

open Idealize.ShloMosaic Idealize.ShloMosaic.TcCoe Idealize.SL.Sem

namespace Cert.Reference4Ideal.MergeRef

open Cert.Reference4Ideal Cert.Reference4Ideal.Gen Cert.Reference4Ideal.Read
open Cert.MergeMath

variable (f ro dd : FVec Ideal S8x2048x512 .f32) (gt : FVec Ideal S8x2048x3072 .f32) (x : FVec Ideal S8x2048x1024 .f32)
  (m2 m3 m4 : FVec Ideal S8x1x1024 .f32) (g : FVec Ideal S1024 .f32) (wf wr wd : FVec Ideal S512x1024 .f32)
  (wo : FVec Ideal S1024x1024 .f32) (w : FVec Ideal S1024x16 .f32)

/-- The merged token of a batch. -/
def mergedAt (b : Fin 8) (n : Fin 2048) (j : Fin 1024) : EReal :=
  merged (fun k => x (ix3 b n k)) (fun k => m2 (ix3 b 0 k)) (mix (fun i => f (ix3 b n i)) (fun i => ro (ix3 b n i)) (fun i => dd (ix3 b n i))
    (fun j => gt (ix3 b n j)) (fun i k => wf (ix2 i k)) (fun i k => wr (ix2 i k)) (fun i k => wd (ix2 i k))) (fun k j => wo (ix2 k j)) j

/-- The modulated token of a batch. -/
def hidAt (b : Fin 8) (n : Fin 2048) (j : Fin 1024) : EReal :=
  hid (mergedAt f ro dd gt x m2 wf wr wd wo b n) (fun k => g (ix1 k)) (fun k => m4 (ix3 b 0 k)) (fun k => m3 (ix3 b 0 k)) j

/-- A token's product with the router's weights for an expert. -/
def logitAt (b : Fin 8) (n : Fin 2048) (e : Fin 16) : EReal :=
  ∑ k : Fin 1024, hidAt f ro dd gt x m2 m3 m4 g wf wr wd wo b n k * w (ix2 k e)

theorem mix_at (b : Fin 8) (n : Fin 2048) (k : Fin 1024) : val_main_v10 (F := Ideal) f ro dd gt wf wr wd (ix3 b n k : S8x2048x1024.Idx)
    = mix (fun i => f (ix3 b n i)) (fun i => ro (ix3 b n i)) (fun i => dd (ix3 b n i)) (fun j => gt (ix3 b n j))
        (fun i k => wf (ix2 i k)) (fun i k => wr (ix2 i k)) (fun i k => wd (ix2 i k)) k := by
  pointwise [val_main_v10, val_main_v9, val_main_v8, val_main_v7, val_main_v6, val_main_v5, val_main_v4, val_main_v3, val_main_v2, val_main_v1, val_main_v0, mix]

theorem merged_at (b : Fin 8) (n : Fin 2048) (j : Fin 1024) : val_main_v14 (F := Ideal) f ro dd gt x m2 wf wr wd wo (ix3 b n j : S8x2048x1024.Idx)
    = mergedAt f ro dd gt x m2 wf wr wd wo b n j := by
  unfold val_main_v14 val_main_v13 val_main_v12 val_main_v11 mergedAt merged
  simp only [← mix_at]
  generalize val_main_v10 (F := Ideal) f ro dd gt wf wr wd = t
  pointwise []

theorem hid_at (b : Fin 8) (n : Fin 2048) (j : Fin 1024) : val_main_v33 (F := Ideal) f ro dd gt x m2 m3 m4 g wf wr wd wo (ix3 b n j : S8x2048x1024.Idx)
    = hidAt f ro dd gt x m2 m3 m4 g wf wr wd wo b n j := by
  unfold hidAt
  have e : mergedAt f ro dd gt x m2 wf wr wd wo b n = fun j => val_main_v14 (F := Ideal) f ro dd gt x m2 wf wr wd wo (ix3 b n j) :=
    funext fun j => (merged_at f ro dd gt x m2 wf wr wd wo b n j).symm
  rw [e]
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_cst val_main_cst_0 val_main_cst_1 val_main_cst_2
  generalize val_main_v14 (F := Ideal) f ro dd gt x m2 wf wr wd wo = y
  pointwise [hid, unit]

theorem logit_at (b : Fin 8) (n : Fin 2048) (e : Fin 16) : val_main_v34 (F := Ideal) f ro dd gt x m2 m3 m4 g wf wr wd wo w (ix3 b n e : S8x2048x16.Idx)
    = logitAt f ro dd gt x m2 m3 m4 g wf wr wd wo w b n e := by
  unfold logitAt
  simp only [← hid_at]
  unfold val_main_v34
  generalize val_main_v33 (F := Ideal) f ro dd gt x m2 m3 m4 g wf wr wd wo = y
  pointwise []

theorem ofBits_negInf : Ideal.ofBits FTy.f32 0xFF800000#32 = ⊥ := by
  simp [Ideal.ofBits, Ideal.ieee]

theorem max_at (s : FVec Ideal S8x2048x16 .f32) (z : FVec Ideal S_ .f32) (b : Fin 8) (n : Fin 2048) :
   (show FVec Ideal S8x2048 .f32 from Host.reduce FloatOps.maximumf s z reducesTo_S8x2048x16_S8x2048_d2 h_S_) (ix2 b n)
      = Finset.univ.fold max (z (Shape.Idx.first h_S_)) fun j => s (ix3 b n j) := by
  pointwise []

/-- The largest of a token's products. -/
theorem top_at (b : Fin 8) (n : Fin 2048) : val_main_v37 (F := Ideal) f ro dd gt x m2 m3 m4 g wf wr wd wo w (ix2 b n : S8x2048.Idx)
    = Finset.univ.fold max (⊥ : EReal) fun e => val_main_v34 (F := Ideal) f ro dd gt x m2 m3 m4 g wf wr wd wo w (ix3 b n e) := by
  rw [val_main_v37_apply, val_main_v36_apply]
  refine (congrArg (max (Ideal.ofBits .f32 0xFF800000#32)) (max_at (val_main_v34 (F := Ideal) f ro dd gt x m2 m3 m4 g wf wr wd wo w) (val_main_cst_3 (F := Ideal)) b n)).trans ?_
  have e : val_main_cst_3 (F := Ideal) (Shape.Idx.first h_S_) = Ideal.ofBits .f32 0xFF800000#32 := rfl
  rw [e, ofBits_negInf, max_eq_right bot_le]

/-- The affinities. -/
theorem aff_at (b : Fin 8) (n : Fin 2048) (e : Fin 16) : val_main_v45 (F := Ideal) f ro dd gt x m2 m3 m4 g wf wr wd wo w (ix3 b n e : S8x2048x16.Idx)
    = soft (logitAt f ro dd gt x m2 m3 m4 g wf wr wd wo w b n) e := by
  have e1 : logitAt f ro dd gt x m2 m3 m4 g wf wr wd wo w b n
      = fun e => val_main_v34 (F := Ideal) f ro dd gt x m2 m3 m4 g wf wr wd wo w (ix3 b n e) :=
    funext fun e => (logit_at f ro dd gt x m2 m3 m4 g wf wr wd wo w b n e).symm
  rw [e1]
  unfold soft
  rw [← top_at]
  unfold val_main_v45 val_main_v44 val_main_v43 val_main_v42 val_main_v41 val_main_v40 val_main_v39 val_main_v38 val_main_cst_5
  generalize val_main_v37 (F := Ideal) f ro dd gt x m2 m3 m4 g wf wr wd wo w = t
  generalize val_main_v34 (F := Ideal) f ro dd gt x m2 m3 m4 g wf wr wd wo w = s
  pointwise []

end Cert.Reference4Ideal.MergeRef

end
-- ==== Proof.MergeArray.lean ====
/- The merge's three result arrays over the extended reals, entry by entry in the arguments. -/
module

public import proofs.«01_k».proof.Proof.MergeBlock
public import proofs.«01_k».proof.Proof.MergeRef
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.MergeArray

open Cert.Kernel4Ideal Cert.Kernel4Ideal.Gen Cert.Kernel4Ideal.MergePoint Cert.Kernel4Ideal.MergeHost Cert.Kernel4Ideal.MergeBlock Cert.MergeMath
open Cert.Reference4Ideal.MergeRef (mergedAt hidAt logitAt)

variable (m : (ℓ : Loc nD τ sig) → Buf (Elt Ideal) ℓ) (c : Dev nD)

/-- The batch of a row of the flattened tokens. -/
def batchOf (i : Fin 16384) : Fin 8 := ⟨i / 2048, by omega⟩
/-- The token of a row of the flattened tokens. -/
def tokenOf (i : Fin 16384) : Fin 2048 := ⟨i % 2048, by omega⟩

theorem batchOf_row (b : Fin 8) (n : Fin 2048) : batchOf (row b n) = b := Fin.ext (by unfold batchOf row; dsimp only; omega)
theorem tokenOf_row (b : Fin 8) (n : Fin 2048) : tokenOf (row b n) = n := Fin.ext (by unfold tokenOf row; dsimp only; omega)

/-- The merged tokens. -/
def result14 : FVec Ideal S16384x1024 .f32 := fun i => mergedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (batchOf (i 0)) (tokenOf (i 0)) (i 1)
/-- The modulated tokens. -/
def result15 : FVec Ideal S16384x1024 .bf16 := fun i => hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (batchOf (i 0)) (tokenOf (i 0)) (i 1)
/-- The router's affinities. -/
def result16 : FVec Ideal S8x16x2048 .f32 := fun i => soft (logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (i 0) (i 2)) (i 1)

/-- The norm's shift, scale and gain and the router's weights are real. -/
def Reals : Prop :=
  (∀ i, ∃ r : ℝ, (show FVec Ideal S8x1x1024 .f32 from (m ((c : Thread nD τ).loc main_arg6))) i = (r : EReal))
  ∧ (∀ i, ∃ r : ℝ, (show FVec Ideal S8x1x1024 .f32 from (m ((c : Thread nD τ).loc main_arg7))) i = (r : EReal))
  ∧ (∀ i, ∃ r : ℝ, (show FVec Ideal S1024 .f32 from (m ((c : Thread nD τ).loc main_arg8))) i = (r : EReal))
  ∧ (∀ i, ∃ r : ℝ, (show FVec Ideal S1024x16 .f32 from (m ((c : Thread nD τ).loc main_arg13))) i = (r : EReal))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 2, 0, 0] ∧ win0_6.index t = ![t.val / 2, 0, 0]
    ∧ win0_7.index t = ![t.val / 2, 0, 0] ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![t.val, 0] ∧ win0_15.index t = ![t.val, 0] ∧ win0_16.index t = ![t.val / 2, 0, t.val % 2] :=
  (by decide +kernel : ∀ t : Fin grid0.N, _)

theorem lt_N (t : Fin cfg0.N) : t.val < 16 := lt_of_lt_of_eq t.isLt rfl

/-- The batch of a grid point. -/
def bat (t : Fin cfg0.N) : Fin 8 := ⟨t.val / 2, by have := lt_N t; omega⟩
/-- The token at row `r` of a grid point's block. -/
def tok (t : Fin cfg0.N) (r : Fin 1024) : Fin 2048 := ⟨t.val % 2 * 1024 + r, by omega⟩

theorem emb0 (t : Fin cfg0.N) (r : Fin 1024) (i : Fin 512) : ((cfg0.win 0).blk t).view.emb (ix2 r i) = (ix2 (row (bat t) (tok t r)) i : S16384x512.Idx) := by
  have := lt_N t
  try unfold row
  try unfold tok
  try unfold bat
  blk_ext [idx t]

theorem blk0 (t : Fin cfg0.N) (r : Fin 1024) (i : Fin 512) : (iblk m c 0 t : Vec Ideal S1024x512 .bf16) (ix2 r i) = (show FVec Ideal S8x2048x512 .f32 from (m ((c : Thread nD τ).loc main_arg0))) (ix3 (bat t) (tok t r) i) := by
  have key : ∀ X : (b : Ref sig .tc) → Buf (Elt Ideal) ((c : Thread nD τ).loc b),
      ((cfg0.win 0).blk t).view.read (Elt Ideal) (X (Pipeline.arrRef spec0 0)) (ix2 r i) = X main_v7 (ix2 (row (bat t) (tok t r)) i) :=
    fun X => congrArg (X main_v7) (emb0 t r i)
  exact (key (V m c)).trans (f_at m c _ _ _)

theorem emb1 (t : Fin cfg0.N) (r : Fin 1024) (i : Fin 512) : ((cfg0.win 1).blk t).view.emb (ix2 r i) = (ix2 (row (bat t) (tok t r)) i : S16384x512.Idx) := by
  have := lt_N t
  try unfold row
  try unfold tok
  try unfold bat
  blk_ext [idx t]

theorem blk1 (t : Fin cfg0.N) (r : Fin 1024) (i : Fin 512) : (iblk m c 1 t : Vec Ideal S1024x512 .bf16) (ix2 r i) = (show FVec Ideal S8x2048x512 .f32 from (m ((c : Thread nD τ).loc main_arg1))) (ix3 (bat t) (tok t r) i) := by
  have key : ∀ X : (b : Ref sig .tc) → Buf (Elt Ideal) ((c : Thread nD τ).loc b),
      ((cfg0.win 1).blk t).view.read (Elt Ideal) (X (Pipeline.arrRef spec0 1)) (ix2 r i) = X main_v9 (ix2 (row (bat t) (tok t r)) i) :=
    fun X => congrArg (X main_v9) (emb1 t r i)
  exact (key (V m c)).trans (ro_at m c _ _ _)

theorem emb2 (t : Fin cfg0.N) (r : Fin 1024) (i : Fin 512) : ((cfg0.win 2).blk t).view.emb (ix2 r i) = (ix2 (row (bat t) (tok t r)) i : S16384x512.Idx) := by
  have := lt_N t
  try unfold row
  try unfold tok
  try unfold bat
  blk_ext [idx t]

theorem blk2 (t : Fin cfg0.N) (r : Fin 1024) (i : Fin 512) : (iblk m c 2 t : Vec Ideal S1024x512 .bf16) (ix2 r i) = (show FVec Ideal S8x2048x512 .f32 from (m ((c : Thread nD τ).loc main_arg2))) (ix3 (bat t) (tok t r) i) := by
  have key : ∀ X : (b : Ref sig .tc) → Buf (Elt Ideal) ((c : Thread nD τ).loc b),
      ((cfg0.win 2).blk t).view.read (Elt Ideal) (X (Pipeline.arrRef spec0 2)) (ix2 r i) = X main_v11 (ix2 (row (bat t) (tok t r)) i) :=
    fun X => congrArg (X main_v11) (emb2 t r i)
  exact (key (V m c)).trans (do_at m c _ _ _)

theorem emb3 (t : Fin cfg0.N) (r : Fin 1024) (j : Fin 3072) : ((cfg0.win 3).blk t).view.emb (ix2 r j) = (ix2 (row (bat t) (tok t r)) j : S16384x3072.Idx) := by
  have := lt_N t
  try unfold row
  try unfold tok
  try unfold bat
  blk_ext [idx t]

theorem blk3 (t : Fin cfg0.N) (r : Fin 1024) (j : Fin 3072) : (iblk m c 3 t : Vec Ideal S1024x3072 .bf16) (ix2 r j) = (show FVec Ideal S8x2048x3072 .f32 from (m ((c : Thread nD τ).loc main_arg3))) (ix3 (bat t) (tok t r) j) := by
  have key : ∀ X : (b : Ref sig .tc) → Buf (Elt Ideal) ((c : Thread nD τ).loc b),
      ((cfg0.win 3).blk t).view.read (Elt Ideal) (X (Pipeline.arrRef spec0 3)) (ix2 r j) = X main_v13 (ix2 (row (bat t) (tok t r)) j) :=
    fun X => congrArg (X main_v13) (emb3 t r j)
  exact (key (V m c)).trans (gt_at m c _ _ _)

theorem emb4 (t : Fin cfg0.N) (r j : Fin 1024) : ((cfg0.win 4).blk t).view.emb (ix2 r j) = (ix2 (row (bat t) (tok t r)) j : S16384x1024.Idx) := by
  have := lt_N t
  try unfold row
  try unfold tok
  try unfold bat
  blk_ext [idx t]

theorem blk4 (t : Fin cfg0.N) (r j : Fin 1024) : (iblk m c 4 t : Vec Ideal S1024x1024 .f32) (ix2 r j) = (show FVec Ideal S8x2048x1024 .f32 from (m ((c : Thread nD τ).loc main_arg4))) (ix3 (bat t) (tok t r) j) := by
  have key : ∀ X : (b : Ref sig .tc) → Buf (Elt Ideal) ((c : Thread nD τ).loc b),
      ((cfg0.win 4).blk t).view.read (Elt Ideal) (X (Pipeline.arrRef spec0 4)) (ix2 r j) = X main_v14 (ix2 (row (bat t) (tok t r)) j) :=
    fun X => congrArg (X main_v14) (emb4 t r j)
  exact (key (V m c)).trans (x_at m c _ _ _)

theorem emb5 (t : Fin cfg0.N) (k : Fin 1024) : ((cfg0.win 5).blk t).view.emb (ix3 0 0 k) = (ix3 (bat t) 0 k : S8x1x1024.Idx) := by
  have := lt_N t
  try unfold row
  try unfold tok
  try unfold bat
  blk_ext [idx t]

theorem blk5 (t : Fin cfg0.N) (k : Fin 1024) : (iblk m c 5 t : Vec Ideal S1x1x1024 .f32) (ix3 0 0 k) = (show FVec Ideal S8x1x1024 .f32 from (m ((c : Thread nD τ).loc main_arg5))) (ix3 (bat t) 0 k) := by
  have key : ∀ X : (b : Ref sig .tc) → Buf (Elt Ideal) ((c : Thread nD τ).loc b),
      ((cfg0.win 5).blk t).view.read (Elt Ideal) (X (Pipeline.arrRef spec0 5)) (ix3 0 0 k) = X main_arg5 (ix3 (bat t) 0 k) :=
    fun X => congrArg (X main_arg5) (emb5 t k)
  exact (key (V m c)).trans (congrFun (V_main_arg5 m c) _)

theorem emb6 (t : Fin cfg0.N) (k : Fin 1024) : ((cfg0.win 6).blk t).view.emb (ix3 0 0 k) = (ix3 (bat t) 0 k : S8x1x1024.Idx) := by
  have := lt_N t
  try unfold row
  try unfold tok
  try unfold bat
  blk_ext [idx t]

theorem blk6 (t : Fin cfg0.N) (k : Fin 1024) : (iblk m c 6 t : Vec Ideal S1x1x1024 .f32) (ix3 0 0 k) = (show FVec Ideal S8x1x1024 .f32 from (m ((c : Thread nD τ).loc main_arg6))) (ix3 (bat t) 0 k) := by
  have key : ∀ X : (b : Ref sig .tc) → Buf (Elt Ideal) ((c : Thread nD τ).loc b),
      ((cfg0.win 6).blk t).view.read (Elt Ideal) (X (Pipeline.arrRef spec0 6)) (ix3 0 0 k) = X main_arg6 (ix3 (bat t) 0 k) :=
    fun X => congrArg (X main_arg6) (emb6 t k)
  exact (key (V m c)).trans (congrFun (V_main_arg6 m c) _)

theorem emb7 (t : Fin cfg0.N) (k : Fin 1024) : ((cfg0.win 7).blk t).view.emb (ix3 0 0 k) = (ix3 (bat t) 0 k : S8x1x1024.Idx) := by
  have := lt_N t
  try unfold row
  try unfold tok
  try unfold bat
  blk_ext [idx t]

theorem blk7 (t : Fin cfg0.N) (k : Fin 1024) : (iblk m c 7 t : Vec Ideal S1x1x1024 .f32) (ix3 0 0 k) = (show FVec Ideal S8x1x1024 .f32 from (m ((c : Thread nD τ).loc main_arg7))) (ix3 (bat t) 0 k) := by
  have key : ∀ X : (b : Ref sig .tc) → Buf (Elt Ideal) ((c : Thread nD τ).loc b),
      ((cfg0.win 7).blk t).view.read (Elt Ideal) (X (Pipeline.arrRef spec0 7)) (ix3 0 0 k) = X main_arg7 (ix3 (bat t) 0 k) :=
    fun X => congrArg (X main_arg7) (emb7 t k)
  exact (key (V m c)).trans (congrFun (V_main_arg7 m c) _)

theorem emb8 (t : Fin cfg0.N) (k : Fin 1024) : ((cfg0.win 8).blk t).view.emb (ix2 0 k) = (ix2 0 k : S1x1024.Idx) := by
  have := lt_N t
  try unfold row
  try unfold tok
  try unfold bat
  blk_ext [idx t]

theorem blk8 (t : Fin cfg0.N) (k : Fin 1024) : (iblk m c 8 t : Vec Ideal S1x1024 .f32) (ix2 0 k) = (show FVec Ideal S1024 .f32 from (m ((c : Thread nD τ).loc main_arg8))) (ix1 k) := by
  have key : ∀ X : (b : Ref sig .tc) → Buf (Elt Ideal) ((c : Thread nD τ).loc b),
      ((cfg0.win 8).blk t).view.read (Elt Ideal) (X (Pipeline.arrRef spec0 8)) (ix2 0 k) = X main_v15 (ix2 0 k) :=
    fun X => congrArg (X main_v15) (emb8 t k)
  exact (key (V m c)).trans (g_at m c _)

theorem emb9 (t : Fin cfg0.N) (i : Fin 512) (k : Fin 1024) : ((cfg0.win 9).blk t).view.emb (ix2 i k) = (ix2 i k : S512x1024.Idx) := by
  have := lt_N t
  try unfold row
  try unfold tok
  try unfold bat
  blk_ext [idx t]

theorem blk9 (t : Fin cfg0.N) (i : Fin 512) (k : Fin 1024) : (iblk m c 9 t : Vec Ideal S512x1024 .bf16) (ix2 i k) = (show FVec Ideal S512x1024 .f32 from (m ((c : Thread nD τ).loc main_arg9))) (ix2 i k) := by
  have key : ∀ X : (b : Ref sig .tc) → Buf (Elt Ideal) ((c : Thread nD τ).loc b),
      ((cfg0.win 9).blk t).view.read (Elt Ideal) (X (Pipeline.arrRef spec0 9)) (ix2 i k) = X main_v16 (ix2 i k) :=
    fun X => congrArg (X main_v16) (emb9 t i k)
  exact (key (V m c)).trans (wf_at m c _ _)

theorem emb10 (t : Fin cfg0.N) (i : Fin 512) (k : Fin 1024) : ((cfg0.win 10).blk t).view.emb (ix2 i k) = (ix2 i k : S512x1024.Idx) := by
  have := lt_N t
  try unfold row
  try unfold tok
  try unfold bat
  blk_ext [idx t]

theorem blk10 (t : Fin cfg0.N) (i : Fin 512) (k : Fin 1024) : (iblk m c 10 t : Vec Ideal S512x1024 .bf16) (ix2 i k) = (show FVec Ideal S512x1024 .f32 from (m ((c : Thread nD τ).loc main_arg10))) (ix2 i k) := by
  have key : ∀ X : (b : Ref sig .tc) → Buf (Elt Ideal) ((c : Thread nD τ).loc b),
      ((cfg0.win 10).blk t).view.read (Elt Ideal) (X (Pipeline.arrRef spec0 10)) (ix2 i k) = X main_v17 (ix2 i k) :=
    fun X => congrArg (X main_v17) (emb10 t i k)
  exact (key (V m c)).trans (wr_at m c _ _)

theorem emb11 (t : Fin cfg0.N) (i : Fin 512) (k : Fin 1024) : ((cfg0.win 11).blk t).view.emb (ix2 i k) = (ix2 i k : S512x1024.Idx) := by
  have := lt_N t
  try unfold row
  try unfold tok
  try unfold bat
  blk_ext [idx t]

theorem blk11 (t : Fin cfg0.N) (i : Fin 512) (k : Fin 1024) : (iblk m c 11 t : Vec Ideal S512x1024 .bf16) (ix2 i k) = (show FVec Ideal S512x1024 .f32 from (m ((c : Thread nD τ).loc main_arg11))) (ix2 i k) := by
  have key : ∀ X : (b : Ref sig .tc) → Buf (Elt Ideal) ((c : Thread nD τ).loc b),
      ((cfg0.win 11).blk t).view.read (Elt Ideal) (X (Pipeline.arrRef spec0 11)) (ix2 i k) = X main_v18 (ix2 i k) :=
    fun X => congrArg (X main_v18) (emb11 t i k)
  exact (key (V m c)).trans (wd_at m c _ _)

theorem emb12 (t : Fin cfg0.N) (k j : Fin 1024) : ((cfg0.win 12).blk t).view.emb (ix2 k j) = (ix2 k j : S1024x1024.Idx) := by
  have := lt_N t
  try unfold row
  try unfold tok
  try unfold bat
  blk_ext [idx t]

theorem blk12 (t : Fin cfg0.N) (k j : Fin 1024) : (iblk m c 12 t : Vec Ideal S1024x1024 .bf16) (ix2 k j) = (show FVec Ideal S1024x1024 .f32 from (m ((c : Thread nD τ).loc main_arg12))) (ix2 k j) := by
  have key : ∀ X : (b : Ref sig .tc) → Buf (Elt Ideal) ((c : Thread nD τ).loc b),
      ((cfg0.win 12).blk t).view.read (Elt Ideal) (X (Pipeline.arrRef spec0 12)) (ix2 k j) = X main_v19 (ix2 k j) :=
    fun X => congrArg (X main_v19) (emb12 t k j)
  exact (key (V m c)).trans (wo_at m c _ _)

theorem emb13 (t : Fin cfg0.N) (k : Fin 1024) (j : Fin 256) : ((cfg0.win 13).blk t).view.emb (ix2 k j) = (ix2 k j : S1024x256.Idx) := by
  have := lt_N t
  try unfold row
  try unfold tok
  try unfold bat
  blk_ext [idx t]

theorem blk13 (t : Fin cfg0.N) (k : Fin 1024) (j : Fin 256) : (iblk m c 13 t : Vec Ideal S1024x256 .bf16) (ix2 k j)
    = (show FVec Ideal S1024x256 .bf16 from V m c main_v5) (ix2 k j) := by
  have key : ∀ X : (b : Ref sig .tc) → Buf (Elt Ideal) ((c : Thread nD τ).loc b),
      ((cfg0.win 13).blk t).view.read (Elt Ideal) (X (Pipeline.arrRef spec0 13)) (ix2 k j) = X main_v5 (ix2 k j) :=
    fun X => congrArg (X main_v5) (emb13 t k j)
  exact key (V m c)

theorem merged_at (t : Fin cfg0.N) (r : Fin 1024) : mergedRow (iblk m c 0 t) (iblk m c 1 t) (iblk m c 2 t) (iblk m c 3 t) (iblk m c 4 t) (iblk m c 5 t) (iblk m c 9 t) (iblk m c 10 t) (iblk m c 11 t) (iblk m c 12 t) r
    = mergedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (bat t) (tok t r) := by
  funext j
  unfold mergedRow mergedAt
  simp only [blk0, blk1, blk2, blk3, blk4, blk5, blk9, blk10, blk11, blk12]

theorem hid_at (t : Fin cfg0.N) (r : Fin 1024) : hidRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r
    = hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (bat t) (tok t r) := by
  funext j
  unfold hidRow hidAt
  rw [merged_at]
  simp only [blk6, blk7, blk8]

/-- The lanes of a row of the block are the token's products with the router's weights, and minus infinity past the experts. -/
theorem lanes_low (h : Reals m c) (t : Fin cfg0.N) (r : Fin 1024) (e : Fin 16) : lanesRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r ⟨e, by omega⟩
    = logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (bat t) (tok t r) e := by
  obtain ⟨h6, h7, h8, h13⟩ := h
  unfold lanesRow
  rw [hid_at, if_pos (show ((⟨e, by omega⟩ : Fin 128) : ℕ) < 16 from e.isLt)]
  have e1 : ∀ k : Fin 1024, (iblk m c 13 t : Vec Ideal S1024x256 .bf16) (ix2 k ⟨e, by omega⟩)
      = (show FVec Ideal S1024x16 .f32 from (m ((c : Thread nD τ).loc main_arg13))) (ix2 k e) := fun k => (blk13 m c t k _).trans (hi_at m c k e)
  have e2 : ∀ k : Fin 1024, (iblk m c 13 t : Vec Ideal S1024x256 .bf16) (ix2 k ⟨128 + e, by omega⟩)
      = (show FVec Ideal S1024x16 .f32 from (m ((c : Thread nD τ).loc main_arg13))) (ix2 k e) - (show FVec Ideal S1024x16 .f32 from (m ((c : Thread nD τ).loc main_arg13))) (ix2 k e) := fun k => (blk13 m c t k _).trans (lo_at m c k e)
  simp only [e1, e2]
  unfold logitAt
  refine low_parts (hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (bat t) (tok t r)) (fun k => (show FVec Ideal S1024x16 .f32 from (m ((c : Thread nD τ).loc main_arg13))) (ix2 k e)) (fun k => ?_) fun k => h13 _
  exact hid_real _ _ _ _ k (h8 _) (h7 _) (h6 _)

theorem lanes_high (t : Fin cfg0.N) (r : Fin 1024) (j : Fin 112) : lanesRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r ⟨16 + j, by omega⟩ = ⊥ := by
  unfold lanesRow
  rw [if_neg (by dsimp only; omega)]

theorem emb14 (t : Fin cfg0.N) (r j : Fin 1024) : ((cfg0.win 14).blk t).view.emb (ix2 r j) = (ix2 (row (bat t) (tok t r)) j : S16384x1024.Idx) := by
  have := lt_N t
  try unfold row
  try unfold tok
  try unfold bat
  blk_ext [idx t]

theorem point14 (t : Fin cfg0.N) (y : S1024x1024.Idx) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = result14 m c (((cfg0.win 14).blk t).view.emb y) := by
  obtain ⟨r, j, rfl⟩ : ∃ (r : Fin 1024) (j : Fin 1024), y = ix2 r j := ⟨y 0, y 1, by funext k; match k with | ⟨0, _⟩ => rfl | ⟨1, _⟩ => rfl⟩
  rw [emb14]
  refine (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j).trans ?_
  show _ = mergedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (batchOf (row (bat t) (tok t r))) (tokenOf (row (bat t) (tok t r))) j
  rw [batchOf_row, tokenOf_row, merged_at]

/-- After the run the array of window 14 is `result14`. -/
theorem final14 : (dats m 0 c).arrAt 14 cfg0.N = result14 m c := by
  refine (dats m 0 c).arrAt_eq_of_covers 14 _ (by decide +kernel) fun t _ y => ?_
  blk_simp
  rw [after0_14]
  exact point14 m c t y

theorem emb15 (t : Fin cfg0.N) (r j : Fin 1024) : ((cfg0.win 15).blk t).view.emb (ix2 r j) = (ix2 (row (bat t) (tok t r)) j : S16384x1024.Idx) := by
  have := lt_N t
  try unfold row
  try unfold tok
  try unfold bat
  blk_ext [idx t]

theorem point15 (t : Fin cfg0.N) (y : S1024x1024.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = result15 m c (((cfg0.win 15).blk t).view.emb y) := by
  obtain ⟨r, j, rfl⟩ : ∃ (r : Fin 1024) (j : Fin 1024), y = ix2 r j := ⟨y 0, y 1, by funext k; match k with | ⟨0, _⟩ => rfl | ⟨1, _⟩ => rfl⟩
  rw [emb15]
  refine (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j).trans ?_
  show _ = hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (batchOf (row (bat t) (tok t r))) (tokenOf (row (bat t) (tok t r))) j
  rw [batchOf_row, tokenOf_row, hid_at]

/-- After the run the array of window 15 is `result15`. -/
theorem final15 : (dats m 0 c).arrAt 15 cfg0.N = result15 m c := by
  refine (dats m 0 c).arrAt_eq_of_covers 15 _ (by decide +kernel) fun t _ y => ?_
  blk_simp
  rw [after0_15]
  exact point15 m c t y

theorem emb16 (t : Fin cfg0.N) (e : Fin 16) (r : Fin 1024) : ((cfg0.win 16).blk t).view.emb (ix3 0 e r) = (ix3 (bat t) e (tok t r) : S8x16x2048.Idx) := by
  have := lt_N t
  try unfold row
  try unfold tok
  try unfold bat
  blk_ext [idx t]

theorem point16 (h : Reals m c) (t : Fin cfg0.N) (y : S1x16x1024.Idx) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = result16 m c (((cfg0.win 16).blk t).view.emb y) := by
  obtain ⟨a, e, r, rfl⟩ : ∃ (a : Fin 1) (e : Fin 16) (r : Fin 1024), y = ix3 a e r :=
    ⟨y 0, y 1, y 2, by funext k; match k with | ⟨0, _⟩ => rfl | ⟨1, _⟩ => rfl | ⟨2, _⟩ => rfl⟩
  obtain rfl : a = 0 := Subsingleton.elim _ _
  rw [emb16]
  refine (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) e r).trans ?_
  exact soft_lanes _ _ (fun e => lanes_low m c h t r e) (fun j => lanes_high m c t r j) e

/-- After the run the array of window 16 is `result16`. -/
theorem final16 (h : Reals m c) : (dats m 0 c).arrAt 16 cfg0.N = result16 m c := by
  refine (dats m 0 c).arrAt_eq_of_covers 16 _ (by decide +kernel) fun t _ y => ?_
  blk_simp
  rw [after0_16]
  exact point16 m c h t y

/-- The three arrays are the reference's. -/
theorem result14_eq : result14 m c = Cert.Reference4Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  funext i
  obtain ⟨r, j, rfl⟩ : ∃ (r : Fin 16384) (j : Fin 1024), i = ix2 r j := ⟨i 0, i 1, eq_ix2 i⟩
  refine (Cert.Reference4Ideal.MergeRef.merged_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (batchOf r) (tokenOf r) j).symm.trans ?_
  unfold Cert.Reference4Ideal.Read.val_main_v46
  generalize Cert.Reference4Ideal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) = y
  pointwise [batchOf, tokenOf]

theorem result15_eq : result15 m c = Cert.Reference4Ideal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨r, j, rfl⟩ : ∃ (r : Fin 16384) (j : Fin 1024), i = ix2 r j := ⟨i 0, i 1, eq_ix2 i⟩
  refine (Cert.Reference4Ideal.MergeRef.hid_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (batchOf r) (tokenOf r) j).symm.trans ?_
  unfold Cert.Reference4Ideal.Read.val_main_v48 Cert.Reference4Ideal.Read.val_main_v47
  generalize Cert.Reference4Ideal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = y
  pointwise [batchOf, tokenOf]

theorem result16_eq : result16 m c = Cert.Reference4Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨b, e, n, rfl⟩ : ∃ (b : Fin 8) (e : Fin 16) (n : Fin 2048), i = ix3 b e n :=
    ⟨i 0, i 1, i 2, by funext k; match k with | ⟨0, _⟩ => rfl | ⟨1, _⟩ => rfl | ⟨2, _⟩ => rfl⟩
  refine (Cert.Reference4Ideal.MergeRef.aff_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b n e).symm.trans ?_
  unfold Cert.Reference4Ideal.Read.val_main_v49
  generalize Cert.Reference4Ideal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = y
  pointwise []

end Cert.Kernel4Ideal.MergeArray

end
-- ==== Proof.MergeClaim.lean ====
/- The merge's precondition: the arrays that it names are real everywhere. -/
module

public import proofs.«01_k».proof.Proof.AttnFinal
public import proofs.«01_k».proof.Proof.MergeArray
public import proofs.«01_k».proof.Proof.Gen.Pre_finite_merge

@[expose] public section

set_option maxRecDepth 16384

noncomputable section

open Idealize.ShloMosaic Idealize.ShloMosaic.TcCoe Idealize.SL.Sem
open Idealize.ShloMosaic.Pipeline (Dat)

namespace Cert.MergeClaim

open Cert.Kernel4Ideal Cert.Kernel4Ideal.Gen

variable (m : (ℓ : Loc nD τ sig) → Buf (Elt Ideal) ℓ)

theorem reals (h : Cert.Pre_Kernel4Ideal_finite_merge (hPre_finite_merge := Cert.Pre_finite_merge.Gen.facts) m) (c : Dev nD) :
    Cert.Kernel4Ideal.MergeArray.Reals m c := by
  obtain ⟨h6, h7, h8, h13⟩ := h c
  exact ⟨fun i => Cert.AttnFinal.real_of_lt (congrFun h6 i), fun i => Cert.AttnFinal.real_of_lt (congrFun h7 i),
    fun i => Cert.AttnFinal.real_of_lt (congrFun h8 i), fun i => Cert.AttnFinal.real_of_lt (congrFun h13 i)⟩

end Cert.MergeClaim

end
-- ==== Proof.FfnBody.lean ====
/- The expert kernel's body, case by case: what each kind of grid point leaves in the two scratch buffers and in the
   result's staging buffer. -/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Claim
public import Idealize.ShloMosaic.Lib.Pointwise.Index
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The test a point makes to find out whether it is its expert's first. -/
abbrev isFirst (i : grid0.Coords) : BitVec 1 :=
  Scalar.cmpi .ne (Scalar.extui (Scalar.cmpi .eq (BitVec.ofNat 32 (i 1).val) 0#32)) 0#32

/-- The hidden scratch with chunk `j` replaced by `w`. -/
def putChunk (j : ℕ) (w : Vec F S1x2048x512 .bf16) (Z : Vec F S4x2048x512 .bf16) : Vec F S4x2048x512 .bf16 :=
  fun y => if (y 0).val = j then w (ix3 0 (y 1) (y 2) : S1x2048x512.Idx) else Z y

/-- What a store of one chunk leaves in the hidden scratch. -/
theorem read_putChunk (v : View sig .tc .vmem S4x2048x512 .bf16) (f : v.ty.Contents (Elt F)) (i : grid0.Coords) (h)
    (w : Vec F S1x2048x512 .bf16) :
    v.read (Elt F) (v.writes (Elt F) f [⟨Rect.unit (s := S4x2048x512) (k0_off1 i) S1x2048x512.size h, w⟩])
      = putChunk (i 1).val w (v.read (Elt F) f) := by
  funext y
  unfold putChunk
  by_cases hy : (y 0).val = (i 1).val
  · rw [if_pos hy]
    refine View.read_writes_cons_unit_of_mem v f h w [] y (ix3 0 (y 1) (y 2) : S1x2048x512.Idx) (k0_off1_eq i) ?_
    intro a
    fin_cases a
    · exact hy
    · exact (Nat.zero_add _).symm
    · exact (Nat.zero_add _).symm
  · rw [if_neg hy]
    refine View.read_writes_cons_unit_of_not_mem v f h w [] y (k0_off1_eq i) 0 ?_
    show (y 0).val < (i 1).val ∨ (i 1).val + 1 ≤ (y 0).val
    omega

/-- The result block of a down-projection point, from the four hidden chunks and the expert's weight block. -/
def downOut (Z : Vec F S4x2048x512 .bf16) (x3 : Vec F S1x1x2048x512 .f32) : FVec F S8x1x256x512 .bf16 :=
  k0_pay3 (k0_pay4
    (View.ld Z (Rect.unit (s := S4x2048x512) ![0, 0, 0] S1x2048x512.size inb_S4x2048x512_S1x2048x512_0_0_0))
    (View.ld x3 (Rect.unit (s := S1x1x2048x512) ![0, 0, 0, 0] S1x1x512x512.size inb_S1x1x2048x512_S1x1x512x512_0_0_0_0))
    (View.ld Z (Rect.unit (s := S4x2048x512) ![1, 0, 0] S1x2048x512.size inb_S4x2048x512_S1x2048x512_1_0_0))
    (View.ld x3 (Rect.unit (s := S1x1x2048x512) ![0, 0, 512, 0] S1x1x512x512.size inb_S1x1x2048x512_S1x1x512x512_0_0_512_0))
    (View.ld Z (Rect.unit (s := S4x2048x512) ![2, 0, 0] S1x2048x512.size inb_S4x2048x512_S1x2048x512_2_0_0))
    (View.ld x3 (Rect.unit (s := S1x1x2048x512) ![0, 0, 1024, 0] S1x1x512x512.size inb_S1x1x2048x512_S1x1x512x512_0_0_1024_0))
    (View.ld Z (Rect.unit (s := S4x2048x512) ![3, 0, 0] S1x2048x512.size inb_S4x2048x512_S1x2048x512_3_0_0))
    (View.ld x3 (Rect.unit (s := S1x1x2048x512) ![0, 0, 1536, 0] S1x1x512x512.size inb_S1x1x2048x512_S1x1x512x512_0_0_1536_0)))

variable (c : Dev nD) (E : Set ℕ) (i : grid0.Coords) (arg2 : Memref sig .tc .vmem S8x1x256x1024 .bf16) (harg2 : arg2.IsWhole)
  (arg3 : Memref sig .tc .vmem S1x1x1024x512 .f32) (harg3 : arg3.IsWhole) (arg4 : Memref sig .tc .vmem S1x1x1024x512 .f32) (harg4 : arg4.IsWhole)
  (arg5 : Memref sig .tc .vmem S1x1x2048x512 .f32) (harg5 : arg5.IsWhole) (arg6 : Memref sig .tc .vmem S8x1x256x512 .bf16) (harg6 : arg6.IsWhole)
  (arg7 : Memref sig .tc .vmem S2048x1024 .bf16) (harg7 : arg7.IsWhole) (arg8 : Memref sig .tc .vmem S4x2048x512 .bf16) (harg8 : arg8.IsWhole)

/-- A down-projection point: the result's buffer is the sum of the four chunk products, the hidden scratch is only read. -/
theorem down_kernel (h1 : ¬ isFirst i = 1#1) (h2 : ¬ k0_cond2 i = 1#1) (h3 : k0_cond3 i = 1#1)
    (x3 : Vec F S1x1x2048x512 .f32) (Z : Vec F S4x2048x512 .bf16) (K : PUnit → sProp 𝕄) :
    iprop(owns (c : Thread nD τ) arg5 fullShare x3 ∗ (∃ d, owns (c : Thread nD τ) arg6 fullShare d) ∗ owns (c : Thread nD τ) arg8 fullShare Z
        ∗ (iprop(owns (c : Thread nD τ) arg5 fullShare x3 ∗ owns (c : Thread nD τ) arg6 fullShare (downOut Z x3) ∗ owns (c : Thread nD τ) arg8 fullShare Z) -∗ K ⟨⟩))
      ⊢ wp frame (wpE (defs₀ (F := F)) Variants.none c none) E
          (cc0_expert_ffn i arg2 harg2 arg3 harg3 arg4 harg4 arg5 harg5 arg6 harg6 arg7 harg7 arg8 harg8) K := by
  simp only [cc0_expert_ffn_eq_skeleton]; unfold cc0_expert_ffn_skel
  simp only [k0_part1_eq_skeleton]
  unfold owns
  iintro ⟨⟨%f5, %hf5, H5⟩, ⟨%d6, %f6, -, H6⟩, ⟨%f8, %hf8, H8⟩, Hk⟩
  subst hf5 hf8
  sl_exec
  sl_step
  iapply Hk
  isplitl [H5]
  · iexists f5; isplitr; · ipureintro; rfl
    iexact H5
  isplitl [H6]
  · iexists _; isplitr
    swap; · iexact H6
    ipureintro
    exact View.read_writes_full _ _ _ _ _
  iexists f8; isplitr; · ipureintro; rfl
  iexact H8

/-- A hidden point that is not its expert's first: one more chunk of the hidden scratch. -/
theorem mid_kernel (h1 : ¬ isFirst i = 1#1) (h2 : k0_cond2 i = 1#1) (h3 : ¬ k0_cond3 i = 1#1)
    (x1 x2 : Vec F S1x1x1024x512 .f32) (X : Vec F S2048x1024 .bf16) (Z : Vec F S4x2048x512 .bf16) (K : PUnit → sProp 𝕄) :
    iprop(owns (c : Thread nD τ) arg3 fullShare x1 ∗ owns (c : Thread nD τ) arg4 fullShare x2 ∗ owns (c : Thread nD τ) arg7 fullShare X ∗ owns (c : Thread nD τ) arg8 fullShare Z
        ∗ (iprop(owns (c : Thread nD τ) arg3 fullShare x1 ∗ owns (c : Thread nD τ) arg4 fullShare x2 ∗ owns (c : Thread nD τ) arg7 fullShare X ∗ owns (c : Thread nD τ) arg8 fullShare (putChunk (i 1).val (k0_pay2 X x1 x2) Z)) -∗ K ⟨⟩))
      ⊢ wp frame (wpE (defs₀ (F := F)) Variants.none c none) E
          (cc0_expert_ffn i arg2 harg2 arg3 harg3 arg4 harg4 arg5 harg5 arg6 harg6 arg7 harg7 arg8 harg8) K := by
  simp only [cc0_expert_ffn_eq_skeleton]; unfold cc0_expert_ffn_skel
  unfold owns
  iintro ⟨⟨%f3, %hf3, H3⟩, ⟨%f4, %hf4, H4⟩, ⟨%f7, %hf7, H7⟩, ⟨%f8, %hf8, H8⟩, Hk⟩
  subst hf3 hf4 hf7 hf8
  sl_exec
  sl_step
  iapply Hk
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  iexists _; isplitr
  swap; · iexact H8
  ipureintro
  refine (read_putChunk _ _ _ _ _).trans ?_
  exact congrArg (fun w => putChunk _ w _) (congr (congr (congrArg k0_pay2 (View.readAt_full _ _ _)) (View.readAt_full _ _ _)) (View.readAt_full _ _ _))

/-- An expert's first point: its tokens into the token scratch, and the first chunk of the hidden scratch. -/
theorem first_kernel (h1 : isFirst i = 1#1) (h2 : k0_cond2 i = 1#1) (h3 : ¬ k0_cond3 i = 1#1)
    (x0 : Vec F S8x1x256x1024 .bf16) (x1 x2 : Vec F S1x1x1024x512 .f32) (Z : Vec F S4x2048x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare Z
        ∗ (iprop(owns (c : Thread nD τ) arg2 fullShare x0 ∗ owns (c : Thread nD τ) arg3 fullShare x1 ∗ owns (c : Thread nD τ) arg4 fullShare x2 ∗ owns (c : Thread nD τ) arg7 fullShare (k0_pay1 x0) ∗ owns (c : Thread nD τ) arg8 fullShare (putChunk (i 1).val (k0_pay2 (k0_pay1 x0) x1 x2) Z)) -∗ K ⟨⟩))
      ⊢ wp frame (wpE (defs₀ (F := F)) Variants.none c none) E
          (cc0_expert_ffn i arg2 harg2 arg3 harg3 arg4 harg4 arg5 harg5 arg6 harg6 arg7 harg7 arg8 harg8) K := by
  simp only [cc0_expert_ffn_eq_skeleton]; unfold cc0_expert_ffn_skel
  unfold owns
  iintro ⟨⟨%f2, %hf2, H2⟩, ⟨%f3, %hf3, H3⟩, ⟨%f4, %hf4, H4⟩, ⟨%d7, %f7, -, H7⟩, ⟨%f8, %hf8, H8⟩, Hk⟩
  subst hf2 hf3 hf4 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (View.read_writes_full _ _ _ _ _).trans ?_
    exact congrArg k0_pay1 (View.readAt_full _ _ _)
  iexists _; isplitr
  swap; · iexact H8
  ipureintro
  refine (read_putChunk _ _ _ _ _).trans ?_
  exact congrArg (fun w => putChunk _ w _) (congr (congr (congrArg k0_pay2 ((View.readCov_full _ _ _ _ _).trans (congrArg k0_pay1 (View.readAt_full _ _ _)))) (View.readAt_full _ _ _)) (View.readAt_full _ _ _))

/-! ## The grid: point `6 e + j` is step `j` of expert `e` -/

theorem first_iff : ∀ t : Fin cfg0.N, isFirst (grid0.coords t) = 1#1 ↔ t.val % 6 = 0 := by decide +kernel
theorem up_iff : ∀ t : Fin cfg0.N, k0_cond2 (grid0.coords t) = 1#1 ↔ t.val % 6 < 4 := by decide +kernel
theorem down_iff : ∀ t : Fin cfg0.N, k0_cond3 (grid0.coords t) = 1#1 ↔ 4 ≤ t.val % 6 := by decide +kernel
theorem coord_one : ∀ t : Fin cfg0.N, ((grid0.coords t) 1).val = t.val % 6 := by decide +kernel
theorem idle_up : ∀ t : Fin cfg0.N, t.val % 6 < 4 → cfg0.idle 4 (cfg0.grid.coords t) = true ∧ (cfg0.win 4).flush t = false := by decide +kernel
theorem live_down : ∀ t : Fin cfg0.N, 4 ≤ t.val % 6 → cfg0.idle 4 (cfg0.grid.coords t) = false := by decide +kernel

theorem N_pos : 0 < cfg0.N := by decide +kernel

/-- The grid point numbered `n`. -/
def pt (n : ℕ) : Fin cfg0.N := ⟨n % cfg0.N, Nat.mod_lt _ N_pos⟩

theorem pt_of (t : Fin cfg0.N) (n : ℕ) (h : n = t.val) : pt n = t := Fin.ext (by subst h; exact Nat.mod_eq_of_lt t.isLt)

/-! ## The proof data -/

variable (m : (ℓ : Loc nD τ sig) → Buf (Elt F) ℓ) (ρ : Dev nD → PrngReg)

/-- Expert `e`'s tokens as the token scratch holds them. -/
def tokens (e : ℕ) : Vec F S2048x1024 .bf16 := k0_pay1 (iblk m c 0 (pt (6 * e)))

/-- Expert `e`'s hidden values, all four chunks, as the hidden scratch holds them. -/
def hidden (e : ℕ) : Vec F S4x2048x512 .bf16 := fun y =>
  k0_pay2 (tokens c m e) (iblk m c 1 (pt (6 * e + (y 0).val))) (iblk m c 2 (pt (6 * e + (y 0).val))) (ix3 0 (y 1) (y 2) : S1x2048x512.Idx)

/-- What the scratch buffers hold before point `n`: the current expert's tokens, once its first point is past, and the
    chunks of its hidden values computed so far. -/
def Held (n : ℕ) (X : Vec F S2048x1024 .bf16) (Z : Vec F S4x2048x512 .bf16) : Prop :=
  (n % 6 ≠ 0 → X = tokens c m (n / 6)) ∧ ∀ y : S4x2048x512.Idx, (y 0).val < n % 6 → Z y = hidden c m (n / 6) y

/-- The state carried between points. -/
def Carried (n : ℕ) : sProp 𝕄 :=
  iprop(∃ X Z, ⌜Held c m n X Z⌝ ∗ owns (c : Thread nD τ) (Memref.whole cc0_scratch0) fullShare X
    ∗ owns (c : Thread nD τ) (Memref.whole cc0_scratch1) fullShare Z ∗ ∃ r, prngReg c r)

theorem held_first (t : Fin cfg0.N) (h : t.val % 6 = 0) (Z : Vec F S4x2048x512 .bf16) :
    Held c m (t.val + 1) (k0_pay1 (iblk m c 0 t)) (putChunk ((grid0.coords t) 1).val (k0_pay2 (k0_pay1 (iblk m c 0 t)) (iblk m c 1 t) (iblk m c 2 t)) Z) := by
  have hd : (t.val + 1) / 6 = t.val / 6 := by omega
  have hp : pt (6 * (t.val / 6)) = t := pt_of t _ (by omega)
  refine ⟨fun _ => ?_, fun y hy => ?_⟩
  · unfold tokens; rw [hd, hp]
  · have hy0 : (y 0).val = 0 := by omega
    have hc := coord_one t
    unfold putChunk hidden tokens
    rw [if_pos (by rw [hc, h]; exact hy0), hd, hy0, Nat.add_zero, hp]

theorem held_mid (t : Fin cfg0.N) (h0 : t.val % 6 ≠ 0) (h4 : t.val % 6 < 4) (X : Vec F S2048x1024 .bf16) (Z : Vec F S4x2048x512 .bf16)
    (H : Held c m t.val X Z) :
    Held c m (t.val + 1) X (putChunk ((grid0.coords t) 1).val (k0_pay2 X (iblk m c 1 t) (iblk m c 2 t)) Z) := by
  have hd : (t.val + 1) / 6 = t.val / 6 := by omega
  have hX := H.1 h0
  refine ⟨fun _ => by rw [hd]; exact hX, fun y hy => ?_⟩
  have hc := coord_one t
  unfold putChunk
  by_cases hy0 : (y 0).val = t.val % 6
  · have hp : pt (6 * (t.val / 6) + (y 0).val) = t := pt_of t _ (by omega)
    unfold hidden
    rw [if_pos (by rw [hc]; exact hy0), hd, hp, hX]
  · rw [if_neg (by rw [hc]; exact hy0), hd]
    exact H.2 y (by omega)

theorem held_down (t : Fin cfg0.N) (h4 : 4 ≤ t.val % 6) (X : Vec F S2048x1024 .bf16) (Z : Vec F S4x2048x512 .bf16)
    (H : Held c m t.val X Z) : Z = hidden c m (t.val / 6) ∧ Held c m (t.val + 1) X Z := by
  have hZ : Z = hidden c m (t.val / 6) := funext fun y => H.2 y (by have : (y 0).val < 4 := (y 0).isLt; omega)
  refine ⟨hZ, fun h => ?_, fun y hy => ?_⟩
  · have hd : (t.val + 1) / 6 = t.val / 6 := by omega
    rw [hd]; exact H.1 (by omega)
  · have hd : (t.val + 1) / 6 = t.val / 6 := by omega
    rw [hd, hZ]

/-- The proof data of the one pipeline: each input's buffer at its block; the result's, where it is written, at the
    down projection of the expert's hidden values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => downOut (hidden c m (t.val / 6)) (iblk m c 3 t)
  Φ n := Carried c m n.val
  q _ := fullShare
  owed _ := 0

theorem A_eq (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = downOut (hidden c m (t.val / 6)) (iblk m c 3 t) := by dsimp only [dats]

theorem before_0 (t : Fin cfg0.N) (d) : (dats m 0 c).before 0 t d = iblk m c 0 t := before0_0_of m (dats m 0 c) (A_eq c m 0) (after_0 c m) t d
theorem before_1 (t : Fin cfg0.N) (d) : (dats m 0 c).before 1 t d = iblk m c 1 t := before0_1_of m (dats m 0 c) (A_eq c m 1) (after_1 c m) t d
theorem before_2 (t : Fin cfg0.N) (d) : (dats m 0 c).before 2 t d = iblk m c 2 t := before0_2_of m (dats m 0 c) (A_eq c m 2) (after_2 c m) t d
theorem before_3 (t : Fin cfg0.N) (d) : (dats m 0 c).before 3 t d = iblk m c 3 t := before0_3_of m (dats m 0 c) (A_eq c m 3) (after_3 c m) t d

/-! ## The body obligation -/

/-- What the body is handed at a point, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem leaves_live (t : Fin cfg0.N) (h : 4 ≤ t.val % 6) :
    (dats m 0 c).leavesExact 4 t = owns (c : Thread nD τ) (st0_4 t) fullShare ((dats m 0 c).after 4 t) := by
  unfold Dat.leavesExact; rw [live_down t h]

/-- The body at any point, by the three kinds of point. -/
theorem sound_body (t : Fin cfg0.N) :
    bodyPre c m t ⊢ wp frame (wpE (defs₀ (F := F)) Variants.none c none) Set.univ (bodyAt0 t) (fun _ => bodyPost c m t) := by
  unfold bodyPre bodyPost bodyAt0
  simp only [before_0, before_1, before_2, before_3]
  rw [show (dats m 0 c).Φ t.succ = Carried c m (t.val + 1) from rfl, show (dats m 0 c).Φ t.castSucc = Carried c m t.val from rfl,
    show (dats m 0 c).owesAt () t.succ = (dats m 0 c).owesAt () t.castSucc from rfl,
    after_0, after_1, after_2, after_3]
  unfold Carried
  iintro ⟨⟨%X, %Z, %hH, HX, HZ, Hr⟩, Ho, ⟨%d0, H0⟩, ⟨%d1, H1⟩, ⟨%d2, H2⟩, ⟨%d3, H3⟩, ⟨%d4, H4⟩⟩
  by_cases h4 : 4 ≤ t.val % 6
  · rw [leaves_live c m t h4, after_4]
    obtain ⟨hZ, hH'⟩ := held_down c m t h4 X Z hH
    iapply (down_kernel c Set.univ (grid0.coords t) _ _ _ _ _ _ _ _ _ _ _ _ _ _ (fun h => by have := (first_iff t).mp h; omega)
      (fun h => by have := (up_iff t).mp h; omega) ((down_iff t).mpr h4) (iblk m c 3 t) Z _)
    isplitl [H3]; · iexact H3
    isplitl [H4]; · iexists _; iexact H4
    isplitl [HZ]; · iexact HZ
    iintro ⟨H3, H4, HZ⟩
    isplitl [HX HZ Hr]
    · iexists X, Z
      isplitr; · ipureintro; exact hH'
      isplitl [HX]; · iexact HX
      isplitl [HZ]; · iexact HZ
      iexact Hr
    isplitl [Ho]; · iexact Ho
    isplitl [H0]; · iexact H0
    isplitl [H1]; · iexact H1
    isplitl [H2]; · iexact H2
    isplitl [H3]; · iexact H3
    rw [← hZ]
    iexact H4
  · have hi := idle_up t (by omega)
    rw [(dats m 0 c).leavesExact_idle 4 t hi.1 hi.2]
    by_cases h0 : t.val % 6 = 0
    · iapply (first_kernel c Set.univ (grid0.coords t) _ _ _ _ _ _ _ _ _ _ _ _ _ _ ((first_iff t).mpr h0)
        ((up_iff t).mpr (by omega)) (fun h => h4 ((down_iff t).mp h)) (iblk m c 0 t) (iblk m c 1 t) (iblk m c 2 t) Z _)
      isplitl [H0]; · iexact H0
      isplitl [H1]; · iexact H1
      isplitl [H2]; · iexact H2
      isplitl [HX]; · iexists _; iexact HX
      isplitl [HZ]; · iexact HZ
      iintro ⟨H0, H1, H2, HX, HZ⟩
      isplitl [HX HZ Hr]
      · iexists _, _
        isplitr; · ipureintro; exact held_first c m t h0 Z
        isplitl [HX]; · iexact HX
        isplitl [HZ]; · iexact HZ
        iexact Hr
      isplitl [Ho]; · iexact Ho
      isplitl [H0]; · iexact H0
      isplitl [H1]; · iexact H1
      isplitl [H2]; · iexact H2
      isplitl [H3]; · iexact H3
      iexists _; iexact H4
    · iapply (mid_kernel c Set.univ (grid0.coords t) _ _ _ _ _ _ _ _ _ _ _ _ _ _ (fun h => h0 ((first_iff t).mp h))
        ((up_iff t).mpr (by omega)) (fun h => h4 ((down_iff t).mp h)) (iblk m c 1 t) (iblk m c 2 t) X Z _)
      isplitl [H1]; · iexact H1
      isplitl [H2]; · iexact H2
      isplitl [HX]; · iexact HX
      isplitl [HZ]; · iexact HZ
      iintro ⟨H1, H2, HX, HZ⟩
      isplitl [HX HZ Hr]
      · iexists _, _
        isplitr; · ipureintro; exact held_mid c m t h0 (by omega) X Z hH
        isplitl [HX]; · iexact HX
        isplitl [HZ]; · iexact HZ
        iexact Hr
      isplitl [Ho]; · iexact Ho
      isplitl [H0]; · iexact H0
      isplitl [H1]; · iexact H1
      isplitl [H2]; · iexact H2
      isplitl [H3]; · iexact H3
      iexists _; iexact H4

theorem body_row (t : Fin cfg0.N) :
    defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, body_row]
  exact triple_restated (sound_body c m t) rfl .rfl fun _ => .rfl

/-! ## The run -/

/-- Before the first point nothing is asked of the scratch buffers, -/
theorem hin : Pipeline.ΦA (Val := Elt F) (U := UR sig nD τ) spec0 c ⊢ (dats m 0 c).Φ 0 := by
  rw [show (dats m 0 c).Φ 0 = Carried c m 0 from rfl]
  unfold Pipeline.ΦA Carried
  rw [scopedRest0_eq]
  simp only [owns_whole]
  iintro ⟨⟨⟨%X, HX⟩, ⟨%Z, HZ⟩⟩, Hr⟩
  iexists X, Z
  isplitr; · ipureintro; exact ⟨fun h => absurd rfl h, fun y hy => absurd hy (Nat.not_lt_zero _)⟩
  isplitl [HX]; · iexact HX
  isplitl [HZ]; · iexact HZ
  iexact Hr

/-- and after the last what they hold is forgotten. -/
theorem hout : (dats m 0 c).Φ (Fin.last cfg0.N) ⊢ Pipeline.ΦA (Val := Elt F) (U := UR sig nD τ) spec0 c := by
  rw [show (dats m 0 c).Φ (Fin.last cfg0.N) = Carried c m (Fin.last cfg0.N).val from rfl]
  unfold Pipeline.ΦA Carried
  rw [scopedRest0_eq]
  simp only [owns_whole]
  iintro ⟨%X, %Z, -, HX, HZ, Hr⟩
  isplitl [HX HZ]
  · isplitl [HX]; · iexists X; iexact HX
    iexists Z; iexact HZ
  iexact Hr

set_option backward.isDefEq.respectTransparency.types false in
set_option maxHeartbeats 800000 in
/-- Every run ends with each window's array at what the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation c m).loose) (hshare := fun c => (dats m 0 c).share_full fun _ => rfl)
    (howed := fun _ _ => rfl) (V := V m) (hmain := hmain m Variants.none) (hA := fun c => A_eq c m)
    (hin := fun c => hin c m) (hout := fun c => hout c m)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and every counter at zero. -/
theorem ends_unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (fun c => A_eq c m) (run_main m ρ))
    ((θ_run defs _ _).mono (fun _ h => h.2) (run_quiescent m ρ))

end Cert.Kernel2Ideal.Ffn

end
-- ==== Proof.FfnFrame.lean ====
/- The frames of the two expert programs, from the one run. -/
module

public import proofs.«01_k».proof.Defs
public import proofs.«01_k».proof.Proof.Gen.Kernel2
public import proofs.«01_k».proof.Proof.FfnBody

@[expose] public section

set_option maxRecDepth 65536

noncomputable section

open Idealize.ShloMosaic Idealize.ShloMosaic.TcCoe Idealize.SL.Sem

namespace Cert.Proof

attribute [local instance] Cert.Kernel2.Gen.facts Cert.Kernel2Ideal.Gen.facts

/-- The two programs' kernels are one text, -/
theorem ffn_kernels : Cert.Kernel2.cc0_expert_ffn (F := Bits) = Cert.Kernel2Ideal.cc0_expert_ffn := rfl

/-- so are the tables that call them, -/
theorem ffn_bodies : Cert.Kernel2.defs₀ (F := Bits) = Cert.Kernel2Ideal.defs₀ := by
  unfold Cert.Kernel2.defs₀ Cert.Kernel2Ideal.defs₀
  refine congrArg Defs.onTc ?_
  funext l x
  obtain ⟨l, hl⟩ := l
  cases l with
  | zero =>
    obtain ⟨t, s⟩ := x
    dsimp only
    rw [ffn_kernels]
    rfl
  | succ l => exact absurd hl (Nat.not_lt.2 (Nat.le_add_left _ _))

theorem ffn_defs : Cert.Kernel2.defs (F := Bits) = Cert.Kernel2Ideal.defs := by
  unfold Cert.Kernel2.defs Cert.Kernel2Ideal.defs
  rw [ffn_bodies]
  rfl

/-- and so are the programs. -/
theorem ffn_mains : Cert.Kernel2.main (F := Bits) = Cert.Kernel2Ideal.main := rfl

theorem ffn_frame_ideal : Cert.quiescent_Kernel2Ideal (hKernel2Ideal := Cert.Kernel2Ideal.Gen.facts) := fun m ρ _ =>
  Cert.Kernel2Ideal.Ffn.ends_unchanged m ρ

/-- The concrete program is the same text: the one run, read at bits. -/
theorem ffn_frame : Cert.quiescent_Kernel2 (hKernel2 := Cert.Kernel2.Gen.facts) := fun m ρ _ => by
  rw [ffn_defs, ffn_mains]
  exact Cert.Kernel2Ideal.Ffn.ends_unchanged (F := Bits) m ρ

end Cert.Proof

end
-- ==== Proof.FfnPoint.lean ====
/- The expert kernel's blocks, entry by entry, over the extended reals. -/
module

public import proofs.«01_k».proof.Proof.FfnBody
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.FfnPoint

open Cert.Kernel2Ideal Cert.Kernel2Ideal.Gen Cert.Kernel2Ideal.Ffn

/-- The row of the flattened tokens that holds slot `s` of batch `b`. -/
def row (b : Fin 8) (s : Fin 256) : Fin 2048 := ⟨b * 256 + s, by omega⟩

/-- The gated hidden value of a gate value and an up value. -/
def act (g u : EReal) : EReal := g * Ideal.div 1 (1 + Ideal.exp (-g)) * u

/-- The flattened tokens of an expert. -/
theorem pay1_at (x : FVec Ideal S8x1x256x1024 .bf16) (b : Fin 8) (s : Fin 256) (k : Fin 1024) :
    k0_pay1 (F := Ideal) x (ix2 (row b s) k : S2048x1024.Idx) = x (ix4 b 0 s k) := by
  unfold row
  pointwise [k0_pay1]

/-- One entry of a hidden chunk. -/
theorem pay2_at (x : FVec Ideal S2048x1024 .bf16) (wg wu : FVec Ideal S1x1x1024x512 .f32) (r : Fin 2048) (f : Fin 512) :
    k0_pay2 (F := Ideal) x wg wu (ix3 0 r f : S1x2048x512.Idx)
      = act (∑ k : Fin 1024, x (ix2 r k) * wg (ix4 0 0 k f)) (∑ k : Fin 1024, x (ix2 r k) * wu (ix4 0 0 k f)) := by
  pointwise [k0_pay2, act]
  rw [zero_sub]

/-- One entry of the result block. -/
theorem downOut_at (Z : FVec Ideal S4x2048x512 .bf16) (w : FVec Ideal S1x1x2048x512 .f32) (b : Fin 8) (s : Fin 256) (d : Fin 512) :
    downOut (F := Ideal) Z w (ix4 b 0 s d : S8x1x256x512.Idx)
      = ∑ j : Fin 4, ∑ f : Fin 512, Z (ix3 j (row b s) f) * w (ix4 0 0 ⟨j * 512 + f, by omega⟩ d) := by
  pointwise [downOut, k0_pay3, k0_pay4]
  rw [Fin.sum_univ_four]
  have h0 : ∀ x : Fin 512, (⟨(x : ℕ), by omega⟩ : Fin 2048) = ⟨((0 : Fin 4) : ℕ) * 512 + x, by omega⟩ := fun x => Fin.ext (by simp)
  simp only [h0]
  rfl

end Cert.Kernel2Ideal.FfnPoint

end
-- ==== Proof.FfnArray.lean ====
/- The array that the experts leave, entry by entry, in terms of its arguments. -/
module

public import proofs.«01_k».proof.Proof.FfnPoint

@[expose] public section

set_option maxRecDepth 16384

noncomputable section

open Idealize.ShloMosaic Idealize.ShloMosaic.TcCoe Idealize.SL.Sem
open Idealize.ShloMosaic.Pipeline (Dat)

namespace Cert.Kernel2Ideal.FfnArray

open Cert.Kernel2Ideal Cert.Kernel2Ideal.Gen Cert.Kernel2Ideal.Ffn Cert.Kernel2Ideal.FfnPoint

/-- One gated hidden value: expert `e`, token slot `s` of batch `b`, hidden column `f`. -/
def gated (x : FVec Ideal S8x16x256x1024 .f32) (wg wu : FVec Ideal S2x16x1024x2048 .f32)
    (b : Fin 8) (e : Fin 16) (s : Fin 256) (f : Fin 2048) : EReal :=
  act (∑ k : Fin 1024, x (ix4 b e s k) * wg (ix4 1 e k f)) (∑ k : Fin 1024, x (ix4 b e s k) * wu (ix4 1 e k f))

/-- One entry of the experts' result, in terms of the arguments. -/
def value (x : FVec Ideal S8x16x256x1024 .f32) (wg wu : FVec Ideal S2x16x1024x2048 .f32) (wd : FVec Ideal S2x16x2048x1024 .f32)
    (b : Fin 8) (e : Fin 16) (s : Fin 256) (d : Fin 1024) : EReal :=
  ∑ f : Fin 2048, gated x wg wu b e s f * wd (ix4 1 e f d)

variable (m : (ℓ : Loc nD τ sig) → Buf (Elt Ideal) ℓ) (c : Dev nD)

/-- The result array. -/
def result : FVec Ideal S8x16x256x1024 .bf16 := fun i =>
  value (m ((c : Thread nD τ).loc main_arg0)) (m ((c : Thread nD τ).loc main_arg1)) (m ((c : Thread nD τ).loc main_arg2))
    (m ((c : Thread nD τ).loc main_arg3)) (i 0) (i 1) (i 2) (i 3)

theorem idx : ∀ t : Fin cfg0.N, win0_0.index t = ![0, t.val / 6, 0, 0] ∧ win0_1.index t = ![1, t.val / 6, 0, min (t.val % 6) 3]
    ∧ win0_2.index t = ![1, t.val / 6, 0, min (t.val % 6) 3] ∧ win0_3.index t = ![1, t.val / 6, 0, t.val % 6 - 4]
    ∧ win0_4.index t = ![0, t.val / 6, 0, t.val % 6 - 4] :=
  (by decide +kernel : ∀ t : Fin grid0.N, _)

/-- The expert of a grid point. -/
def expert (t : Fin cfg0.N) : Fin 16 := ⟨t.val / 6, by have := t.isLt; have : cfg0.N = 96 := rfl; omega⟩

/-- The hidden column that a point's weight blocks hold at column `f`. -/
def hcol (t : Fin cfg0.N) (f : Fin 512) : Fin 2048 := ⟨min (t.val % 6) 3 * 512 + f, by omega⟩

/-- The output column that a point's result block holds at column `d`. -/
def dcol (t : Fin cfg0.N) (d : Fin 512) : Fin 1024 := ⟨(t.val % 6 - 4) * 512 + d, by omega⟩

theorem emb0 (t : Fin cfg0.N) (b : Fin 8) (s : Fin 256) (k : Fin 1024) :
    ((cfg0.win 0).blk t).view.emb (ix4 b 0 s k) = (ix4 b (expert t) s k : S8x16x256x1024.Idx) := by
  unfold expert
  blk_ext [idx t]

theorem emb1 (t : Fin cfg0.N) (k : Fin 1024) (f : Fin 512) :
    ((cfg0.win 1).blk t).view.emb (ix4 0 0 k f) = (ix4 1 (expert t) k (hcol t f) : S2x16x1024x2048.Idx) := by
  unfold expert hcol
  blk_ext [idx t]

theorem emb2 (t : Fin cfg0.N) (k : Fin 1024) (f : Fin 512) :
    ((cfg0.win 2).blk t).view.emb (ix4 0 0 k f) = (ix4 1 (expert t) k (hcol t f) : S2x16x1024x2048.Idx) := by
  unfold expert hcol
  blk_ext [idx t]

theorem emb3 (t : Fin cfg0.N) (f : Fin 2048) (d : Fin 512) :
    ((cfg0.win 3).blk t).view.emb (ix4 0 0 f d) = (ix4 1 (expert t) f (dcol t d) : S2x16x2048x1024.Idx) := by
  unfold expert dcol
  blk_ext [idx t]

theorem emb4 (t : Fin cfg0.N) (b : Fin 8) (s : Fin 256) (d : Fin 512) :
    ((cfg0.win 4).blk t).view.emb (ix4 b 0 s d) = (ix4 b (expert t) s (dcol t d) : S8x16x256x1024.Idx) := by
  unfold expert dcol
  blk_ext [idx t]

theorem x_at (i : S8x16x256x1024.Idx) : (show FVec Ideal S8x16x256x1024 .bf16 from V m c main_v0) i
    = (show FVec Ideal S8x16x256x1024 .f32 from m ((c : Thread nD τ).loc main_arg0)) i := by
  entry_read
  pointwise []

theorem blk0 (t : Fin cfg0.N) (b : Fin 8) (s : Fin 256) (k : Fin 1024) : (iblk m c 0 t : Vec Ideal S8x1x256x1024 .bf16) (ix4 b 0 s k)
    = (show FVec Ideal S8x16x256x1024 .f32 from m ((c : Thread nD τ).loc main_arg0)) (ix4 b (expert t) s k) := by
  have key : ∀ X : (b : Ref sig .tc) → Buf (Elt Ideal) ((c : Thread nD τ).loc b),
      ((cfg0.win 0).blk t).view.read (Elt Ideal) (X (Pipeline.arrRef spec0 0)) (ix4 b 0 s k) = X main_v0 (ix4 b (expert t) s k) :=
    fun X => congrArg (X main_v0) (emb0 t b s k)
  exact (key (V m c)).trans (x_at m c _)

theorem blk1 (t : Fin cfg0.N) (k : Fin 1024) (f : Fin 512) : (iblk m c 1 t : Vec Ideal S1x1x1024x512 .f32) (ix4 0 0 k f)
    = (show FVec Ideal S2x16x1024x2048 .f32 from m ((c : Thread nD τ).loc main_arg1)) (ix4 1 (expert t) k (hcol t f)) := by
  have key : ∀ X : (b : Ref sig .tc) → Buf (Elt Ideal) ((c : Thread nD τ).loc b),
      ((cfg0.win 1).blk t).view.read (Elt Ideal) (X (Pipeline.arrRef spec0 1)) (ix4 0 0 k f) = X main_arg1 (ix4 1 (expert t) k (hcol t f)) :=
    fun X => congrArg (X main_arg1) (emb1 t k f)
  exact (key (V m c)).trans (congrFun (V_main_arg1 m c) _)

theorem blk2 (t : Fin cfg0.N) (k : Fin 1024) (f : Fin 512) : (iblk m c 2 t : Vec Ideal S1x1x1024x512 .f32) (ix4 0 0 k f)
    = (show FVec Ideal S2x16x1024x2048 .f32 from m ((c : Thread nD τ).loc main_arg2)) (ix4 1 (expert t) k (hcol t f)) := by
  have key : ∀ X : (b : Ref sig .tc) → Buf (Elt Ideal) ((c : Thread nD τ).loc b),
      ((cfg0.win 2).blk t).view.read (Elt Ideal) (X (Pipeline.arrRef spec0 2)) (ix4 0 0 k f) = X main_arg2 (ix4 1 (expert t) k (hcol t f)) :=
    fun X => congrArg (X main_arg2) (emb2 t k f)
  exact (key (V m c)).trans (congrFun (V_main_arg2 m c) _)

theorem blk3 (t : Fin cfg0.N) (f : Fin 2048) (d : Fin 512) : (iblk m c 3 t : Vec Ideal S1x1x2048x512 .f32) (ix4 0 0 f d)
    = (show FVec Ideal S2x16x2048x1024 .f32 from m ((c : Thread nD τ).loc main_arg3)) (ix4 1 (expert t) f (dcol t d)) := by
  have key : ∀ X : (b : Ref sig .tc) → Buf (Elt Ideal) ((c : Thread nD τ).loc b),
      ((cfg0.win 3).blk t).view.read (Elt Ideal) (X (Pipeline.arrRef spec0 3)) (ix4 0 0 f d) = X main_arg3 (ix4 1 (expert t) f (dcol t d)) :=
    fun X => congrArg (X main_arg3) (emb3 t f d)
  exact (key (V m c)).trans (congrFun (V_main_arg3 m c) _)

/-- A point number of expert `e` and step `j` belongs to expert `e`. -/
theorem expert_pt (e j : ℕ) (he : e < 16) (hj : j < 6) : expert (pt (6 * e + j)) = ⟨e, he⟩ := by
  have h : (6 * e + j) % cfg0.N = 6 * e + j := Nat.mod_eq_of_lt (by have : cfg0.N = 96 := rfl; omega)
  refine Fin.ext ?_
  show (6 * e + j) % cfg0.N / 6 = e
  omega

theorem hcol_pt (e : ℕ) (j : Fin 4) (he : e < 16) (f : Fin 512) : hcol (pt (6 * e + j)) f = ⟨j * 512 + f, by omega⟩ := by
  have h : (6 * e + (j : ℕ)) % cfg0.N = 6 * e + j := Nat.mod_eq_of_lt (by have : cfg0.N = 96 := rfl; omega)
  refine Fin.ext ?_
  show min ((6 * e + (j : ℕ)) % cfg0.N % 6) 3 * 512 + (f : ℕ) = j * 512 + f
  rw [h]
  omega

/-- The expert's tokens as the first point of the expert keeps them. -/
theorem tokens_at (e : Fin 16) (b : Fin 8) (s : Fin 256) (k : Fin 1024) :
    (tokens c m e : FVec Ideal S2048x1024 .bf16) (ix2 (row b s) k)
      = (show FVec Ideal S8x16x256x1024 .f32 from m ((c : Thread nD τ).loc main_arg0)) (ix4 b e s k) := by
  unfold tokens
  rw [pay1_at]
  refine (blk0 m c (pt (6 * e)) b s k).trans ?_
  have h : expert (pt (6 * (e : ℕ))) = e := expert_pt e 0 e.isLt (by omega)
  rw [h]

/-- One entry of the hidden values that the four up-projection points of an expert leave. -/
theorem hidden_at (e : Fin 16) (j : Fin 4) (b : Fin 8) (s : Fin 256) (f : Fin 512) :
    (hidden c m e : FVec Ideal S4x2048x512 .bf16) (ix3 j (row b s) f)
      = gated (m ((c : Thread nD τ).loc main_arg0)) (m ((c : Thread nD τ).loc main_arg1)) (m ((c : Thread nD τ).loc main_arg2))
          b e s ⟨j * 512 + f, by omega⟩ := by
  refine (pay2_at (tokens c m e) (iblk m c 1 (pt (6 * e + j))) (iblk m c 2 (pt (6 * e + j))) (row b s) f).trans ?_
  unfold gated
  have h1 := fun k => blk1 m c (pt (6 * (e : ℕ) + j)) k f
  have h2 := fun k => blk2 m c (pt (6 * (e : ℕ) + j)) k f
  have he : expert (pt (6 * (e : ℕ) + j)) = e := expert_pt e j e.isLt (by omega)
  rw [he, hcol_pt e j e.isLt f] at h1 h2
  simp only [h1, h2, tokens_at]

/-- What a down-projection point of the expert stores is the array's entry there. -/
theorem point (t : Fin cfg0.N) (y : S8x1x256x512.Idx) :
    downOut (F := Ideal) (hidden c m (t.val / 6)) (iblk m c 3 t) y = result m c (((cfg0.win 4).blk t).view.emb y) := by
  obtain ⟨b, a, s, d, rfl⟩ : ∃ (b : Fin 8) (a : Fin 1) (s : Fin 256) (d : Fin 512), y = ix4 b a s d :=
    ⟨y 0, y 1, y 2, y 3, by funext k; match k with | ⟨0, _⟩ => rfl | ⟨1, _⟩ => rfl | ⟨2, _⟩ => rfl | ⟨3, _⟩ => rfl⟩
  obtain rfl : a = 0 := Subsingleton.elim _ _
  rw [emb4]
  refine (downOut_at (hidden c m (t.val / 6)) (iblk m c 3 t) b s d).trans ?_
  show _ = value _ _ _ _ b (expert t) s (dcol t d)
  unfold value
  refine Fin.sum_mul_add_congr fun j f hl => ?_
  exact congr (congrArg _ (hidden_at m c (expert t) j b s f)) (blk3 m c t ⟨j * 512 + f, hl⟩ d)

/-- After the run the result array is `result`. -/
theorem final : (dats m 0 c).arrAt 4 (cfgs 0).N = result m c := by
  refine (dats m 0 c).arrAt_eq_of_covers 4 _ (by decide +kernel) fun t _ y => ?_
  blk_simp
  rw [after_4]
  exact point m c t y

/-- Every run ends with `result` in the result array and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hv : θ_run defs (onTc (τ := τ) (main (F := Ideal))) ⟨m, fun _ => 0, ρ⟩ (fun r => ∀ c : Dev nD,
      r.2.mem ((c.tc : Thread nD τ).loc main_v1) = result m c) :=
    (θ_run _ _ _).mono (fun r h c => ((h c).1 4).trans (final m c)) (run_main (F := Ideal) m ρ)
  exact (θ_run _ _ _).mono (fun r h c => ⟨h.1 c, h.2.1 c⟩) (θ_run_and hv (ends_unchanged (F := Ideal) m ρ))

end Cert.Kernel2Ideal.FfnArray

end
-- ==== Proof.FfnRef.lean ====
/- The reference's experts, entry by entry, over the extended reals, and that they are the kernel's. -/
module

public import proofs.«01_k».proof.Proof.FfnArray
public import proofs.«01_k».proof.Proof.Gen.Reference2Ideal.Read

@[expose] public section

set_option maxRecDepth 16384

noncomputable section

open Idealize.ShloMosaic Idealize.ShloMosaic.TcCoe Idealize.SL.Sem

namespace Cert.Reference2Ideal.FfnRef

open Cert.Reference2Ideal Cert.Reference2Ideal.Gen Cert.Reference2Ideal.Read
open Cert.Kernel2Ideal.FfnPoint (act)
open Cert.Kernel2Ideal.FfnArray (gated value)

variable (x0 : FVec Ideal S8x16x256x1024 .f32) (x1 x2 : FVec Ideal S2x16x1024x2048 .f32) (x3 : FVec Ideal S2x16x2048x1024 .f32)

theorem one_word : (FloatOps.ofBits .f32 0x3F800000#32 : Ideal .f32) = 1 := by pointwise []

/-- The gate weights of the layer. -/
theorem wg_at (e : Fin 16) (k : Fin 1024) (f : Fin 2048) :
    val_main_v1 (F := Ideal) x1 (ix3 e k f : S16x1024x2048.Idx) = x1 (ix4 1 e k f) := by
  rw [val_main_v1_apply, val_main_v0_apply]
  congr 1
  funext a
  match a with
  | ⟨0, _⟩ => rfl
  | ⟨1, _⟩ => exact Fin.ext (by show (((e : ℕ) * 1024 + k) * 2048 + f) / 2097152 % 16 = (e : ℕ); omega)
  | ⟨2, _⟩ => exact Fin.ext (by show (((e : ℕ) * 1024 + k) * 2048 + f) / 2048 % 1024 = (k : ℕ); omega)
  | ⟨3, _⟩ => exact Fin.ext (by show (((e : ℕ) * 1024 + k) * 2048 + f) % 2048 = (f : ℕ); omega)

/-- The up weights of the layer. -/
theorem wu_at (e : Fin 16) (k : Fin 1024) (f : Fin 2048) :
    val_main_v3 (F := Ideal) x2 (ix3 e k f : S16x1024x2048.Idx) = x2 (ix4 1 e k f) := by
  rw [val_main_v3_apply, val_main_v2_apply]
  congr 1
  funext a
  match a with
  | ⟨0, _⟩ => rfl
  | ⟨1, _⟩ => exact Fin.ext (by show (((e : ℕ) * 1024 + k) * 2048 + f) / 2097152 % 16 = (e : ℕ); omega)
  | ⟨2, _⟩ => exact Fin.ext (by show (((e : ℕ) * 1024 + k) * 2048 + f) / 2048 % 1024 = (k : ℕ); omega)
  | ⟨3, _⟩ => exact Fin.ext (by show (((e : ℕ) * 1024 + k) * 2048 + f) % 2048 = (f : ℕ); omega)

/-- The down weights of the layer. -/
theorem wd_at (e : Fin 16) (f : Fin 2048) (d : Fin 1024) :
    val_main_v5 (F := Ideal) x3 (ix3 e f d : S16x2048x1024.Idx) = x3 (ix4 1 e f d) := by
  rw [val_main_v5_apply, val_main_v4_apply]
  congr 1
  funext a
  match a with
  | ⟨0, _⟩ => rfl
  | ⟨1, _⟩ => exact Fin.ext (by show (((e : ℕ) * 2048 + f) * 1024 + d) / 2097152 % 16 = (e : ℕ); omega)
  | ⟨2, _⟩ => exact Fin.ext (by show (((e : ℕ) * 2048 + f) * 1024 + d) / 1024 % 2048 = (f : ℕ); omega)
  | ⟨3, _⟩ => exact Fin.ext (by show (((e : ℕ) * 2048 + f) * 1024 + d) % 1024 = (d : ℕ); omega)

/-- One gate value. -/
theorem gate_at (b : Fin 8) (e : Fin 16) (s : Fin 256) (f : Fin 2048) :
    val_main_v7 (F := Ideal) x0 x1 (ix4 b e s f : S8x16x256x2048.Idx) = ∑ k : Fin 1024, x0 (ix4 b e s k) * x1 (ix4 1 e k f) := by
  rw [val_main_v7_apply, val_main_v6_apply]
  refine Finset.sum_congr rfl fun k _ => ?_
  have hl : lidx_main_v6 (idx_main_v7 (ix4 b e s f : S8x16x256x2048.Idx)) k = (ix3 e k f : S16x1024x2048.Idx) := by
    funext a; match a with | ⟨0, _⟩ => rfl | ⟨1, _⟩ => rfl | ⟨2, _⟩ => rfl
  have hr : ridx_main_v6 (idx_main_v7 (ix4 b e s f : S8x16x256x2048.Idx)) k = (ix4 b e s k : S8x16x256x1024.Idx) := by
    funext a; match a with | ⟨0, _⟩ => rfl | ⟨1, _⟩ => rfl | ⟨2, _⟩ => rfl | ⟨3, _⟩ => rfl
  rw [hl, hr, wg_at]
  exact mul_comm _ _

/-- One up value. -/
theorem up_at (b : Fin 8) (e : Fin 16) (s : Fin 256) (f : Fin 2048) :
    val_main_v10 (F := Ideal) x0 x2 (ix4 b e s f : S8x16x256x2048.Idx) = ∑ k : Fin 1024, x0 (ix4 b e s k) * x2 (ix4 1 e k f) := by
  rw [val_main_v10_apply, val_main_v9_apply]
  refine Finset.sum_congr rfl fun k _ => ?_
  have hl : lidx_main_v9 (idx_main_v10 (ix4 b e s f : S8x16x256x2048.Idx)) k = (ix3 e k f : S16x1024x2048.Idx) := by
    funext a; match a with | ⟨0, _⟩ => rfl | ⟨1, _⟩ => rfl | ⟨2, _⟩ => rfl
  have hr : ridx_main_v9 (idx_main_v10 (ix4 b e s f : S8x16x256x2048.Idx)) k = (ix4 b e s k : S8x16x256x1024.Idx) := by
    funext a; match a with | ⟨0, _⟩ => rfl | ⟨1, _⟩ => rfl | ⟨2, _⟩ => rfl | ⟨3, _⟩ => rfl
  rw [hl, hr, wu_at]
  exact mul_comm _ _

/-- One gated hidden value. -/
theorem gated_at (b : Fin 8) (e : Fin 16) (s : Fin 256) (f : Fin 2048) :
    val_main_v11 (F := Ideal) x0 x1 x2 (ix4 b e s f : S8x16x256x2048.Idx) = gated x0 x1 x2 b e s f := by
  rw [val_main_v11_apply, val_main_v8_apply, val_main_call0_v5_apply, val_main_call0_v4_apply, val_main_call0_cst_0_apply,
    val_main_call0_v3_apply, val_main_call0_v2_apply, val_main_call0_cst_apply, val_main_call0_v1_apply, val_main_call0_v0_apply,
    gate_at, up_at, one_word]
  rfl

/-- The reference's result is the experts' value. -/
theorem result_at (b : Fin 8) (e : Fin 16) (s : Fin 256) (d : Fin 1024) :
    val_main_v14 (F := Ideal) x0 x1 x2 x3 (ix4 b e s d : S8x16x256x1024.Idx) = value x0 x1 x2 x3 b e s d := by
  rw [val_main_v14_apply, val_main_v13_apply, val_main_v12_apply]
  refine Finset.sum_congr rfl fun f _ => ?_
  have hl : lidx_main_v12 (idx_main_v13 (ix4 b e s d : S8x16x256x1024.Idx)) f = (ix3 e f d : S16x2048x1024.Idx) := by
    funext a; match a with | ⟨0, _⟩ => rfl | ⟨1, _⟩ => rfl | ⟨2, _⟩ => rfl
  have hr : ridx_main_v12 (idx_main_v13 (ix4 b e s d : S8x16x256x1024.Idx)) f = (ix4 b e s f : S8x16x256x2048.Idx) := by
    funext a; match a with | ⟨0, _⟩ => rfl | ⟨1, _⟩ => rfl | ⟨2, _⟩ => rfl | ⟨3, _⟩ => rfl
  rw [hl, hr, wd_at, gated_at]
  exact mul_comm _ _

/-- The kernel's array is the reference's. -/
theorem result_eq (m : (ℓ : Loc Cert.Kernel2Ideal.nD Cert.Kernel2Ideal.τ Cert.Kernel2Ideal.sig) → Buf (Elt Ideal) ℓ) (c : Dev Cert.Kernel2Ideal.nD) :
    Cert.Kernel2Ideal.FfnArray.result m c
      = val_main_v14 (F := Ideal) (m ((c.tc : Thread Cert.Kernel2Ideal.nD Cert.Kernel2Ideal.τ).loc Cert.Kernel2Ideal.main_arg0))
          (m ((c.tc : Thread Cert.Kernel2Ideal.nD Cert.Kernel2Ideal.τ).loc Cert.Kernel2Ideal.main_arg1))
          (m ((c.tc : Thread Cert.Kernel2Ideal.nD Cert.Kernel2Ideal.τ).loc Cert.Kernel2Ideal.main_arg2))
          (m ((c.tc : Thread Cert.Kernel2Ideal.nD Cert.Kernel2Ideal.τ).loc Cert.Kernel2Ideal.main_arg3)) := by
  funext i
  obtain ⟨b, e, s, d, rfl⟩ : ∃ (b : Fin 8) (e : Fin 16) (s : Fin 256) (d : Fin 1024), i = ix4 b e s d :=
    ⟨i 0, i 1, i 2, i 3, by funext k; match k with | ⟨0, _⟩ => rfl | ⟨1, _⟩ => rfl | ⟨2, _⟩ => rfl | ⟨3, _⟩ => rfl⟩
  exact (result_at _ _ _ _ b e s d).symm

end Cert.Reference2Ideal.FfnRef

end
-- ==== Proof.ProjPoint.lean ====
/- The projection kernel's payloads, entry by entry, over the extended reals. -/
module

public import proofs.«01_k».proof.Proof.Gen.Kernel3Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.ProjPoint

open Cert.Kernel3Ideal Cert.Kernel3Ideal.Gen

/-- The small number added under the roots. -/
abbrev eps : EReal := Ideal.ofBits .f32 0x358637BD#32

/-- One entry of a normalised, scaled and shifted row. -/
def hid (x g sc sh : Fin 1024 → EReal) (k : Fin 1024) : EReal :=
  x k * Ideal.rsqrt (Ideal.div (∑ j : Fin 1024, x j * x j) (Ideal.ofBits .f32 0x44800000#32) + eps) * g k * (1 + sc k) + sh k

theorem pay2_at (x : FVec Ideal S512x1024 .f32) (g : FVec Ideal S1x1024 .f32) (sc sh : FVec Ideal S1x1x1024 .f32)
    (r : Fin 512) (k : Fin 1024) : k0_pay2 (F := Ideal) x g sc sh (ix2 r k : S512x1024.Idx)
      = hid (fun k => x (ix2 r k)) (fun k => g (ix2 0 k)) (fun k => sc (ix3 0 0 k)) (fun k => sh (ix3 0 0 k)) k := by
  pointwise [k0_pay2, hid]

theorem pay6_at (h : FVec Ideal S512x1024 .bf16) (w : FVec Ideal S1024x512 .bf16) (r j : Fin 512) :
    k0_pay13 (F := Ideal) h w (ix2 r j : S512x512.Idx) = ∑ k : Fin 1024, h (ix2 r k) * w (ix2 k j) := by
  pointwise [k0_pay13]

theorem pay14_at (h : FVec Ideal S512x1024 .bf16) (w : FVec Ideal S1024x512 .bf16) (r j : Fin 512) :
    k0_pay14 (F := Ideal) h w (ix2 r j : S512x512.Idx)
      = (∑ k : Fin 1024, h (ix2 r k) * w (ix2 k j)) * Ideal.div 1 (1 + Ideal.exp (-∑ k : Fin 1024, h (ix2 r k) * w (ix2 k j))) := by
  pointwise [k0_pay14]
  rw [zero_sub]

theorem pay38_at (h : FVec Ideal S512x1024 .bf16) (w : FVec Ideal S1024x1024 .bf16) (r : Fin 512) (j : Fin 1024) :
    k0_pay38 (F := Ideal) h w (ix2 r j : S512x1024.Idx)
      = Ideal.div 1 (1 + Ideal.exp (-∑ k : Fin 1024, h (ix2 r k) * w (ix2 k j))) := by
  pointwise [k0_pay38]
  rw [zero_sub]

/-- The other lane of a rotated pair, among 128. -/
def mate1 (l : Fin 128) : Fin 128 := ⟨if (l : ℕ) % 64 < 32 then l + 32 else l - 32, by split_ifs <;> omega⟩
/-- The other lane of a rotated pair, among 256. -/
def mate2 (l : Fin 256) : Fin 256 := ⟨if (l : ℕ) % 64 < 32 then l + 32 else l - 32, by split_ifs <;> omega⟩
/-- The other lane of a rotated pair, among 512. -/
def mate4 (l : Fin 512) : Fin 512 := ⟨if (l : ℕ) % 64 < 32 then l + 32 else l - 32, by split_ifs <;> omega⟩

/-- A tile of 128 lanes after the rotary step. -/
def rope1 (x c s : FVec Ideal S512x128 .f32) : FVec Ideal S512x128 .f32 :=
  addf (mulf x c) (mulf (select k0_pay10 (dynamicRotate 1 96#32 none x rotates_S512x128_d1)
    (dynamicRotate 1 32#32 none x rotates_S512x128_d1)) s)

/-- The comparison that tells the first lanes of a pair from the second. -/
theorem first_half : ∀ l : Fin 128, IntOp.cmpi .slt (IntOp.andi (BitVec.ofNat 32 (l : ℕ)) 63#32) 32#32
    = if (l : ℕ) % 64 < 32 then 1#1 else 0#1 := by decide +kernel

theorem rope1_at (x c s : FVec Ideal S512x128 .f32) (r : Fin 512) (l : Fin 128) :
    rope1 x c s (ix2 r l : S512x128.Idx) = x (ix2 r l) * c (ix2 r l) + x (ix2 r (mate1 l)) * s (ix2 r l) := by
  pointwise [rope1, k0_pay10]
  rw [first_half l]
  unfold mate1
  by_cases h : (l : ℕ) % 64 < 32
  · simp only [h, ↓reduceIte]
    have e : (⟨((l : ℕ) + 128 - 96) % 128, by omega⟩ : Fin 128) = ⟨l + 32, by omega⟩ := Fin.ext (by show ((l : ℕ) + 128 - 96) % 128 = l + 32; omega)
    rw [e]
    rfl
  · simp only [h, ↓reduceIte]
    have e : (⟨((l : ℕ) + 128 - 32) % 128, by omega⟩ : Fin 128) = ⟨l - 32, by omega⟩ := Fin.ext (by show ((l : ℕ) + 128 - 32) % 128 = l - 32; omega)
    rw [e]
    rfl

/-- Two tiles side by side after the rotary step. -/
def rope2 (v : FVec Ideal S512x256 .f32) (c s : FVec Ideal S512x128 .f32) : FVec Ideal S512x256 .f32 :=
  concatenate S512x256 1 [⟨S512x128, rope1 (extractStridedSlice S512x128 ![0, 0] v slices_S512x256_o0_0_S512x128) c s⟩,
    ⟨S512x128, rope1 (extractStridedSlice S512x128 ![0, 128] v slices_S512x256_o0_128_S512x128) c s⟩]
    concatenates_S512x128_S512x128_S512x256_d1

theorem rope2_at (v : FVec Ideal S512x256 .f32) (c s : FVec Ideal S512x128 .f32) (r : Fin 512) (j : Fin 256) :
    rope2 v c s (ix2 r j : S512x256.Idx) = v (ix2 r j) * c (ix2 r ⟨j % 128, by omega⟩) + v (ix2 r (mate2 j)) * s (ix2 r ⟨j % 128, by omega⟩) := by
  pointwise [rope2]
  unfold mate2
  split_ifs <;> rw [rope1_at] <;> unfold mate1 <;> pointwise <;> blk_point [] <;> split_ifs <;> omega

/-- Four tiles side by side after the rotary step. -/
def rope4 (v : FVec Ideal S512x512 .f32) (c s : FVec Ideal S512x128 .f32) : FVec Ideal S512x512 .f32 :=
  concatenate S512x512 1 [⟨S512x128, rope1 (extractStridedSlice S512x128 ![0, 0] v slices_S512x512_o0_0_S512x128) c s⟩,
    ⟨S512x128, rope1 (extractStridedSlice S512x128 ![0, 128] v slices_S512x512_o0_128_S512x128) c s⟩,
    ⟨S512x128, rope1 (extractStridedSlice S512x128 ![0, 256] v slices_S512x512_o0_256_S512x128) c s⟩,
    ⟨S512x128, rope1 (extractStridedSlice S512x128 ![0, 384] v slices_S512x512_o0_384_S512x128) c s⟩]
    concatenates_S512x128_S512x128_S512x128_S512x128_S512x512_d1

theorem rope4_at (v : FVec Ideal S512x512 .f32) (c s : FVec Ideal S512x128 .f32) (r : Fin 512) (j : Fin 512) :
    rope4 v c s (ix2 r j : S512x512.Idx) = v (ix2 r j) * c (ix2 r ⟨j % 128, by omega⟩) + v (ix2 r (mate4 j)) * s (ix2 r ⟨j % 128, by omega⟩) := by
  pointwise [rope4]
  unfold mate4
  split_ifs <;> rw [rope1_at] <;> unfold mate1 <;> pointwise <;> blk_point [] <;> split_ifs <;> omega

theorem pay8_eq (h : FVec Ideal S512x1024 .bf16) (c s : FVec Ideal S512x128 .f32) (w : FVec Ideal S1024x256 .bf16) :
    k0_pay8 (F := Ideal) h c s w
      = truncf .bf16 (rope2 (mulf (k0_pay9 (F := Ideal) h w) (broadcast S512x256 (Scalar.ofBits .f32 0x3E000000#32))) c s) bitsLt_bf16_f32 := rfl

theorem pay12_eq (h : FVec Ideal S512x1024 .bf16) (c s : FVec Ideal S512x128 .f32) (w : FVec Ideal S1024x256 .bf16) :
    k0_pay12 (F := Ideal) c s (k0_pay9 h w) k0_pay10 (k0_pay11 h w) 96#32
      = truncf .bf16 (rope2 (k0_pay9 (F := Ideal) h w) c s) bitsLt_bf16_f32 := rfl

theorem pay9_at (h : FVec Ideal S512x1024 .bf16) (w : FVec Ideal S1024x256 .bf16) (r : Fin 512) (j : Fin 256) :
    k0_pay9 (F := Ideal) h w (ix2 r j : S512x256.Idx) = ∑ k : Fin 1024, h (ix2 r k) * w (ix2 k j) := by
  pointwise [k0_pay9]

theorem pay8_at (h : FVec Ideal S512x1024 .bf16) (c s : FVec Ideal S512x128 .f32) (w : FVec Ideal S1024x256 .bf16) (r : Fin 512) (j : Fin 256) :
    k0_pay8 (F := Ideal) h c s w (ix2 r j : S512x256.Idx)
      = (∑ k : Fin 1024, h (ix2 r k) * w (ix2 k j)) * Ideal.ofBits .f32 0x3E000000#32 * c (ix2 r ⟨j % 128, by omega⟩)
        + (∑ k : Fin 1024, h (ix2 r k) * w (ix2 k (mate2 j))) * Ideal.ofBits .f32 0x3E000000#32 * s (ix2 r ⟨j % 128, by omega⟩) := by
  rw [pay8_eq]
  refine (rope2_at _ c s r j).trans ?_
  pointwise [k0_pay9]

theorem pay12_at (h : FVec Ideal S512x1024 .bf16) (c s : FVec Ideal S512x128 .f32) (w : FVec Ideal S1024x256 .bf16) (r : Fin 512) (j : Fin 256) :
    k0_pay12 (F := Ideal) c s (k0_pay9 h w) k0_pay10 (k0_pay11 h w) 96#32 (ix2 r j : S512x256.Idx)
      = (∑ k : Fin 1024, h (ix2 r k) * w (ix2 k j)) * c (ix2 r ⟨j % 128, by omega⟩)
        + (∑ k : Fin 1024, h (ix2 r k) * w (ix2 k (mate2 j))) * s (ix2 r ⟨j % 128, by omega⟩) := by
  rw [pay12_eq]
  refine (rope2_at _ c s r j).trans ?_
  pointwise [k0_pay9]

/-- One entry of a projection whose lanes are normalised in groups with the help of the group table. -/
def tabled (p : Fin 512 → EReal) (T : Fin 256 → Fin 256 → EReal) (g : Fin 512 → EReal) (j : Fin 512) : EReal :=
  p j * Ideal.rsqrt ((∑ k : Fin 256, p ⟨j / 256 * 256 + k, by omega⟩ * p ⟨j / 256 * 256 + k, by omega⟩ * T k ⟨j % 256, by omega⟩) + eps) * g j

theorem pay25_at (h : FVec Ideal S512x1024 .bf16) (T : FVec Ideal S256x256 .bf16) (w : FVec Ideal S1024x512 .bf16) (g : FVec Ideal S1x512 .f32)
    (r j : Fin 512) : k0_pay25 (F := Ideal) h T w g (ix2 r j : S512x512.Idx)
      = tabled (fun j => ∑ k : Fin 1024, h (ix2 r k) * w (ix2 k j)) (fun k l => T (ix2 k l)) (fun j => g (ix2 0 j)) j := by
  pointwise [k0_pay25, tabled]
  by_cases hj : (j : ℕ) < 256
  · have e : (j : ℕ) / 256 = 0 := by omega
    simp only [hj, ↓reduceDIte, e]
    blk_point []
  · have e : (j : ℕ) / 256 = 1 := by omega
    simp only [hj, ↓reduceDIte, e]
    blk_point []

theorem pay16_eq (h : FVec Ideal S512x1024 .bf16) (T : FVec Ideal S256x256 .bf16) (w : FVec Ideal S1024x512 .bf16) (g : FVec Ideal S1x512 .f32) :
    k0_pay16 (F := Ideal) h T (k0_pay15 w) (constant S512x512 .f32 0x00000000#32) g = k0_pay25 (F := Ideal) h T w g := rfl

theorem pay31_eq (h : FVec Ideal S512x1024 .bf16) (c s : FVec Ideal S512x128 .f32) (T : FVec Ideal S256x256 .bf16) (w : FVec Ideal S1024x512 .bf16)
    (g : FVec Ideal S1x512 .f32) :
    k0_pay31 (F := Ideal) c s (k0_pay25 h T w g) k0_pay26 (k0_pay27 h c s T w g) (k0_pay28 h T w g) (k0_pay29 h T w g) (k0_pay30 h T w g)
      = truncf .bf16 (rope4 (k0_pay25 (F := Ideal) h T w g) c s) bitsLt_bf16_f32 := rfl

theorem pay24_eq (h : FVec Ideal S512x1024 .bf16) (c s : FVec Ideal S512x128 .f32) (T : FVec Ideal S256x256 .bf16) (w : FVec Ideal S1024x512 .bf16)
    (g : FVec Ideal S1x512 .f32) :
    k0_pay24 (F := Ideal) c s k0_pay17
        (k0_pay18 h c s T (k0_pay15 w) (constant S512x512 .f32 0x00000000#32) g)
        (k0_pay19 h c s T (k0_pay15 w) (constant S512x512 .f32 0x00000000#32) g)
        (k0_pay20 h c s T (k0_pay15 w) (constant S512x512 .f32 0x00000000#32) g)
        (k0_pay21 h T (k0_pay15 w) (constant S512x512 .f32 0x00000000#32) g)
        (k0_pay22 h T (k0_pay15 w) (constant S512x512 .f32 0x00000000#32) g)
        (k0_pay23 h T (k0_pay15 w) (constant S512x512 .f32 0x00000000#32) g)
      = truncf .bf16 (mulf (rope4 (k0_pay25 (F := Ideal) h T w g) c s)
          (broadcast S512x512 (Named.named κ "qscale" 0x3E38AA3B#32))) bitsLt_bf16_f32 := rfl

/-- The named factor of the queries. -/
def qs : EReal := ((8⁻¹ * (Real.log 2)⁻¹ : ℝ) : EReal)

theorem named_qs : (Named.named (F := Ideal) κ "qscale" (φ := .f32) 0x3E38AA3B#32 : EReal) = qs :=
  IdealRules.named_const.ideal_named_scalar _ _ _ _ rfl

end Cert.Kernel3Ideal.ProjPoint

end
-- ==== Proof.ProjHost.lean ====
/- The arrays that the projection's host code hands to the kernel, entry by entry. -/
module

public import proofs.«01_k».proof.Proof.ProjPoint
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel3Ideal.ProjHost

open Cert.Kernel3Ideal Cert.Kernel3Ideal.Gen Cert.Kernel3Ideal.ProjPoint

variable (m : (ℓ : Loc nD τ sig) → Buf (Elt Ideal) ℓ) (c : Dev nD)

/-- The row of the flattened tokens that holds token `n` of batch `b`. -/
def row (b : Fin 8) (n : Fin 2048) : Fin 16384 := ⟨b * 2048 + n, by omega⟩

theorem x_at (b : Fin 8) (n : Fin 2048) (k : Fin 1024) : (show FVec Ideal S16384x1024 .f32 from V m c main_v46) (ix2 (row b n) k)
    = (show FVec Ideal S8x2048x1024 .f32 from m ((c : Thread nD τ).loc main_arg0)) (ix3 b n k) := by
  entry_read
  pointwise [row]
  blk_ext []

theorem g_at (k : Fin 1024) : (show FVec Ideal S1x1024 .f32 from V m c main_v49) (ix2 0 k)
    = (show FVec Ideal S2x1024 .f32 from m ((c : Thread nD τ).loc main_arg3)) (ix2 1 k) := by
  entry_read
  pointwise []
  blk_ext []

theorem w_at (k : Fin 1024) (j : Fin 6656) : (show FVec Ideal S1024x6656 .bf16 from V m c main_v52) (ix2 k j)
    = (show FVec Ideal S2x1024x6656 .f32 from m ((c : Thread nD τ).loc main_arg4)) (ix3 1 k j) := by
  entry_read
  pointwise []
  blk_ext []

theorem qg_at (j : Fin 512) : (show FVec Ideal S1x512 .f32 from V m c main_v39) (ix2 0 j)
    = (show FVec Ideal S2x64 .f32 from m ((c : Thread nD τ).loc main_arg5)) (ix2 1 ⟨j % 64, by omega⟩) := by
  entry_read
  pointwise []
  blk_ext []

theorem kg_at (j : Fin 512) : (show FVec Ideal S1x512 .f32 from V m c main_v45) (ix2 0 j)
    = (show FVec Ideal S2x64 .f32 from m ((c : Thread nD τ).loc main_arg6)) (ix2 1 ⟨j % 64, by omega⟩) := by
  entry_read
  pointwise []
  blk_ext []

/-- The cosines of the tokens' angles. -/
def cosines : FVec Ideal S2048x32 .f32 := V m c main_v24
/-- The sines of the tokens' angles. -/
def sines : FVec Ideal S2048x32 .f32 := V m c main_v25

theorem four_times (C : FVec Ideal S2048x32 .f32) (n : Fin 2048) (l : Fin 128) :
    shapeCast S2048x128 (broadcastInDim S1x2048x4x32 ![0, 1, 2, 3] bcast_S1x2048x1x32_S1x2048x4x32_0_1_2_3 fun i =>
        shapeCast S1x2048x1x32 C shapeCasts_S2048x32_S1x2048x1x32 i) shapeCasts_S1x2048x4x32_S2048x128 (ix2 n l)
      = C (ix2 n ⟨l % 32, by omega⟩) := by
  pointwise []
  blk_ext []

theorem two_times (A B : FVec Ideal S2048x32 .f32) (n : Fin 2048) (l : Fin 128) :
    shapeCast S2048x128 (broadcastInDim S1x2048x2x64 ![0, 1, 2, 3] bcast_S1x2048x1x64_S1x2048x2x64_0_1_2_3 fun i =>
        shapeCast S1x2048x1x64 (concatenate S2048x64 1 [⟨S2048x32, A⟩, ⟨S2048x32, B⟩] concatenates_S2048x32_S2048x32_S2048x64_d1)
          shapeCasts_S2048x64_S1x2048x1x64 i) shapeCasts_S1x2048x2x64_S2048x128 (ix2 n l)
      = if (l : ℕ) % 64 < 32 then A (ix2 n ⟨l % 32, by omega⟩) else B (ix2 n ⟨l % 32, by omega⟩) := by
  pointwise []
  by_cases h : (l : ℕ) % 64 < 32
  · rw [dif_pos h, if_pos h]
    blk_ext []
  · rw [dif_neg h, if_neg h]
    blk_ext []

theorem cos_at (n : Fin 2048) (l : Fin 128) : (show FVec Ideal S2048x128 .f32 from V m c main_v28) (ix2 n l)
    = cosines m c (ix2 n ⟨l % 32, by omega⟩) := by
  unfold cosines
  after_reads_simp
  exact four_times _ n l

/-- The host's table of sines once the sines and their negatives are there. -/
theorem sines_eq : sines m c = (show FVec Ideal S2048x32 .f32 from StableHlo.upto hostOps0 (fun b => m (c, b)) 32 (Proc.devRef .tc main_v25)) := by
  unfold sines
  after_reads_simp

theorem negated_eq : (show FVec Ideal S2048x32 .f32 from StableHlo.upto hostOps0 (fun b => m (c, b)) 32 (Proc.devRef .tc main_v29))
    = Host.negf (sines m c) := by
  unfold sines
  after_reads_simp

theorem sin_at (n : Fin 2048) (l : Fin 128) : (show FVec Ideal S2048x128 .f32 from V m c main_v33) (ix2 n l)
    = if (l : ℕ) % 64 < 32 then -sines m c (ix2 n ⟨l % 32, by omega⟩) else sines m c (ix2 n ⟨l % 32, by omega⟩) := by
  have h1 := sines_eq m c
  have h2 := negated_eq m c
  after_reads_simp
  refine (two_times _ _ n l).trans ?_
  split_ifs
  · exact congrFun h2 _
  · exact (congrFun h1 _).symm

theorem group_at (k l : Fin 256) : (show FVec Ideal S256x256 .bf16 from V m c main_v63) (ix2 k l)
    = if (k : ℕ) / 64 = l / 64 then Ideal.ofBits .f32 0x3C800000#32 else 0 := by
  entry_read
  pointwise []
  by_cases h : (k : ℕ) / 64 = l / 64
  · simp [h, IntOp.cmpi, Scalar.select]
  · have hne : BitVec.ofNat 32 ((k : ℕ) / 64) ≠ BitVec.ofNat 32 ((l : ℕ) / 64) := fun e => h (by
      have := congrArg BitVec.toNat e
      simp only [BitVec.toNat_ofNat] at this
      omega)
    rw [if_neg h]
    have hb : (BitVec.ofNat 32 ((k : ℕ) / 64) == BitVec.ofNat 32 ((l : ℕ) / 64)) = false := beq_false_of_ne hne
    simp [IntOp.cmpi, Scalar.select, hb]

end Cert.Kernel3Ideal.ProjHost

end
-- ==== Proof.ProjBlock.lean ====
/- The blocks that a grid point of the projection stores, entry by entry, over the extended reals. -/
module

public import proofs.«01_k».proof.Proof.ProjHost

@[expose] public section

set_option maxRecDepth 16384

noncomputable section

open Idealize.ShloMosaic Idealize.ShloMosaic.TcCoe Idealize.SL.Sem
open Idealize.ShloMosaic.Pipeline (Dat)

namespace Cert.Kernel3Ideal.ProjBlock

open Cert.Kernel3Ideal Cert.Kernel3Ideal.Gen Cert.Kernel3Ideal.ProjPoint

/-- One entry of the combined projection of a row. -/
def proj (x g sc sh : Fin 1024 → EReal) (w : Fin 1024 → Fin 6656 → EReal) (j : Fin 6656) : EReal :=
  ∑ k : Fin 1024, hid x g sc sh k * w k j

variable (x0 : Vec Ideal S512x1024 .f32) (x1 x2 : Vec Ideal S1x1x1024 .f32) (x3 : Vec Ideal S1x1024 .f32) (x4 : Vec Ideal S1024x6656 .bf16)
  (x5 x6 : Vec Ideal S512x128 .f32) (x7 x8 : Vec Ideal S1x512 .f32) (x9 : Vec Ideal S256x256 .bf16)

/-- The combined projection of row `r` of the block. -/
abbrev rowProj (r : Fin 512) (j : Fin 6656) : EReal :=
  proj (fun k => x0 (ix2 r k)) (fun k => x3 (ix2 0 k)) (fun k => x2 (ix3 0 0 k)) (fun k => x1 (ix3 0 0 k)) (fun k j => x4 (ix2 k j)) j

/-- The block's modulated rows. -/
theorem h_at (r : Fin 512) (k : Fin 1024) : k0_pay41 (F := Ideal) x0 x1 x2 x3 x4 x5 x6 x7 x8 x9 (ix2 r k : S512x1024.Idx)
    = hid (fun k => x0 (ix2 r k)) (fun k => x3 (ix2 0 k)) (fun k => x2 (ix3 0 0 k)) (fun k => x1 (ix3 0 0 k)) k := by
  unfold k0_pay41
  refine (pay2_at _ _ _ _ r k).trans ?_
  pointwise []

theorem c_at (r : Fin 512) (l : Fin 128) : k0_pay42 (F := Ideal) x0 x1 x2 x3 x4 x5 x6 x7 x8 x9 (ix2 r l : S512x128.Idx) = x5 (ix2 r l) := by
  pointwise [k0_pay42, k0_pay3]

theorem s_at (r : Fin 512) (l : Fin 128) : k0_pay43 (F := Ideal) x0 x1 x2 x3 x4 x5 x6 x7 x8 x9 (ix2 r l : S512x128.Idx) = x6 (ix2 r l) := by
  pointwise [k0_pay43, k0_pay4]

theorem t_at (k l : Fin 256) : k0_pay44 (F := Ideal) x0 x1 x2 x3 x4 x5 x6 x7 x8 x9 (ix2 k l : S256x256.Idx) = x9 (ix2 k l) := by
  pointwise [k0_pay44, k0_pay5]

/-- The product of a modulated row with one column of the weights. -/
theorem sum_of (r : Fin 512) (w : Fin 1024 → EReal) (J : Fin 6656) (hw : ∀ k : Fin 1024, w k = x4 (ix2 k J)) :
    (∑ k : Fin 1024, k0_pay41 (F := Ideal) x0 x1 x2 x3 x4 x5 x6 x7 x8 x9 (ix2 r k : S512x1024.Idx) * w k) = rowProj x0 x1 x2 x3 x4 r J := by
  refine Finset.sum_congr rfl fun k _ => ?_
  rw [hw k]
  exact congrArg (· * _) (h_at x0 x1 x2 x3 x4 x5 x6 x7 x8 x9 r k)

theorem out10_at (r j : Fin 512) : out0_10 (F := Ideal) x0 x1 x2 x3 x4 x5 x6 x7 x8 x9 (ix2 r j : S512x512.Idx)
    = rowProj x0 x1 x2 x3 x4 r ⟨j, by omega⟩ := by
  frame_out
  refine (pay6_at (k0_pay2 (F := Ideal) x0 x3 x2 x1) _ r j).trans (Finset.sum_congr rfl fun k _ => ?_)
  refine congrArg₂ (· * ·) (pay2_at x0 x3 x2 x1 r k) ?_
  pointwise []

theorem out11_at (r : Fin 512) (j : Fin 256) : out0_11 (F := Ideal) x0 x1 x2 x3 x4 x5 x6 x7 x8 x9 (ix2 r j : S512x256.Idx)
    = rowProj x0 x1 x2 x3 x4 r ⟨512 + j, by omega⟩ * Ideal.ofBits .f32 0x3E000000#32 * x5 (ix2 r ⟨j % 128, by omega⟩)
      + rowProj x0 x1 x2 x3 x4 r ⟨512 + mate2 j, by omega⟩ * Ideal.ofBits .f32 0x3E000000#32 * x6 (ix2 r ⟨j % 128, by omega⟩) := by
  frame_out
  refine (pay8_at _ _ _ _ r j).trans (congrArg₂ (· + ·)
    (congrArg₂ (· * ·) (congrArg (· * _) (sum_of x0 x1 x2 x3 x4 x5 x6 x7 x8 x9 r _ _ fun k => ?_)) (c_at x0 x1 x2 x3 x4 x5 x6 x7 x8 x9 r _))
    (congrArg₂ (· * ·) (congrArg (· * _) (sum_of x0 x1 x2 x3 x4 x5 x6 x7 x8 x9 r _ _ fun k => ?_)) (s_at x0 x1 x2 x3 x4 x5 x6 x7 x8 x9 r _)))
  · pointwise []
  · pointwise []

theorem out12_at (r : Fin 512) (j : Fin 256) : out0_12 (F := Ideal) x0 x1 x2 x3 x4 x5 x6 x7 x8 x9 (ix2 r j : S512x256.Idx)
    = rowProj x0 x1 x2 x3 x4 r ⟨768 + j, by omega⟩ * x5 (ix2 r ⟨j % 128, by omega⟩)
      + rowProj x0 x1 x2 x3 x4 r ⟨768 + mate2 j, by omega⟩ * x6 (ix2 r ⟨j % 128, by omega⟩) := by
  frame_out
  refine (pay12_at _ _ _ _ r j).trans (congrArg₂ (· + ·)
    (congrArg₂ (· * ·) (sum_of x0 x1 x2 x3 x4 x5 x6 x7 x8 x9 r _ _ fun k => ?_) (c_at x0 x1 x2 x3 x4 x5 x6 x7 x8 x9 r _))
    (congrArg₂ (· * ·) (sum_of x0 x1 x2 x3 x4 x5 x6 x7 x8 x9 r _ _ fun k => ?_) (s_at x0 x1 x2 x3 x4 x5 x6 x7 x8 x9 r _)))
  · pointwise []
  · pointwise []

theorem out13_at (r j : Fin 512) : out0_13 (F := Ideal) x0 x1 x2 x3 x4 x5 x6 x7 x8 x9 (ix2 r j : S512x512.Idx)
    = rowProj x0 x1 x2 x3 x4 r ⟨1024 + j, by omega⟩ := by
  frame_out
  refine (pay6_at (k0_pay41 x0 x1 x2 x3 x4 x5 x6 x7 x8 x9) _ r j).trans (sum_of x0 x1 x2 x3 x4 x5 x6 x7 x8 x9 r _ _ fun k => ?_)
  pointwise []

theorem out14_at (r j : Fin 512) : out0_14 (F := Ideal) x0 x1 x2 x3 x4 x5 x6 x7 x8 x9 (ix2 r j : S512x512.Idx)
    = rowProj x0 x1 x2 x3 x4 r ⟨1536 + j, by omega⟩ * Ideal.div 1 (1 + Ideal.exp (-rowProj x0 x1 x2 x3 x4 r ⟨1536 + j, by omega⟩)) := by
  frame_out
  refine (pay14_at (k0_pay41 x0 x1 x2 x3 x4 x5 x6 x7 x8 x9) _ r j).trans ?_
  rw [sum_of x0 x1 x2 x3 x4 x5 x6 x7 x8 x9 r _ ⟨1536 + j, by omega⟩ fun k => ?_]
  pointwise []

/-- The normalised lanes of the keys of a row, or of the queries: the columns of the projection from `o` on. -/
abbrev rowTabled (o : ℕ) (ho : o + 512 ≤ 6656) (g : Vec Ideal S1x512 .f32) (r : Fin 512) (j : Fin 512) : EReal :=
  tabled (fun j => rowProj x0 x1 x2 x3 x4 r ⟨o + j, by omega⟩) (fun k l => x9 (ix2 k l)) (fun j => g (ix2 0 j)) j

theorem tabled_of (o : ℕ) (ho : o + 512 ≤ 6656) (w : FVec Ideal S1024x512 .bf16) (g : FVec Ideal S1x512 .f32) (r j : Fin 512)
    (hw : ∀ (k : Fin 1024) (j : Fin 512), w (ix2 k j) = x4 (ix2 k ⟨o + j, by omega⟩)) :
    k0_pay25 (F := Ideal) (k0_pay41 x0 x1 x2 x3 x4 x5 x6 x7 x8 x9) (k0_pay44 x0 x1 x2 x3 x4 x5 x6 x7 x8 x9) w g (ix2 r j : S512x512.Idx) = rowTabled x0 x1 x2 x3 x4 x9 o ho g r j := by
  refine (pay25_at _ _ _ _ r j).trans ?_
  have e : (fun j : Fin 512 => ∑ k : Fin 1024, k0_pay41 (F := Ideal) x0 x1 x2 x3 x4 x5 x6 x7 x8 x9 (ix2 r k : S512x1024.Idx) * w (ix2 k j))
      = fun j : Fin 512 => rowProj x0 x1 x2 x3 x4 r ⟨o + j, by omega⟩ := funext fun j => sum_of x0 x1 x2 x3 x4 x5 x6 x7 x8 x9 r _ _ fun k => hw k j
  have e' : (fun k l : Fin 256 => k0_pay44 (F := Ideal) x0 x1 x2 x3 x4 x5 x6 x7 x8 x9 (ix2 k l : S256x256.Idx)) = fun k l => x9 (ix2 k l) :=
    funext fun k => funext fun l => t_at x0 x1 x2 x3 x4 x5 x6 x7 x8 x9 k l
  exact congrArg₂ (fun p T => tabled p T (fun j => g (ix2 0 j)) j) e e'

theorem out15_at (r j : Fin 512) : out0_15 (F := Ideal) x0 x1 x2 x3 x4 x5 x6 x7 x8 x9 (ix2 r j : S512x512.Idx)
    = (rowTabled x0 x1 x2 x3 x4 x9 2048 (by omega) x7 r j * x5 (ix2 r ⟨j % 128, by omega⟩)
      + rowTabled x0 x1 x2 x3 x4 x9 2048 (by omega) x7 r (mate4 j) * x6 (ix2 r ⟨j % 128, by omega⟩)) * qs := by
  frame_out
  unfold k0_pay45 k0_pay46
  refine (congrFun (pay24_eq _ _ _ _ _ _) _).trans ?_
  refine congrArg₂ (· * ·) ((rope4_at _ _ _ r j).trans (congrArg₂ (· + ·) (congrArg₂ (· * ·) (tabled_of x0 x1 x2 x3 x4 x5 x6 x7 x8 x9 2048 (by omega) _ _ r j fun k j => ?_) (c_at x0 x1 x2 x3 x4 x5 x6 x7 x8 x9 r _))
    (congrArg₂ (· * ·) (tabled_of x0 x1 x2 x3 x4 x5 x6 x7 x8 x9 2048 (by omega) _ _ r _ fun k j => ?_) (s_at x0 x1 x2 x3 x4 x5 x6 x7 x8 x9 r _)))) named_qs
  · pointwise []
  · pointwise []

theorem out16_at (r j : Fin 512) : out0_16 (F := Ideal) x0 x1 x2 x3 x4 x5 x6 x7 x8 x9 (ix2 r j : S512x512.Idx)
    = rowTabled x0 x1 x2 x3 x4 x9 2560 (by omega) x8 r j * x5 (ix2 r ⟨j % 128, by omega⟩)
      + rowTabled x0 x1 x2 x3 x4 x9 2560 (by omega) x8 r (mate4 j) * x6 (ix2 r ⟨j % 128, by omega⟩) := by
  frame_out
  refine (congrFun (pay31_eq _ _ _ _ _ _) _).trans ?_
  refine (rope4_at _ _ _ r j).trans (congrArg₂ (· + ·) (congrArg₂ (· * ·) (tabled_of x0 x1 x2 x3 x4 x5 x6 x7 x8 x9 2560 (by omega) _ _ r j fun k j => ?_) (c_at x0 x1 x2 x3 x4 x5 x6 x7 x8 x9 r _))
    (congrArg₂ (· * ·) (tabled_of x0 x1 x2 x3 x4 x5 x6 x7 x8 x9 2560 (by omega) _ _ r _ fun k j => ?_) (s_at x0 x1 x2 x3 x4 x5 x6 x7 x8 x9 r _)))
  · pointwise []
  · pointwise []

theorem pay34_at (h : FVec Ideal S512x1024 .bf16) (w : FVec Ideal S1024x512 .bf16) (r : Fin 512) (z : Fin 128) :
    k0_pay34 (F := Ideal) h w (ix2 r z : S512x128.Idx) = ∑ k : Fin 1024, h (ix2 r k) * w (ix2 k ⟨0 + z, by omega⟩) := by
  pointwise [k0_pay34, k0_pay32]

theorem pay35_at (h : FVec Ideal S512x1024 .bf16) (w : FVec Ideal S1024x512 .bf16) (r : Fin 512) (z : Fin 128) :
    k0_pay35 (F := Ideal) h w (ix2 r z : S512x128.Idx) = ∑ k : Fin 1024, h (ix2 r k) * w (ix2 k ⟨128 + z, by omega⟩) := by
  pointwise [k0_pay35, k0_pay32]

theorem pay36_at (h : FVec Ideal S512x1024 .bf16) (w : FVec Ideal S1024x512 .bf16) (r : Fin 512) (z : Fin 128) :
    k0_pay36 (F := Ideal) h w (ix2 r z : S512x128.Idx) = ∑ k : Fin 1024, h (ix2 r k) * w (ix2 k ⟨256 + z, by omega⟩) := by
  pointwise [k0_pay36, k0_pay32]

theorem pay37_at (h : FVec Ideal S512x1024 .bf16) (w : FVec Ideal S1024x512 .bf16) (r : Fin 512) (z : Fin 128) :
    k0_pay37 (F := Ideal) (k0_pay32 h w) (ix2 r z : S512x128.Idx) = ∑ k : Fin 1024, h (ix2 r k) * w (ix2 k ⟨384 + z, by omega⟩) := by
  pointwise [k0_pay37, k0_pay32]

theorem ones_at (i : S512x128.Idx) : k0_pay33 (F := Ideal) i = 1 := by
  pointwise [k0_pay33]

theorem out17_at (r : Fin 512) (j : Fin 1024) : out0_17 (F := Ideal) x0 x1 x2 x3 x4 x5 x6 x7 x8 x9 (ix2 r j : S512x1024.Idx)
    = if (j : ℕ) % 256 < 128 then rowProj x0 x1 x2 x3 x4 r ⟨3072 + (j / 256 * 128 + j % 256 % 128), by omega⟩ else 1 := by
  unfold out0_17
  canon_tiles x h
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = 896 + (z : ℕ) := h1
    rw [if_neg (by omega)]
    exact ones_at _
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = 768 + (z : ℕ) := h1
    rw [if_pos (by omega)]
    refine (pay37_at _ _ r z).trans (sum_of x0 x1 x2 x3 x4 x5 x6 x7 x8 x9 r _ _ fun k => ?_)
    pointwise []
    blk_ext []
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = 640 + (z : ℕ) := h1
    rw [if_neg (by omega)]
    exact ones_at _
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = 512 + (z : ℕ) := h1
    rw [if_pos (by omega)]
    refine (pay36_at _ _ r z).trans (sum_of x0 x1 x2 x3 x4 x5 x6 x7 x8 x9 r _ _ fun k => ?_)
    pointwise []
    blk_ext []
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = 384 + (z : ℕ) := h1
    rw [if_neg (by omega)]
    exact ones_at _
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = 256 + (z : ℕ) := h1
    rw [if_pos (by omega)]
    refine (pay35_at _ _ r z).trans (sum_of x0 x1 x2 x3 x4 x5 x6 x7 x8 x9 r _ _ fun k => ?_)
    pointwise []
    blk_ext []
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = 128 + (z : ℕ) := h1
    rw [if_neg (by omega)]
    exact ones_at _
  · obtain ⟨a, z, rfl⟩ : ∃ (a : Fin 512) (z : Fin 128), x = ix2 a z := ⟨x 0, x 1, by funext k; match k with | ⟨0, _⟩ => rfl | ⟨1, _⟩ => rfl⟩
    obtain rfl : r = a := Fin.ext h0
    replace h1 : (j : ℕ) = (z : ℕ) := h1
    rw [if_pos (by omega)]
    refine (pay34_at _ _ r z).trans (sum_of x0 x1 x2 x3 x4 x5 x6 x7 x8 x9 r _ _ fun k => ?_)
    pointwise []
    blk_ext []

theorem pay39_eq (h : FVec Ideal S512x1024 .bf16) (w : FVec Ideal S1024x1024 .bf16) : k0_pay39 (F := Ideal) h w = k0_pay38 h w := rfl

theorem pay1_eq (h : FVec Ideal S512x1024 .bf16) (w : FVec Ideal S1024x1024 .bf16) :
    k0_pay1 (F := Ideal) h (k0_pay40 w) (constant S512x1024 .f32 0x00000000#32) = k0_pay38 h w := rfl

theorem gate_of (r : Fin 512) (w : FVec Ideal S1024x1024 .bf16) (z : Fin 1024) (J : Fin 6656) (hw : ∀ k : Fin 1024, w (ix2 k z) = x4 (ix2 k J)) :
    k0_pay38 (F := Ideal) (k0_pay41 x0 x1 x2 x3 x4 x5 x6 x7 x8 x9) w (ix2 r z : S512x1024.Idx) = Ideal.div 1 (1 + Ideal.exp (-rowProj x0 x1 x2 x3 x4 r J)) := by
  refine (pay38_at _ _ r z).trans ?_
  rw [sum_of x0 x1 x2 x3 x4 x5 x6 x7 x8 x9 r _ J hw]

theorem out18_at (r : Fin 512) (j : Fin 3072) : out0_18 (F := Ideal) x0 x1 x2 x3 x4 x5 x6 x7 x8 x9 (ix2 r j : S512x3072.Idx)
    = Ideal.div 1 (1 + Ideal.exp (-rowProj x0 x1 x2 x3 x4 r ⟨3584 + j, by omega⟩)) := by
  unfold out0_18
  canon_tiles x h
  · obtain ⟨a, z, rfl⟩ : ∃ (a : Fin 512) (z : Fin 1024), x = ix2 a z := ⟨x 0, x 1, by funext k; match k with | ⟨0, _⟩ => rfl | ⟨1, _⟩ => rfl⟩
    obtain rfl : r = a := Fin.ext h0
    replace h1 : (j : ℕ) = 2048 + (z : ℕ) := h1
    refine (congrFun (pay1_eq _ _) _).trans (gate_of x0 x1 x2 x3 x4 x5 x6 x7 x8 x9 r _ z _ fun k => ?_)
    pointwise []
    blk_ext []
  · obtain ⟨a, z, rfl⟩ : ∃ (a : Fin 512) (z : Fin 1024), x = ix2 a z := ⟨x 0, x 1, by funext k; match k with | ⟨0, _⟩ => rfl | ⟨1, _⟩ => rfl⟩
    obtain rfl : r = a := Fin.ext h0
    replace h1 : (j : ℕ) = 1024 + (z : ℕ) := h1
    refine (congrFun (pay39_eq _ _) _).trans (gate_of x0 x1 x2 x3 x4 x5 x6 x7 x8 x9 r _ z _ fun k => ?_)
    pointwise []
    blk_ext []
  · obtain ⟨a, z, rfl⟩ : ∃ (a : Fin 512) (z : Fin 1024), x = ix2 a z := ⟨x 0, x 1, by funext k; match k with | ⟨0, _⟩ => rfl | ⟨1, _⟩ => rfl⟩
    obtain rfl : r = a := Fin.ext h0
    replace h1 : (j : ℕ) = (z : ℕ) := h1
    refine (gate_of x0 x1 x2 x3 x4 x5 x6 x7 x8 x9 r _ z _ fun k => ?_)
    pointwise []
    blk_ext []

end Cert.Kernel3Ideal.ProjBlock

end
-- ==== Proof.ProjMath.lean ====
/- The extended reals' side of the projection: the group table takes means, the signed sines turn pairs. -/
module

public import proofs.«01_k».proof.Proof.ProjBlock

@[expose] public section

noncomputable section

open Idealize.ShloMosaic Idealize.ShloMosaic.TcCoe Idealize.SL.Sem

namespace Cert.Kernel3Ideal.ProjMath

open Cert.Kernel3Ideal Cert.Kernel3Ideal.ProjPoint

/-- One lane of a turned pair: `a` is the lane's own value, `b` its partner's. -/
def turned (l : ℕ) (a b C S : EReal) : EReal := if l % 64 < 32 then a * C - b * S else a * C + b * S

theorem turned_of (l : ℕ) (a b C S s : EReal) (hs : s = if l % 64 < 32 then -S else S) : a * C + b * s = turned l a b C S := by
  unfold turned
  split_ifs at hs ⊢ with h
  · rw [hs, mul_neg, sub_eq_add_neg]
  · rw [hs]

/-- One lane of a projection that is normalised in groups of 64 lanes. -/
def unit (p : Fin 512 → EReal) (g : Fin 64 → EReal) (j : Fin 512) : EReal :=
  p j * Ideal.rsqrt (Ideal.div (∑ d : Fin 64, p ⟨j / 64 * 64 + d, by omega⟩ * p ⟨j / 64 * 64 + d, by omega⟩) (Ideal.ofBits .f32 0x42800000#32) + eps)
    * g ⟨j % 64, by omega⟩

theorem word_inv : Ideal.ofBits .f32 0x3C800000#32 = ((1 / 64 : ℝ) : EReal) := by
  simp [Ideal.ofBits, Ideal.ieee, -EReal.coe_mul]
  norm_num

theorem word_64 : Ideal.ofBits .f32 0x42800000#32 = ((64 : ℝ) : EReal) := by
  simp [Ideal.ofBits, Ideal.ieee, -EReal.coe_mul]
  norm_num

theorem word_8th : Ideal.ofBits .f32 0x3E000000#32 = ((8⁻¹ : ℝ) : EReal) := by
  simp [Ideal.ofBits, Ideal.ieee, -EReal.coe_mul]
  norm_num

theorem word_2 : Ideal.ofBits .f32 0x40000000#32 = ((2 : ℝ) : EReal) := by
  simp [Ideal.ofBits, Ideal.ieee, -EReal.coe_mul]
  norm_num

/-- A factor that is a nonnegative real comes out of a sum. -/
theorem sum_mul_real {ι : Type} (s : Finset ι) (f : ι → EReal) (r : ℝ) (hr : 0 ≤ r) : (∑ i ∈ s, f i * (r : EReal)) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- The sum over a row of the group table is the sum over the lane's group, times the table's entry. -/
theorem table_sum (y : Fin 256 → EReal) (l : Fin 256) (v : EReal) :
    (∑ k : Fin 256, y k * (if (k : ℕ) / 64 = l / 64 then v else 0)) = ∑ d : Fin 64, y ⟨l / 64 * 64 + d, by omega⟩ * v := by
  have h : (∑ k : Fin 256, y k * (if (k : ℕ) / 64 = l / 64 then v else 0))
      = ∑ a : Fin 4, ∑ d : Fin 64, if (a : ℕ) = l / 64 then y ⟨a * 64 + d, by omega⟩ * v else 0 := by
    refine (Fin.sum_mul_add_congr (fun a d hd => ?_)).symm
    have e : ((a : ℕ) * 64 + d) / 64 = a := by omega
    show _ = y _ * (if ((a : ℕ) * 64 + d) / 64 = l / 64 then v else 0)
    rw [e]
    split_ifs
    · rfl
    · rw [mul_zero]
  rw [h, Finset.sum_eq_single (⟨l / 64, by omega⟩ : Fin 4)]
  · simp
  · intro a _ ha
    have : (a : ℕ) ≠ l / 64 := fun e => ha (Fin.ext e)
    simp [this]
  · simp

theorem tabled_eq (p : Fin 512 → EReal) (T : Fin 256 → Fin 256 → EReal) (G : Fin 512 → EReal) (g : Fin 64 → EReal) (j : Fin 512)
    (hT : ∀ k l : Fin 256, T k l = if (k : ℕ) / 64 = l / 64 then Ideal.ofBits .f32 0x3C800000#32 else 0)
    (hG : G j = g ⟨j % 64, by omega⟩) : tabled p T G j = unit p g j := by
  unfold tabled unit
  rw [hG]
  simp only [hT]
  have hs := table_sum (fun k => p ⟨j / 256 * 256 + k, by omega⟩ * p ⟨j / 256 * 256 + k, by omega⟩) ⟨j % 256, by omega⟩ (Ideal.ofBits .f32 0x3C800000#32)
  refine (congrArg (fun z => p j * Ideal.rsqrt (z + eps) * g ⟨j % 64, by omega⟩) hs).trans ?_
  rw [word_inv, sum_mul_real _ _ _ (by norm_num), word_64,
    Ideal.div_coe (by norm_num)]
  have e : ∀ d : Fin 64, (⟨(j : ℕ) / 256 * 256 + (j % 256 / 64 * 64 + d), by omega⟩ : Fin 512) = ⟨j / 64 * 64 + d, by omega⟩ :=
    fun d => Fin.ext (by show (j : ℕ) / 256 * 256 + (j % 256 / 64 * 64 + d) = j / 64 * 64 + d; omega)
  simp only [e]

/-- An eighth of a value, over the logarithm of two, is the value times the named factor. -/
theorem scaled_eq (x : EReal) : Ideal.div (x * Ideal.ofBits .f32 0x3E000000#32) (Ideal.log (Ideal.ofBits .f32 0x40000000#32)) = x * qs := by
  have h2 : (0 : ℝ) < Real.log 2 := Real.log_pos (by norm_num)
  have hl : Ideal.log ((2 : ℝ) : EReal) = ((Real.log 2 : ℝ) : EReal) := by
    rw [Ideal.log_coe, if_neg (by norm_num)]
  rw [word_2, word_8th, hl, Ideal.div_coe h2.ne', mul_assoc, qs, ← EReal.coe_mul, one_div]

end Cert.Kernel3Ideal.ProjMath

end
-- ==== Proof.ProjArray.lean ====
/- The nine arrays that the projection leaves, entry by entry, in terms of its arguments. -/
module

public import proofs.«01_k».proof.Proof.ProjMath
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.ProjArray

open Cert.Kernel3Ideal Cert.Kernel3Ideal.Gen Cert.Kernel3Ideal.ProjPoint Cert.Kernel3Ideal.ProjHost Cert.Kernel3Ideal.ProjBlock
open Cert.Kernel3Ideal.ProjMath

section Values

variable (x : FVec Ideal S8x2048x1024 .f32) (sh sc : FVec Ideal S8x1x1024 .f32) (g : FVec Ideal S2x1024 .f32)
  (w : FVec Ideal S2x1024x6656 .f32) (C S : FVec Ideal S2048x32 .f32) (q : FVec Ideal S2x64 .f32)

/-- One entry of the combined projection: token `n` of batch `b`, column `j`. -/
def projAt (b : Fin 8) (n : Fin 2048) (j : Fin 6656) : EReal :=
  proj (fun k => x (ix3 b n k)) (fun k => g (ix2 1 k)) (fun k => sc (ix3 b 0 k)) (fun k => sh (ix3 b 0 k)) (fun k j => w (ix3 1 k j)) j

/-- The part that is mixed by the Fourier transform. -/
def fourierAt (b : Fin 8) (n : Fin 2048) (j : Fin 512) : EReal := projAt x sh sc g w b n ⟨j, by omega⟩

/-- The queries of the retention. -/
def retQueryAt (b : Fin 8) (n : Fin 2048) (j : Fin 256) : EReal :=
  turned j (projAt x sh sc g w b n ⟨512 + j, by omega⟩ * Ideal.ofBits .f32 0x3E000000#32)
    (projAt x sh sc g w b n ⟨512 + mate2 j, by omega⟩ * Ideal.ofBits .f32 0x3E000000#32) (C (ix2 n ⟨j % 32, by omega⟩)) (S (ix2 n ⟨j % 32, by omega⟩))

/-- The keys of the retention. -/
def retKeyAt (b : Fin 8) (n : Fin 2048) (j : Fin 256) : EReal :=
  turned j (projAt x sh sc g w b n ⟨768 + j, by omega⟩) (projAt x sh sc g w b n ⟨768 + mate2 j, by omega⟩)
    (C (ix2 n ⟨j % 32, by omega⟩)) (S (ix2 n ⟨j % 32, by omega⟩))

/-- The values of the retention. -/
def retValueAt (b : Fin 8) (n : Fin 2048) (j : Fin 512) : EReal := projAt x sh sc g w b n ⟨1024 + j, by omega⟩

/-- The gate of the retention. -/
def retGateAt (b : Fin 8) (n : Fin 2048) (j : Fin 512) : EReal :=
  projAt x sh sc g w b n ⟨1536 + j, by omega⟩ * Ideal.div 1 (1 + Ideal.exp (-projAt x sh sc g w b n ⟨1536 + j, by omega⟩))

/-- A lane of the attention's queries or keys, the columns from `o` on, after the norm and the turn. -/
def headAt (o : ℕ) (ho : o + 512 ≤ 6656) (b : Fin 8) (n : Fin 2048) (j : Fin 512) : EReal :=
  turned j (unit (fun j => projAt x sh sc g w b n ⟨o + j, by omega⟩) (fun d => q (ix2 1 d)) j)
    (unit (fun j => projAt x sh sc g w b n ⟨o + j, by omega⟩) (fun d => q (ix2 1 d)) (mate4 j))
    (C (ix2 n ⟨j % 32, by omega⟩)) (S (ix2 n ⟨j % 32, by omega⟩))

/-- The attention's values, each head's followed by as many ones. -/
def packedAt (b : Fin 8) (n : Fin 2048) (j : Fin 1024) : EReal :=
  if (j : ℕ) % 256 < 128 then projAt x sh sc g w b n ⟨3072 + (j / 256 * 128 + j % 256 % 128), by omega⟩ else 1

/-- The mixers' gates. -/
def gateAt (b : Fin 8) (n : Fin 2048) (j : Fin 3072) : EReal :=
  Ideal.div 1 (1 + Ideal.exp (-projAt x sh sc g w b n ⟨3584 + j, by omega⟩))

end Values

variable (m : (ℓ : Loc nD τ sig) → Buf (Elt Ideal) ℓ) (c : Dev nD)

/-- The batch of a row of the flattened tokens. -/
def batchOf (i : Fin 16384) : Fin 8 := ⟨i / 2048, by omega⟩
/-- The token of a row of the flattened tokens. -/
def tokenOf (i : Fin 16384) : Fin 2048 := ⟨i % 2048, by omega⟩

/-- The result array of window 10. -/
def result10 : FVec Ideal S16384x512 .bf16 := fun i => fourierAt (m ((c : Thread nD τ).loc main_arg0)) (m ((c : Thread nD τ).loc main_arg1)) (m ((c : Thread nD τ).loc main_arg2)) (m ((c : Thread nD τ).loc main_arg3)) (m ((c : Thread nD τ).loc main_arg4)) (batchOf (i 0)) (tokenOf (i 0)) (i 1)

/-- The result array of window 11. -/
def result11 : FVec Ideal S16384x256 .bf16 := fun i => retQueryAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (batchOf (i 0)) (tokenOf (i 0)) (i 1)

/-- The result array of window 12. -/
def result12 : FVec Ideal S16384x256 .bf16 := fun i => retKeyAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (batchOf (i 0)) (tokenOf (i 0)) (i 1)

/-- The result array of window 13. -/
def result13 : FVec Ideal S16384x512 .bf16 := fun i => retValueAt (m ((c : Thread nD τ).loc main_arg0)) (m ((c : Thread nD τ).loc main_arg1)) (m ((c : Thread nD τ).loc main_arg2)) (m ((c : Thread nD τ).loc main_arg3)) (m ((c : Thread nD τ).loc main_arg4)) (batchOf (i 0)) (tokenOf (i 0)) (i 1)

/-- The result array of window 14. -/
def result14 : FVec Ideal S16384x512 .bf16 := fun i => retGateAt (m ((c : Thread nD τ).loc main_arg0)) (m ((c : Thread nD τ).loc main_arg1)) (m ((c : Thread nD τ).loc main_arg2)) (m ((c : Thread nD τ).loc main_arg3)) (m ((c : Thread nD τ).loc main_arg4)) (batchOf (i 0)) (tokenOf (i 0)) (i 1)

/-- The result array of window 15. -/
def result15 : FVec Ideal S16384x512 .bf16 := fun i => headAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (m ((c : Thread nD τ).loc main_arg5)) 2048 (by omega) (batchOf (i 0)) (tokenOf (i 0)) (i 1) * qs

/-- The result array of window 16. -/
def result16 : FVec Ideal S16384x512 .bf16 := fun i => headAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (m ((c : Thread nD τ).loc main_arg6)) 2560 (by omega) (batchOf (i 0)) (tokenOf (i 0)) (i 1)

/-- The result array of window 17. -/
def result17 : FVec Ideal S16384x1024 .bf16 := fun i => packedAt (m ((c : Thread nD τ).loc main_arg0)) (m ((c : Thread nD τ).loc main_arg1)) (m ((c : Thread nD τ).loc main_arg2)) (m ((c : Thread nD τ).loc main_arg3)) (m ((c : Thread nD τ).loc main_arg4)) (batchOf (i 0)) (tokenOf (i 0)) (i 1)

/-- The result array of window 18. -/
def result18 : FVec Ideal S16384x3072 .bf16 := fun i => gateAt (m ((c : Thread nD τ).loc main_arg0)) (m ((c : Thread nD τ).loc main_arg1)) (m ((c : Thread nD τ).loc main_arg2)) (m ((c : Thread nD τ).loc main_arg3)) (m ((c : Thread nD τ).loc main_arg4)) (batchOf (i 0)) (tokenOf (i 0)) (i 1)

theorem idx : ∀ t : Fin cfg0.N, win0_0.index t = ![t.val, 0] ∧ win0_1.index t = ![t.val / 4, 0, 0] ∧ win0_2.index t = ![t.val / 4, 0, 0]
    ∧ win0_3.index t = ![0, 0] ∧ win0_4.index t = ![0, 0] ∧ win0_5.index t = ![t.val % 4, 0] ∧ win0_6.index t = ![t.val % 4, 0]
    ∧ win0_7.index t = ![0, 0] ∧ win0_8.index t = ![0, 0] ∧ win0_9.index t = ![0, 0]
    ∧ win0_10.index t = ![t.val, 0]    ∧ win0_11.index t = ![t.val, 0]    ∧ win0_12.index t = ![t.val, 0]    ∧ win0_13.index t = ![t.val, 0]    ∧ win0_14.index t = ![t.val, 0]    ∧ win0_15.index t = ![t.val, 0]    ∧ win0_16.index t = ![t.val, 0]    ∧ win0_17.index t = ![t.val, 0]    ∧ win0_18.index t = ![t.val, 0] :=
  (by decide +kernel : ∀ t : Fin grid0.N, _)

theorem lt_N (t : Fin cfg0.N) : t.val < 32 := lt_of_lt_of_eq t.isLt rfl

/-- The batch of a grid point. -/
def bat (t : Fin cfg0.N) : Fin 8 := ⟨t.val / 4, by have := lt_N t; omega⟩
/-- The token at row `r` of a grid point's block. -/
def tok (t : Fin cfg0.N) (r : Fin 512) : Fin 2048 := ⟨t.val % 4 * 512 + r, by omega⟩

theorem emb0 (t : Fin cfg0.N) (r : Fin 512) (k : Fin 1024) : ((cfg0.win 0).blk t).view.emb (ix2 r k) = (ix2 (row (bat t) (tok t r)) k : S16384x1024.Idx) := by
  have := lt_N t
  try unfold row
  try unfold tok
  try unfold bat
  blk_ext [idx t]

theorem blk0 (t : Fin cfg0.N) (r : Fin 512) (k : Fin 1024) : (iblk m c 0 t : Vec Ideal S512x1024 .f32) (ix2 r k) = (show FVec Ideal S8x2048x1024 .f32 from (m ((c : Thread nD τ).loc main_arg0))) (ix3 (bat t) (tok t r) k) := by
  have key : ∀ X : (b : Ref sig .tc) → Buf (Elt Ideal) ((c : Thread nD τ).loc b),
      ((cfg0.win 0).blk t).view.read (Elt Ideal) (X (Pipeline.arrRef spec0 0)) (ix2 r k) = X main_v46 (ix2 (row (bat t) (tok t r)) k) :=
    fun X => congrArg (X main_v46) (emb0 t r k)
  exact (key (V m c)).trans (x_at m c _ _ _)

theorem emb1 (t : Fin cfg0.N) (k : Fin 1024) : ((cfg0.win 1).blk t).view.emb (ix3 0 0 k) = (ix3 (bat t) 0 k : S8x1x1024.Idx) := by
  have := lt_N t
  try unfold row
  try unfold tok
  try unfold bat
  blk_ext [idx t]

theorem blk1 (t : Fin cfg0.N) (k : Fin 1024) : (iblk m c 1 t : Vec Ideal S1x1x1024 .f32) (ix3 0 0 k) = (show FVec Ideal S8x1x1024 .f32 from (m ((c : Thread nD τ).loc main_arg1))) (ix3 (bat t) 0 k) := by
  have key : ∀ X : (b : Ref sig .tc) → Buf (Elt Ideal) ((c : Thread nD τ).loc b),
      ((cfg0.win 1).blk t).view.read (Elt Ideal) (X (Pipeline.arrRef spec0 1)) (ix3 0 0 k) = X main_arg1 (ix3 (bat t) 0 k) :=
    fun X => congrArg (X main_arg1) (emb1 t k)
  exact (key (V m c)).trans (congrFun (V_main_arg1 m c) _)

theorem emb2 (t : Fin cfg0.N) (k : Fin 1024) : ((cfg0.win 2).blk t).view.emb (ix3 0 0 k) = (ix3 (bat t) 0 k : S8x1x1024.Idx) := by
  have := lt_N t
  try unfold row
  try unfold tok
  try unfold bat
  blk_ext [idx t]

theorem blk2 (t : Fin cfg0.N) (k : Fin 1024) : (iblk m c 2 t : Vec Ideal S1x1x1024 .f32) (ix3 0 0 k) = (show FVec Ideal S8x1x1024 .f32 from (m ((c : Thread nD τ).loc main_arg2))) (ix3 (bat t) 0 k) := by
  have key : ∀ X : (b : Ref sig .tc) → Buf (Elt Ideal) ((c : Thread nD τ).loc b),
      ((cfg0.win 2).blk t).view.read (Elt Ideal) (X (Pipeline.arrRef spec0 2)) (ix3 0 0 k) = X main_arg2 (ix3 (bat t) 0 k) :=
    fun X => congrArg (X main_arg2) (emb2 t k)
  exact (key (V m c)).trans (congrFun (V_main_arg2 m c) _)

theorem emb3 (t : Fin cfg0.N) (k : Fin 1024) : ((cfg0.win 3).blk t).view.emb (ix2 0 k) = (ix2 0 k : S1x1024.Idx) := by
  have := lt_N t
  try unfold row
  try unfold tok
  try unfold bat
  blk_ext [idx t]

theorem blk3 (t : Fin cfg0.N) (k : Fin 1024) : (iblk m c 3 t : Vec Ideal S1x1024 .f32) (ix2 0 k) = (show FVec Ideal S2x1024 .f32 from (m ((c : Thread nD τ).loc main_arg3))) (ix2 1 k) := by
  have key : ∀ X : (b : Ref sig .tc) → Buf (Elt Ideal) ((c : Thread nD τ).loc b),
      ((cfg0.win 3).blk t).view.read (Elt Ideal) (X (Pipeline.arrRef spec0 3)) (ix2 0 k) = X main_v49 (ix2 0 k) :=
    fun X => congrArg (X main_v49) (emb3 t k)
  exact (key (V m c)).trans (g_at m c _)

theorem emb4 (t : Fin cfg0.N) (k : Fin 1024) (j : Fin 6656) : ((cfg0.win 4).blk t).view.emb (ix2 k j) = (ix2 k j : S1024x6656.Idx) := by
  have := lt_N t
  try unfold row
  try unfold tok
  try unfold bat
  blk_ext [idx t]

theorem blk4 (t : Fin cfg0.N) (k : Fin 1024) (j : Fin 6656) : (iblk m c 4 t : Vec Ideal S1024x6656 .bf16) (ix2 k j) = (show FVec Ideal S2x1024x6656 .f32 from (m ((c : Thread nD τ).loc main_arg4))) (ix3 1 k j) := by
  have key : ∀ X : (b : Ref sig .tc) → Buf (Elt Ideal) ((c : Thread nD τ).loc b),
      ((cfg0.win 4).blk t).view.read (Elt Ideal) (X (Pipeline.arrRef spec0 4)) (ix2 k j) = X main_v52 (ix2 k j) :=
    fun X => congrArg (X main_v52) (emb4 t k j)
  exact (key (V m c)).trans (w_at m c _ _)

theorem emb5 (t : Fin cfg0.N) (r : Fin 512) (l : Fin 128) : ((cfg0.win 5).blk t).view.emb (ix2 r l) = (ix2 (tok t r) l : S2048x128.Idx) := by
  have := lt_N t
  try unfold row
  try unfold tok
  try unfold bat
  blk_ext [idx t]

theorem blk5 (t : Fin cfg0.N) (r : Fin 512) (l : Fin 128) : (iblk m c 5 t : Vec Ideal S512x128 .f32) (ix2 r l) = cosines m c (ix2 (tok t r) ⟨l % 32, by omega⟩) := by
  have key : ∀ X : (b : Ref sig .tc) → Buf (Elt Ideal) ((c : Thread nD τ).loc b),
      ((cfg0.win 5).blk t).view.read (Elt Ideal) (X (Pipeline.arrRef spec0 5)) (ix2 r l) = X main_v28 (ix2 (tok t r) l) :=
    fun X => congrArg (X main_v28) (emb5 t r l)
  exact (key (V m c)).trans (cos_at m c _ _)

theorem emb6 (t : Fin cfg0.N) (r : Fin 512) (l : Fin 128) : ((cfg0.win 6).blk t).view.emb (ix2 r l) = (ix2 (tok t r) l : S2048x128.Idx) := by
  have := lt_N t
  try unfold row
  try unfold tok
  try unfold bat
  blk_ext [idx t]

theorem blk6 (t : Fin cfg0.N) (r : Fin 512) (l : Fin 128) : (iblk m c 6 t : Vec Ideal S512x128 .f32) (ix2 r l) = if (l : ℕ) % 64 < 32 then -sines m c (ix2 (tok t r) ⟨l % 32, by omega⟩) else sines m c (ix2 (tok t r) ⟨l % 32, by omega⟩) := by
  have key : ∀ X : (b : Ref sig .tc) → Buf (Elt Ideal) ((c : Thread nD τ).loc b),
      ((cfg0.win 6).blk t).view.read (Elt Ideal) (X (Pipeline.arrRef spec0 6)) (ix2 r l) = X main_v33 (ix2 (tok t r) l) :=
    fun X => congrArg (X main_v33) (emb6 t r l)
  exact (key (V m c)).trans (sin_at m c _ _)

theorem emb7 (t : Fin cfg0.N) (j : Fin 512) : ((cfg0.win 7).blk t).view.emb (ix2 0 j) = (ix2 0 j : S1x512.Idx) := by
  have := lt_N t
  try unfold row
  try unfold tok
  try unfold bat
  blk_ext [idx t]

theorem blk7 (t : Fin cfg0.N) (j : Fin 512) : (iblk m c 7 t : Vec Ideal S1x512 .f32) (ix2 0 j) = (show FVec Ideal S2x64 .f32 from (m ((c : Thread nD τ).loc main_arg5))) (ix2 1 ⟨j % 64, by omega⟩) := by
  have key : ∀ X : (b : Ref sig .tc) → Buf (Elt Ideal) ((c : Thread nD τ).loc b),
      ((cfg0.win 7).blk t).view.read (Elt Ideal) (X (Pipeline.arrRef spec0 7)) (ix2 0 j) = X main_v39 (ix2 0 j) :=
    fun X => congrArg (X main_v39) (emb7 t j)
  exact (key (V m c)).trans (qg_at m c _)

theorem emb8 (t : Fin cfg0.N) (j : Fin 512) : ((cfg0.win 8).blk t).view.emb (ix2 0 j) = (ix2 0 j : S1x512.Idx) := by
  have := lt_N t
  try unfold row
  try unfold tok
  try unfold bat
  blk_ext [idx t]

theorem blk8 (t : Fin cfg0.N) (j : Fin 512) : (iblk m c 8 t : Vec Ideal S1x512 .f32) (ix2 0 j) = (show FVec Ideal S2x64 .f32 from (m ((c : Thread nD τ).loc main_arg6))) (ix2 1 ⟨j % 64, by omega⟩) := by
  have key : ∀ X : (b : Ref sig .tc) → Buf (Elt Ideal) ((c : Thread nD τ).loc b),
      ((cfg0.win 8).blk t).view.read (Elt Ideal) (X (Pipeline.arrRef spec0 8)) (ix2 0 j) = X main_v45 (ix2 0 j) :=
    fun X => congrArg (X main_v45) (emb8 t j)
  exact (key (V m c)).trans (kg_at m c _)

theorem emb9 (t : Fin cfg0.N) (k l : Fin 256) : ((cfg0.win 9).blk t).view.emb (ix2 k l) = (ix2 k l : S256x256.Idx) := by
  have := lt_N t
  try unfold row
  try unfold tok
  try unfold bat
  blk_ext [idx t]

theorem blk9 (t : Fin cfg0.N) (k l : Fin 256) : (iblk m c 9 t : Vec Ideal S256x256 .bf16) (ix2 k l) = if (k : ℕ) / 64 = l / 64 then Ideal.ofBits .f32 0x3C800000#32 else 0 := by
  have key : ∀ X : (b : Ref sig .tc) → Buf (Elt Ideal) ((c : Thread nD τ).loc b),
      ((cfg0.win 9).blk t).view.read (Elt Ideal) (X (Pipeline.arrRef spec0 9)) (ix2 k l) = X main_v63 (ix2 k l) :=
    fun X => congrArg (X main_v63) (emb9 t k l)
  exact (key (V m c)).trans (group_at m c _ _)

theorem rowProj_at (t : Fin cfg0.N) (r : Fin 512) (j : Fin 6656) :
    rowProj (iblk m c 0 t) (iblk m c 1 t) (iblk m c 2 t) (iblk m c 3 t) (iblk m c 4 t) r j = projAt (m ((c : Thread nD τ).loc main_arg0)) (m ((c : Thread nD τ).loc main_arg1)) (m ((c : Thread nD τ).loc main_arg2)) (m ((c : Thread nD τ).loc main_arg3)) (m ((c : Thread nD τ).loc main_arg4)) (bat t) (tok t r) j := by
  unfold rowProj projAt
  simp only [blk0 m c t, blk1 m c t, blk2 m c t, blk3 m c t, blk4 m c t]

theorem batchOf_row (b : Fin 8) (n : Fin 2048) : batchOf (row b n) = b :=
  Fin.ext (by show ((b : ℕ) * 2048 + n) / 2048 = b; omega)

theorem tokenOf_row (b : Fin 8) (n : Fin 2048) : tokenOf (row b n) = n :=
  Fin.ext (by show ((b : ℕ) * 2048 + n) % 2048 = n; omega)

/-- The turn of a pair whose cosines and signed sines are read from rows of 128 lanes. -/
theorem turn_row {N : ℕ} (j : Fin N) (u v : EReal) (C S : Fin 32 → EReal) :
    u * C ⟨(j : ℕ) % 128 % 32, by omega⟩ + v * (if (j : ℕ) % 128 % 64 < 32 then -S ⟨(j : ℕ) % 128 % 32, by omega⟩ else S ⟨(j : ℕ) % 128 % 32, by omega⟩)
      = turned j u v (C ⟨j % 32, by omega⟩) (S ⟨j % 32, by omega⟩) := by
  have e1 : (j : ℕ) % 128 % 32 = j % 32 := by omega
  have e2 : (j : ℕ) % 128 % 64 = j % 64 := by omega
  simp only [e1, e2]
  exact turned_of _ _ _ _ _ _ rfl

theorem turn_blk {N : ℕ} (t : Fin cfg0.N) (r : Fin 512) (j : Fin N) (u v : EReal) :
    u * (iblk m c 5 t : Vec Ideal S512x128 .f32) (ix2 r ⟨(j : ℕ) % 128, by omega⟩) + v * (iblk m c 6 t : Vec Ideal S512x128 .f32) (ix2 r ⟨(j : ℕ) % 128, by omega⟩)
      = turned j u v (cosines m c (ix2 (tok t r) ⟨j % 32, by omega⟩)) (sines m c (ix2 (tok t r) ⟨j % 32, by omega⟩)) := by
  rw [blk5, blk6]
  exact turn_row j u v (fun l => cosines m c (ix2 (tok t r) l)) (fun l => sines m c (ix2 (tok t r) l))

theorem rowTabled_at (t : Fin cfg0.N) (o : ℕ) (ho : o + 512 ≤ 6656) (G : Vec Ideal S1x512 .f32) (q : FVec Ideal S2x64 .f32)
    (hG : ∀ j : Fin 512, G (ix2 0 j) = q (ix2 1 ⟨j % 64, by omega⟩)) (r j : Fin 512) :
    rowTabled (iblk m c 0 t) (iblk m c 1 t) (iblk m c 2 t) (iblk m c 3 t) (iblk m c 4 t) (iblk m c 9 t) o ho G r j
      = unit (fun j => projAt (m ((c : Thread nD τ).loc main_arg0)) (m ((c : Thread nD τ).loc main_arg1)) (m ((c : Thread nD τ).loc main_arg2)) (m ((c : Thread nD τ).loc main_arg3)) (m ((c : Thread nD τ).loc main_arg4)) (bat t) (tok t r) ⟨o + j, by omega⟩) (fun d => q (ix2 1 d)) j := by
  refine (tabled_eq _ _ _ (fun d => q (ix2 1 d)) j (blk9 m c t) (hG j)).trans ?_
  exact congrArg (fun p => unit p (fun d => q (ix2 1 d)) j) (funext fun j => rowProj_at m c t r _)

theorem emb10 (t : Fin cfg0.N) (r : Fin 512) (j : Fin 512) : ((cfg0.win 10).blk t).view.emb (ix2 r j) = (ix2 (row (bat t) (tok t r)) j : S16384x512.Idx) := by
  have := lt_N t
  try unfold row
  try unfold tok
  try unfold bat
  blk_ext [idx t]

theorem point10 (t : Fin cfg0.N) (y : S512x512.Idx) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
    = result10 m c (((cfg0.win 10).blk t).view.emb y) := by
  obtain ⟨r, j, rfl⟩ : ∃ (r : Fin 512) (j : Fin 512), y = ix2 r j := ⟨y 0, y 1, by funext k; match k with | ⟨0, _⟩ => rfl | ⟨1, _⟩ => rfl⟩
  rw [emb10]
  refine (out10_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = fourierAt (m ((c : Thread nD τ).loc main_arg0)) (m ((c : Thread nD τ).loc main_arg1)) (m ((c : Thread nD τ).loc main_arg2)) (m ((c : Thread nD τ).loc main_arg3)) (m ((c : Thread nD τ).loc main_arg4)) (batchOf (row (bat t) (tok t r))) (tokenOf (row (bat t) (tok t r))) j
  rw [batchOf_row, tokenOf_row]
  exact rowProj_at m c t r _

/-- After the run the array of window 10 is `result10`. -/
theorem final10 : (dats m 0 c).arrAt 10 cfg0.N = result10 m c := by
  refine (dats m 0 c).arrAt_eq_of_covers 10 _ (by decide +kernel) fun t _ y => ?_
  blk_simp
  rw [after0_10]
  exact point10 m c t y

theorem emb11 (t : Fin cfg0.N) (r : Fin 512) (j : Fin 256) : ((cfg0.win 11).blk t).view.emb (ix2 r j) = (ix2 (row (bat t) (tok t r)) j : S16384x256.Idx) := by
  have := lt_N t
  try unfold row
  try unfold tok
  try unfold bat
  blk_ext [idx t]

theorem point11 (t : Fin cfg0.N) (y : S512x256.Idx) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) y
    = result11 m c (((cfg0.win 11).blk t).view.emb y) := by
  obtain ⟨r, j, rfl⟩ : ∃ (r : Fin 512) (j : Fin 256), y = ix2 r j := ⟨y 0, y 1, by funext k; match k with | ⟨0, _⟩ => rfl | ⟨1, _⟩ => rfl⟩
  rw [emb11]
  refine (out11_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = retQueryAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (batchOf (row (bat t) (tok t r))) (tokenOf (row (bat t) (tok t r))) j
  rw [batchOf_row, tokenOf_row]
  rw [rowProj_at, rowProj_at]
  exact turn_blk m c t r j _ _

/-- After the run the array of window 11 is `result11`. -/
theorem final11 : (dats m 0 c).arrAt 11 cfg0.N = result11 m c := by
  refine (dats m 0 c).arrAt_eq_of_covers 11 _ (by decide +kernel) fun t _ y => ?_
  blk_simp
  rw [after0_11]
  exact point11 m c t y

theorem emb12 (t : Fin cfg0.N) (r : Fin 512) (j : Fin 256) : ((cfg0.win 12).blk t).view.emb (ix2 r j) = (ix2 (row (bat t) (tok t r)) j : S16384x256.Idx) := by
  have := lt_N t
  try unfold row
  try unfold tok
  try unfold bat
  blk_ext [idx t]

theorem point12 (t : Fin cfg0.N) (y : S512x256.Idx) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) y
    = result12 m c (((cfg0.win 12).blk t).view.emb y) := by
  obtain ⟨r, j, rfl⟩ : ∃ (r : Fin 512) (j : Fin 256), y = ix2 r j := ⟨y 0, y 1, by funext k; match k with | ⟨0, _⟩ => rfl | ⟨1, _⟩ => rfl⟩
  rw [emb12]
  refine (out12_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = retKeyAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (batchOf (row (bat t) (tok t r))) (tokenOf (row (bat t) (tok t r))) j
  rw [batchOf_row, tokenOf_row]
  rw [rowProj_at, rowProj_at]
  exact turn_blk m c t r j _ _

/-- After the run the array of window 12 is `result12`. -/
theorem final12 : (dats m 0 c).arrAt 12 cfg0.N = result12 m c := by
  refine (dats m 0 c).arrAt_eq_of_covers 12 _ (by decide +kernel) fun t _ y => ?_
  blk_simp
  rw [after0_12]
  exact point12 m c t y

theorem emb13 (t : Fin cfg0.N) (r : Fin 512) (j : Fin 512) : ((cfg0.win 13).blk t).view.emb (ix2 r j) = (ix2 (row (bat t) (tok t r)) j : S16384x512.Idx) := by
  have := lt_N t
  try unfold row
  try unfold tok
  try unfold bat
  blk_ext [idx t]

theorem point13 (t : Fin cfg0.N) (y : S512x512.Idx) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) y
    = result13 m c (((cfg0.win 13).blk t).view.emb y) := by
  obtain ⟨r, j, rfl⟩ : ∃ (r : Fin 512) (j : Fin 512), y = ix2 r j := ⟨y 0, y 1, by funext k; match k with | ⟨0, _⟩ => rfl | ⟨1, _⟩ => rfl⟩
  rw [emb13]
  refine (out13_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = retValueAt (m ((c : Thread nD τ).loc main_arg0)) (m ((c : Thread nD τ).loc main_arg1)) (m ((c : Thread nD τ).loc main_arg2)) (m ((c : Thread nD τ).loc main_arg3)) (m ((c : Thread nD τ).loc main_arg4)) (batchOf (row (bat t) (tok t r))) (tokenOf (row (bat t) (tok t r))) j
  rw [batchOf_row, tokenOf_row]
  exact rowProj_at m c t r _

/-- After the run the array of window 13 is `result13`. -/
theorem final13 : (dats m 0 c).arrAt 13 cfg0.N = result13 m c := by
  refine (dats m 0 c).arrAt_eq_of_covers 13 _ (by decide +kernel) fun t _ y => ?_
  blk_simp
  rw [after0_13]
  exact point13 m c t y

theorem emb14 (t : Fin cfg0.N) (r : Fin 512) (j : Fin 512) : ((cfg0.win 14).blk t).view.emb (ix2 r j) = (ix2 (row (bat t) (tok t r)) j : S16384x512.Idx) := by
  have := lt_N t
  try unfold row
  try unfold tok
  try unfold bat
  blk_ext [idx t]

theorem point14 (t : Fin cfg0.N) (y : S512x512.Idx) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) y
    = result14 m c (((cfg0.win 14).blk t).view.emb y) := by
  obtain ⟨r, j, rfl⟩ : ∃ (r : Fin 512) (j : Fin 512), y = ix2 r j := ⟨y 0, y 1, by funext k; match k with | ⟨0, _⟩ => rfl | ⟨1, _⟩ => rfl⟩
  rw [emb14]
  refine (out14_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = retGateAt (m ((c : Thread nD τ).loc main_arg0)) (m ((c : Thread nD τ).loc main_arg1)) (m ((c : Thread nD τ).loc main_arg2)) (m ((c : Thread nD τ).loc main_arg3)) (m ((c : Thread nD τ).loc main_arg4)) (batchOf (row (bat t) (tok t r))) (tokenOf (row (bat t) (tok t r))) j
  rw [batchOf_row, tokenOf_row]
  rw [rowProj_at]
  rfl

/-- After the run the array of window 14 is `result14`. -/
theorem final14 : (dats m 0 c).arrAt 14 cfg0.N = result14 m c := by
  refine (dats m 0 c).arrAt_eq_of_covers 14 _ (by decide +kernel) fun t _ y => ?_
  blk_simp
  rw [after0_14]
  exact point14 m c t y

theorem emb15 (t : Fin cfg0.N) (r : Fin 512) (j : Fin 512) : ((cfg0.win 15).blk t).view.emb (ix2 r j) = (ix2 (row (bat t) (tok t r)) j : S16384x512.Idx) := by
  have := lt_N t
  try unfold row
  try unfold tok
  try unfold bat
  blk_ext [idx t]

theorem point15 (t : Fin cfg0.N) (y : S512x512.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) y
    = result15 m c (((cfg0.win 15).blk t).view.emb y) := by
  obtain ⟨r, j, rfl⟩ : ∃ (r : Fin 512) (j : Fin 512), y = ix2 r j := ⟨y 0, y 1, by funext k; match k with | ⟨0, _⟩ => rfl | ⟨1, _⟩ => rfl⟩
  rw [emb15]
  refine (out15_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = headAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (m ((c : Thread nD τ).loc main_arg5)) 2048 (by omega) (batchOf (row (bat t) (tok t r))) (tokenOf (row (bat t) (tok t r))) j * qs
  rw [batchOf_row, tokenOf_row]
  rw [rowTabled_at m c t 2048 (by omega) (iblk m c 7 t) (m ((c : Thread nD τ).loc main_arg5)) (blk7 m c t) r, rowTabled_at m c t 2048 (by omega) (iblk m c 7 t) (m ((c : Thread nD τ).loc main_arg5)) (blk7 m c t) r]
  exact congrArg (· * qs) (turn_blk m c t r j _ _)

/-- After the run the array of window 15 is `result15`. -/
theorem final15 : (dats m 0 c).arrAt 15 cfg0.N = result15 m c := by
  refine (dats m 0 c).arrAt_eq_of_covers 15 _ (by decide +kernel) fun t _ y => ?_
  blk_simp
  rw [after0_15]
  exact point15 m c t y

theorem emb16 (t : Fin cfg0.N) (r : Fin 512) (j : Fin 512) : ((cfg0.win 16).blk t).view.emb (ix2 r j) = (ix2 (row (bat t) (tok t r)) j : S16384x512.Idx) := by
  have := lt_N t
  try unfold row
  try unfold tok
  try unfold bat
  blk_ext [idx t]

theorem point16 (t : Fin cfg0.N) (y : S512x512.Idx) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) y
    = result16 m c (((cfg0.win 16).blk t).view.emb y) := by
  obtain ⟨r, j, rfl⟩ : ∃ (r : Fin 512) (j : Fin 512), y = ix2 r j := ⟨y 0, y 1, by funext k; match k with | ⟨0, _⟩ => rfl | ⟨1, _⟩ => rfl⟩
  rw [emb16]
  refine (out16_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = headAt (m ((c : Thread nD τ).loc main_arg0)) (m ((c : Thread nD τ).loc main_arg1)) (m ((c : Thread nD τ).loc main_arg2)) (m ((c : Thread nD τ).loc main_arg3)) (m ((c : Thread nD τ).loc main_arg4)) (cosines m c) (sines m c) (m ((c : Thread nD τ).loc main_arg6)) 2560 (by omega) (batchOf (row (bat t) (tok t r))) (tokenOf (row (bat t) (tok t r))) j
  rw [batchOf_row, tokenOf_row]
  rw [rowTabled_at m c t 2560 (by omega) (iblk m c 8 t) (m ((c : Thread nD τ).loc main_arg6)) (blk8 m c t) r, rowTabled_at m c t 2560 (by omega) (iblk m c 8 t) (m ((c : Thread nD τ).loc main_arg6)) (blk8 m c t) r]
  exact turn_blk m c t r j _ _

/-- After the run the array of window 16 is `result16`. -/
theorem final16 : (dats m 0 c).arrAt 16 cfg0.N = result16 m c := by
  refine (dats m 0 c).arrAt_eq_of_covers 16 _ (by decide +kernel) fun t _ y => ?_
  blk_simp
  rw [after0_16]
  exact point16 m c t y

theorem emb17 (t : Fin cfg0.N) (r : Fin 512) (j : Fin 1024) : ((cfg0.win 17).blk t).view.emb (ix2 r j) = (ix2 (row (bat t) (tok t r)) j : S16384x1024.Idx) := by
  have := lt_N t
  try unfold row
  try unfold tok
  try unfold bat
  blk_ext [idx t]

theorem point17 (t : Fin cfg0.N) (y : S512x1024.Idx) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) y
    = result17 m c (((cfg0.win 17).blk t).view.emb y) := by
  obtain ⟨r, j, rfl⟩ : ∃ (r : Fin 512) (j : Fin 1024), y = ix2 r j := ⟨y 0, y 1, by funext k; match k with | ⟨0, _⟩ => rfl | ⟨1, _⟩ => rfl⟩
  rw [emb17]
  refine (out17_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = packedAt (m ((c : Thread nD τ).loc main_arg0)) (m ((c : Thread nD τ).loc main_arg1)) (m ((c : Thread nD τ).loc main_arg2)) (m ((c : Thread nD τ).loc main_arg3)) (m ((c : Thread nD τ).loc main_arg4)) (batchOf (row (bat t) (tok t r))) (tokenOf (row (bat t) (tok t r))) j
  rw [batchOf_row, tokenOf_row]
  rw [rowProj_at]
  rfl

/-- After the run the array of window 17 is `result17`. -/
theorem final17 : (dats m 0 c).arrAt 17 cfg0.N = result17 m c := by
  refine (dats m 0 c).arrAt_eq_of_covers 17 _ (by decide +kernel) fun t _ y => ?_
  blk_simp
  rw [after0_17]
  exact point17 m c t y

theorem emb18 (t : Fin cfg0.N) (r : Fin 512) (j : Fin 3072) : ((cfg0.win 18).blk t).view.emb (ix2 r j) = (ix2 (row (bat t) (tok t r)) j : S16384x3072.Idx) := by
  have := lt_N t
  try unfold row
  try unfold tok
  try unfold bat
  blk_ext [idx t]

theorem point18 (t : Fin cfg0.N) (y : S512x3072.Idx) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) y
    = result18 m c (((cfg0.win 18).blk t).view.emb y) := by
  obtain ⟨r, j, rfl⟩ : ∃ (r : Fin 512) (j : Fin 3072), y = ix2 r j := ⟨y 0, y 1, by funext k; match k with | ⟨0, _⟩ => rfl | ⟨1, _⟩ => rfl⟩
  rw [emb18]
  refine (out18_at (iblk m c 0 t) (iblk m c 1 t) (iblk m c 2 t) (iblk m c 3 t) (iblk m c 4 t) (iblk m c 5 t) (iblk m c 6 t) (iblk m c 7 t) (iblk m c 8 t) (iblk m c 9 t) r j).trans ?_
  show _ = gateAt (m ((c : Thread nD τ).loc main_arg0)) (m ((c : Thread nD τ).loc main_arg1)) (m ((c : Thread nD τ).loc main_arg2)) (m ((c : Thread nD τ).loc main_arg3)) (m ((c : Thread nD τ).loc main_arg4)) (batchOf (row (bat t) (tok t r))) (tokenOf (row (bat t) (tok t r))) j
  rw [batchOf_row, tokenOf_row]
  rw [rowProj_at]
  rfl

/-- After the run the array of window 18 is `result18`. -/
theorem final18 : (dats m 0 c).arrAt 18 cfg0.N = result18 m c := by
  refine (dats m 0 c).arrAt_eq_of_covers 18 _ (by decide +kernel) fun t _ y => ?_
  blk_simp
  rw [after0_18]
  exact point18 m c t y

/-- Every run ends with the nine results in their arrays and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v64_0) = result10 m c
      ∧ r.2.mem ((c.tc : Thread nD τ).loc main_v64_1) = result11 m c
      ∧ r.2.mem ((c.tc : Thread nD τ).loc main_v64_2) = result12 m c
      ∧ r.2.mem ((c.tc : Thread nD τ).loc main_v64_3) = result13 m c
      ∧ r.2.mem ((c.tc : Thread nD τ).loc main_v64_4) = result14 m c
      ∧ r.2.mem ((c.tc : Thread nD τ).loc main_v64_5) = result15 m c
      ∧ r.2.mem ((c.tc : Thread nD τ).loc main_v64_6) = result16 m c
      ∧ r.2.mem ((c.tc : Thread nD τ).loc main_v64_7) = result17 m c
      ∧ r.2.mem ((c.tc : Thread nD τ).loc main_v64_8) = result18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨((h c).1).trans (final10 m c), ((h c).2.1).trans (final11 m c), ((h c).2.2.1).trans (final12 m c), ((h c).2.2.2.1).trans (final13 m c), ((h c).2.2.2.2.1).trans (final14 m c), ((h c).2.2.2.2.2.1).trans (final15 m c), ((h c).2.2.2.2.2.2.1).trans (final16 m c), ((h c).2.2.2.2.2.2.2.1).trans (final17 m c), ((h c).2.2.2.2.2.2.2.2.1).trans (final18 m c), (h c).2.2.2.2.2.2.2.2.2⟩)
    (Cert.Kernel3Ideal.Value.run_blocks (F := Ideal) m ρ)

end Cert.Kernel3Ideal.ProjArray

end
-- ==== Proof.ProjRef.lean ====
/- The reference's projection, entry by entry, over the extended reals, and that its nine parts are the kernel's. -/
module

public import proofs.«01_k».proof.Proof.ProjArray
public import proofs.«01_k».proof.Proof.Gen.Reference3Ideal.Read

@[expose] public section

set_option maxRecDepth 16384

noncomputable section

open Idealize.ShloMosaic Idealize.ShloMosaic.TcCoe Idealize.SL.Sem

namespace Cert.Reference3Ideal.ProjRef

open Cert.Reference3Ideal Cert.Reference3Ideal.Gen Cert.Reference3Ideal.Read
open Cert.Kernel3Ideal.ProjPoint (hid eps mate1 mate2 mate4 qs)
open Cert.Kernel3Ideal.ProjBlock (proj)
open Cert.Kernel3Ideal.ProjMath (turned unit scaled_eq)
open Cert.Kernel3Ideal.ProjArray (projAt fourierAt retQueryAt retKeyAt retValueAt retGateAt headAt packedAt gateAt)

variable (x : FVec Ideal S8x2048x1024 .f32) (sh sc : FVec Ideal S8x1x1024 .f32) (g : FVec Ideal S2x1024 .f32)
  (w : FVec Ideal S2x1024x6656 .f32) (q : FVec Ideal S2x64 .f32)

/-- The normalized and modulated entry. -/
theorem hid_at (b : Fin 8) (n : Fin 2048) (k : Fin 1024) : val_main_v46 (F := Ideal) x sh sc g (ix3 b n k : S8x2048x1024.Idx)
    = hid (fun k => x (ix3 b n k)) (fun k => g (ix2 1 k)) (fun k => sc (ix3 b 0 k)) (fun k => sh (ix3 b 0 k)) k := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_1, val_main_cst_2, val_main_cst_3, val_main_cst_4, hid]

/-- An entry of the projection. -/
theorem proj_at (b : Fin 8) (n : Fin 2048) (j : Fin 6656) : val_main_v49 (F := Ideal) x sh sc g w (ix3 b n j : S8x2048x6656.Idx)
    = projAt x sh sc g w b n j := by
  pointwise [val_main_v49, val_main_v48, val_main_v47, projAt, proj]
  exact Finset.sum_congr rfl fun k _ => congrArg (· * w (ix3 1 k j)) (hid_at x sh sc g b n k)

theorem turned_low (L : ℕ) (h : L % 64 < 32) (a b c s a' b' c' s' : EReal) (ha : a = a') (hb : b = b') (hc : c = c') (hs : s = s') :
    a * c - b * s = turned L a' b' c' s' := by
  rw [turned, if_pos h, ha, hb, hc, hs]

theorem turned_high (L : ℕ) (h : ¬ L % 64 < 32) (a b c s a' b' c' s' : EReal) (ha : a = a') (hb : b = b') (hc : c = c') (hs : s = s') :
    a * c + b * s = turned L a' b' c' s' := by
  rw [turned, if_neg h, ha, hb, hc, hs]

/-- A retention query. -/
theorem rq_at (b : Fin 8) (n : Fin 2048) (h : Fin 4) (l : Fin 64) : val_main_v80 (F := Ideal) x sh sc g w (ix4 b n h l : S8x2048x4x64.Idx)
    = retQueryAt x sh sc g w (val_main_v24 (F := Ideal)) (val_main_v25 (F := Ideal)) b n ⟨h * 64 + l, by omega⟩ := by
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v51, val_main_cst_5]
  simp only [proj_at]
  unfold retQueryAt
  by_cases hl : (l : ℕ) < 32
  · refine (dif_pos hl).trans (turned_low _ (by dsimp only; omega) _ _ _ _ _ _ _ _ ?_ ?_ ?_ ?_)
    · refine congrArg (fun i => projAt x sh sc g w b n i * Ideal.ofBits .f32 0x3E000000#32) (Fin.ext ?_)
      dsimp only
    · refine congrArg (fun i => projAt x sh sc g w b n i * Ideal.ofBits .f32 0x3E000000#32) (Fin.ext ?_)
      dsimp only [mate2]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega
  · refine (dif_neg hl).trans (turned_high _ (by dsimp only; omega) _ _ _ _ _ _ _ _ ?_ ?_ ?_ ?_)
    · refine congrArg (fun i => projAt x sh sc g w b n i * Ideal.ofBits .f32 0x3E000000#32) (Fin.ext ?_)
      dsimp only
      omega
    · refine congrArg (fun i => projAt x sh sc g w b n i * Ideal.ofBits .f32 0x3E000000#32) (Fin.ext ?_)
      dsimp only [mate2]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega

/-- A retention key. -/
theorem rk_at (b : Fin 8) (n : Fin 2048) (h : Fin 4) (l : Fin 64) : val_main_v100 (F := Ideal) x sh sc g w (ix4 b n h l : S8x2048x4x64.Idx)
    = retKeyAt x sh sc g w (val_main_v24 (F := Ideal)) (val_main_v25 (F := Ideal)) b n ⟨h * 64 + l, by omega⟩ := by
  pointwise [val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v52]
  simp only [proj_at]
  unfold retKeyAt
  by_cases hl : (l : ℕ) < 32
  · refine (dif_pos hl).trans (turned_low _ (by dsimp only; omega) _ _ _ _ _ _ _ _ ?_ ?_ ?_ ?_)
    · refine congrArg (fun i => projAt x sh sc g w b n i) (Fin.ext ?_)
      dsimp only
    · refine congrArg (fun i => projAt x sh sc g w b n i) (Fin.ext ?_)
      dsimp only [mate2]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega
  · refine (dif_neg hl).trans (turned_high _ (by dsimp only; omega) _ _ _ _ _ _ _ _ ?_ ?_ ?_ ?_)
    · refine congrArg (fun i => projAt x sh sc g w b n i) (Fin.ext ?_)
      dsimp only
      omega
    · refine congrArg (fun i => projAt x sh sc g w b n i) (Fin.ext ?_)
      dsimp only [mate2]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega

/-- A normalized query of the attention. -/
theorem uq_at (b : Fin 8) (n : Fin 2048) (h : Fin 4) (t : Fin 2) (l : Fin 64) : val_main_v116 (F := Ideal) x sh sc g w q (ix5 b n h t l : S8x2048x4x2x64.Idx)
    = unit (fun j => projAt x sh sc g w b n ⟨2048 + j, by omega⟩) (fun d => q (ix2 1 d)) ⟨h * 128 + t * 64 + l, by omega⟩ := by
  pointwise [val_main_v116, val_main_v115, val_main_v114, val_main_v113, val_main_v112, val_main_v111, val_main_v110, val_main_v109, val_main_v108, val_main_v107, val_main_v106, val_main_v105, val_main_v104, val_main_v103, val_main_v102, val_main_v101, val_main_v55, val_main_cst_6, val_main_cst_7, val_main_cst_8]
  simp only [proj_at]
  have e1 : ((h : ℕ) * 128 + t * 64 + l) / 64 * 64 = h * 128 + t * 64 := by omega
  have e2 : ((h : ℕ) * 128 + t * 64 + l) % 64 = l := by omega
  unfold unit
  simp only [e1, e2]

/-- A normalized key of the attention. -/
theorem uk_at (b : Fin 8) (n : Fin 2048) (h : Fin 4) (t : Fin 2) (l : Fin 64) : val_main_v156 (F := Ideal) x sh sc g w q (ix5 b n h t l : S8x2048x4x2x64.Idx)
    = unit (fun j => projAt x sh sc g w b n ⟨2560 + j, by omega⟩) (fun d => q (ix2 1 d)) ⟨h * 128 + t * 64 + l, by omega⟩ := by
  pointwise [val_main_v156, val_main_v155, val_main_v154, val_main_v153, val_main_v152, val_main_v151, val_main_v150, val_main_v149, val_main_v148, val_main_v147, val_main_v146, val_main_v145, val_main_v144, val_main_v143, val_main_v142, val_main_v141, val_main_v56, val_main_cst_11, val_main_cst_12, val_main_cst_13]
  simp only [proj_at]
  have e1 : ((h : ℕ) * 128 + t * 64 + l) / 64 * 64 = h * 128 + t * 64 := by omega
  have e2 : ((h : ℕ) * 128 + t * 64 + l) % 64 = l := by omega
  unfold unit
  simp only [e1, e2]

/-- A query of the attention, turned and scaled. -/
theorem dq_at (b : Fin 8) (n : Fin 2048) (h : Fin 4) (t : Fin 2) (l : Fin 64) : val_main_v140 (F := Ideal) x sh sc g w q (ix5 b n h t l : S8x2048x4x2x64.Idx)
    = headAt x sh sc g w (val_main_v24 (F := Ideal)) (val_main_v25 (F := Ideal)) q 2048 (by omega) b n ⟨h * 128 + t * 64 + l, by omega⟩ * qs := by
  pointwise [val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_cst_9, val_main_cst_10]
  rw [scaled_eq]
  simp only [uq_at]
  refine congrArg (· * qs) ?_
  unfold headAt
  by_cases hl : (l : ℕ) < 32
  · refine (dif_pos hl).trans (turned_low _ (by dsimp only; omega) _ _ _ _ _ _ _ _ ?_ ?_ ?_ ?_)
    · refine congrArg (unit _ _) (Fin.ext ?_)
      dsimp only
    · refine congrArg (unit _ _) (Fin.ext ?_)
      dsimp only [mate4]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega
  · refine (dif_neg hl).trans (turned_high _ (by dsimp only; omega) _ _ _ _ _ _ _ _ ?_ ?_ ?_ ?_)
    · refine congrArg (unit _ _) (Fin.ext ?_)
      dsimp only
      omega
    · refine congrArg (unit _ _) (Fin.ext ?_)
      dsimp only [mate4]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega

/-- A key of the attention, turned. -/
theorem dk_at (b : Fin 8) (n : Fin 2048) (h : Fin 4) (t : Fin 2) (l : Fin 64) : val_main_v175 (F := Ideal) x sh sc g w q (ix5 b n h t l : S8x2048x4x2x64.Idx)
    = headAt x sh sc g w (val_main_v24 (F := Ideal)) (val_main_v25 (F := Ideal)) q 2560 (by omega) b n ⟨h * 128 + t * 64 + l, by omega⟩ := by
  pointwise [val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157]
  simp only [uk_at]
  unfold headAt
  by_cases hl : (l : ℕ) < 32
  · refine (dif_pos hl).trans (turned_low _ (by dsimp only; omega) _ _ _ _ _ _ _ _ ?_ ?_ ?_ ?_)
    · refine congrArg (unit _ _) (Fin.ext ?_)
      dsimp only
    · refine congrArg (unit _ _) (Fin.ext ?_)
      dsimp only [mate4]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega
  · refine (dif_neg hl).trans (turned_high _ (by dsimp only; omega) _ _ _ _ _ _ _ _ ?_ ?_ ?_ ?_)
    · refine congrArg (unit _ _) (Fin.ext ?_)
      dsimp only
      omega
    · refine congrArg (unit _ _) (Fin.ext ?_)
      dsimp only [mate4]
      split_ifs <;> omega
    · refine congrArg (fun i => val_main_v24 (F := Ideal) (ix2 n i)) (Fin.ext ?_)
      dsimp only
      omega
    · refine congrArg (fun i => val_main_v25 (F := Ideal) (ix2 n i)) (Fin.ext ?_)
      dsimp only
      omega

/-- A value of the attention, or a one. -/
theorem dv_at (b : Fin 8) (n : Fin 2048) (h : Fin 4) (l : Fin 256) : val_main_v178 (F := Ideal) x sh sc g w (ix4 b n h l : S8x2048x4x256.Idx)
    = packedAt x sh sc g w b n ⟨h * 256 + l, by omega⟩ := by
  pointwise [val_main_v178, val_main_v177, val_main_v176, val_main_v57, val_main_cst_14]
  simp only [proj_at]
  unfold packedAt
  have e1 : ((h : ℕ) * 256 + l) % 256 = l := by omega
  have e2 : ((h : ℕ) * 256 + l) / 256 = h := by omega
  simp only [e1, e2]
  by_cases hl : (l : ℕ) < 128
  · simp only [dif_pos hl, if_pos hl, Nat.mod_eq_of_lt hl]
  · simp only [dif_neg hl, if_neg hl]

theorem fourier_at (r : Fin 16384) (j : Fin 512) : val_main_v187 (F := Ideal) x sh sc g w (ix2 r j : S16384x512.Idx)
    = fourierAt x sh sc g w ⟨r / 2048, by omega⟩ ⟨r % 2048, by omega⟩ j := by
  pointwise [val_main_v187, val_main_v186, val_main_v50]
  simp only [proj_at]
  unfold fourierAt
  exact congrArg (fun j => projAt x sh sc g w ⟨r / 2048, by omega⟩ ⟨r % 2048, by omega⟩ j) (Fin.ext (by dsimp only))

theorem query_at (r : Fin 16384) (j : Fin 256) : val_main_v189 (F := Ideal) x sh sc g w (ix2 r j : S16384x256.Idx)
    = retQueryAt x sh sc g w (val_main_v24 (F := Ideal)) (val_main_v25 (F := Ideal)) ⟨r / 2048, by omega⟩ ⟨r % 2048, by omega⟩ j := by
  pointwise [val_main_v189, val_main_v188]
  simp only [rq_at]
  exact congrArg (fun j => retQueryAt x sh sc g w (val_main_v24 (F := Ideal)) (val_main_v25 (F := Ideal)) ⟨r / 2048, by omega⟩ ⟨r % 2048, by omega⟩ j) (Fin.ext (by dsimp only; omega))

theorem key_at (r : Fin 16384) (j : Fin 256) : val_main_v191 (F := Ideal) x sh sc g w (ix2 r j : S16384x256.Idx)
    = retKeyAt x sh sc g w (val_main_v24 (F := Ideal)) (val_main_v25 (F := Ideal)) ⟨r / 2048, by omega⟩ ⟨r % 2048, by omega⟩ j := by
  pointwise [val_main_v191, val_main_v190]
  simp only [rk_at]
  exact congrArg (fun j => retKeyAt x sh sc g w (val_main_v24 (F := Ideal)) (val_main_v25 (F := Ideal)) ⟨r / 2048, by omega⟩ ⟨r % 2048, by omega⟩ j) (Fin.ext (by dsimp only; omega))

theorem value_at (r : Fin 16384) (j : Fin 512) : val_main_v193 (F := Ideal) x sh sc g w (ix2 r j : S16384x512.Idx)
    = retValueAt x sh sc g w ⟨r / 2048, by omega⟩ ⟨r % 2048, by omega⟩ j := by
  pointwise [val_main_v193, val_main_v192, val_main_v53]
  simp only [proj_at]
  rfl

theorem swish_at (r : Fin 16384) (j : Fin 512) : val_main_v195 (F := Ideal) x sh sc g w (ix2 r j : S16384x512.Idx)
    = retGateAt x sh sc g w ⟨r / 2048, by omega⟩ ⟨r % 2048, by omega⟩ j := by
  pointwise [val_main_v195, val_main_v194, val_main_v179, val_main_call0_v5, val_main_call0_v4, val_main_call0_v3, val_main_call0_v2, val_main_call0_v1, val_main_call0_v0, val_main_call0_cst, val_main_call0_cst_0, val_main_v54]
  simp only [proj_at]
  rfl

theorem headQuery_at (r : Fin 16384) (j : Fin 512) : val_main_v197 (F := Ideal) x sh sc g w q (ix2 r j : S16384x512.Idx)
    = headAt x sh sc g w (val_main_v24 (F := Ideal)) (val_main_v25 (F := Ideal)) q 2048 (by omega) ⟨r / 2048, by omega⟩ ⟨r % 2048, by omega⟩ j * qs := by
  pointwise [val_main_v197, val_main_v196]
  simp only [dq_at]
  exact congrArg (fun j => headAt x sh sc g w (val_main_v24 (F := Ideal)) (val_main_v25 (F := Ideal)) q 2048 (by omega) ⟨r / 2048, by omega⟩ ⟨r % 2048, by omega⟩ j * qs) (Fin.ext (by dsimp only; omega))

theorem headKey_at (r : Fin 16384) (j : Fin 512) : val_main_v199 (F := Ideal) x sh sc g w q (ix2 r j : S16384x512.Idx)
    = headAt x sh sc g w (val_main_v24 (F := Ideal)) (val_main_v25 (F := Ideal)) q 2560 (by omega) ⟨r / 2048, by omega⟩ ⟨r % 2048, by omega⟩ j := by
  pointwise [val_main_v199, val_main_v198]
  simp only [dk_at]
  exact congrArg (fun j => headAt x sh sc g w (val_main_v24 (F := Ideal)) (val_main_v25 (F := Ideal)) q 2560 (by omega) ⟨r / 2048, by omega⟩ ⟨r % 2048, by omega⟩ j) (Fin.ext (by dsimp only; omega))

theorem packed_at (r : Fin 16384) (j : Fin 1024) : val_main_v201 (F := Ideal) x sh sc g w (ix2 r j : S16384x1024.Idx)
    = packedAt x sh sc g w ⟨r / 2048, by omega⟩ ⟨r % 2048, by omega⟩ j := by
  pointwise [val_main_v201, val_main_v200]
  simp only [dv_at]
  exact congrArg (fun j => packedAt x sh sc g w ⟨r / 2048, by omega⟩ ⟨r % 2048, by omega⟩ j) (Fin.ext (by dsimp only; omega))

theorem gate_at (r : Fin 16384) (j : Fin 3072) : val_main_v203 (F := Ideal) x sh sc g w (ix2 r j : S16384x3072.Idx)
    = gateAt x sh sc g w ⟨r / 2048, by omega⟩ ⟨r % 2048, by omega⟩ j := by
  pointwise [val_main_v203, val_main_v202, val_main_v185, val_main_v184, val_main_v183, val_main_v182, val_main_v181, val_main_v180, val_main_v58, val_main_cst_15, val_main_cst_16]
  simp only [proj_at]
  rfl

open Cert.Kernel3Ideal.ProjHost (cosines sines)
open Cert.Kernel3Ideal.ProjArray (result10 result11 result12 result13 result14 result15 result16 result17 result18)

variable (m : (ℓ : Loc Cert.Kernel3Ideal.nD Cert.Kernel3Ideal.τ Cert.Kernel3Ideal.sig) → Buf (Elt Ideal) ℓ) (c : Dev Cert.Kernel3Ideal.nD)

/-- Both hosts work the angles out the same way. -/
theorem rows_eq : (show FVec Ideal S2048x16 .f32 from StableHlo.upto Cert.Kernel3Ideal.Gen.hostOps0 (fun b => m (c, b)) 25 (Proc.devRef .tc Cert.Kernel3Ideal.main_v17))
    = val_main_v17 (F := Ideal) := by
  after_reads_simp
  rfl

theorem cols_eq : (show FVec Ideal S2048x16 .f32 from StableHlo.upto Cert.Kernel3Ideal.Gen.hostOps0 (fun b => m (c, b)) 25 (Proc.devRef .tc Cert.Kernel3Ideal.main_v22))
    = val_main_v22 (F := Ideal) := by
  after_reads_simp
  rfl

theorem angles_eq (A A' B B' : FVec Ideal S2048x16 .f32) (ha : A = A') (hb : B = B') :
    concatenate S2048x32 1 [⟨S2048x16, A⟩, ⟨S2048x16, B⟩] concatenates_S2048x16_S2048x16_S2048x32_d1
      = concatenate S2048x32 1 [⟨S2048x16, A'⟩, ⟨S2048x16, B'⟩] concatenates_S2048x16_S2048x16_S2048x32_d1 := by
  rw [ha, hb]

theorem cosines_eq : cosines m c = val_main_v24 (F := Ideal) := by
  have h1 := rows_eq m c
  have h2 := cols_eq m c
  unfold cosines
  after_reads_simp
  exact congrArg (fun a : FVec Ideal S2048x32 .f32 => Host.cos a) (angles_eq _ _ _ _ h1 h2)

theorem sines_eq : sines m c = val_main_v25 (F := Ideal) := by
  have h1 := rows_eq m c
  have h2 := cols_eq m c
  unfold sines
  after_reads_simp
  exact congrArg (fun a : FVec Ideal S2048x32 .f32 => Host.sin a) (angles_eq _ _ _ _ h1 h2)

/-- The nine results of the kernel are the reference's. -/
theorem result10_eq : result10 m c = val_main_v187 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) := by
  funext i
  obtain ⟨r, j, rfl⟩ : ∃ r j, i = ix2 r j := ⟨i 0, i 1, eq_ix2 i⟩
  refine Eq.trans ?_ (fourier_at _ _ _ _ _ r j).symm
  unfold result10
  rfl

theorem result11_eq : result11 m c = val_main_v189 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) := by
  funext i
  obtain ⟨r, j, rfl⟩ : ∃ r j, i = ix2 r j := ⟨i 0, i 1, eq_ix2 i⟩
  refine Eq.trans ?_ (query_at _ _ _ _ _ r j).symm
  unfold result11
  rw [cosines_eq, sines_eq]
  rfl

theorem result12_eq : result12 m c = val_main_v191 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) := by
  funext i
  obtain ⟨r, j, rfl⟩ : ∃ r j, i = ix2 r j := ⟨i 0, i 1, eq_ix2 i⟩
  refine Eq.trans ?_ (key_at _ _ _ _ _ r j).symm
  unfold result12
  rw [cosines_eq, sines_eq]
  rfl

theorem result13_eq : result13 m c = val_main_v193 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) := by
  funext i
  obtain ⟨r, j, rfl⟩ : ∃ r j, i = ix2 r j := ⟨i 0, i 1, eq_ix2 i⟩
  refine Eq.trans ?_ (value_at _ _ _ _ _ r j).symm
  unfold result13
  rfl

theorem result14_eq : result14 m c = val_main_v195 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) := by
  funext i
  obtain ⟨r, j, rfl⟩ : ∃ r j, i = ix2 r j := ⟨i 0, i 1, eq_ix2 i⟩
  refine Eq.trans ?_ (swish_at _ _ _ _ _ r j).symm
  unfold result14
  rfl

theorem result15_eq : result15 m c = val_main_v197 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) := by
  funext i
  obtain ⟨r, j, rfl⟩ : ∃ r j, i = ix2 r j := ⟨i 0, i 1, eq_ix2 i⟩
  refine Eq.trans ?_ (headQuery_at _ _ _ _ _ _ r j).symm
  unfold result15
  rw [cosines_eq, sines_eq]
  rfl

theorem result16_eq : result16 m c = val_main_v199 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg6)) := by
  funext i
  obtain ⟨r, j, rfl⟩ : ∃ r j, i = ix2 r j := ⟨i 0, i 1, eq_ix2 i⟩
  refine Eq.trans ?_ (headKey_at _ _ _ _ _ _ r j).symm
  unfold result16
  rw [cosines_eq, sines_eq]
  rfl

theorem result17_eq : result17 m c = val_main_v201 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) := by
  funext i
  obtain ⟨r, j, rfl⟩ : ∃ r j, i = ix2 r j := ⟨i 0, i 1, eq_ix2 i⟩
  refine Eq.trans ?_ (packed_at _ _ _ _ _ r j).symm
  unfold result17
  rfl

theorem result18_eq : result18 m c = val_main_v203 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) := by
  funext i
  obtain ⟨r, j, rfl⟩ : ∃ r j, i = ix2 r j := ⟨i 0, i 1, eq_ix2 i⟩
  refine Eq.trans ?_ (gate_at _ _ _ _ _ r j).symm
  unfold result18
  rfl

end Cert.Reference3Ideal.ProjRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_values
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_merge
public import proofs.«01_k».proof.Proof.AttnClaim
public import proofs.«01_k».proof.Proof.MergeClaim
public import proofs.«01_k».proof.Proof.FfnFrame
public import proofs.«01_k».proof.Proof.FfnRef
public import proofs.«01_k».proof.Proof.ProjRef
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference leaves its arguments and every counter as they were. -/
theorem reference_frame : Cert.quiescent_ReferenceIdeal (hReferenceIdeal := Cert.ReferenceIdeal.Gen.facts) := fun m g _ =>
  (θ_run _ _ _).mono (fun r h => And.intro (fun c => (h c).2) (sem_eq_zero_of_no_sems rfl r.2))
    (Cert.ReferenceIdeal.Value.run (F := Ideal) m g)

/-- The attention: from finite values on, the kernel's result is the reference's. -/
theorem attention : Cert.algebraic_KernelIdeal_ReferenceIdeal_pre_finite_values
    (hKernelIdeal := Cert.KernelIdeal.Gen.facts) (hReferenceIdeal := Cert.ReferenceIdeal.Gen.facts)
    (hPre_finite_values := Cert.Pre_finite_values.Gen.facts) := by
  intro m g m' g' hpre hagree
  refine ⟨fun c => Cert.KernelIdeal.AttnArray.result m c, ?_, ?_⟩
  · exact (θ_run _ _ _).mono (fun r h c => ⟨(h c).1.trans (Cert.KernelIdeal.AttnArray.final m c), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    obtain ⟨a0, a1, a2, a3, a4, a5⟩ := hagree c
    rw [Cert.ReferenceIdeal.Read.val_main_v54_eq, a0, a1, a2, a3, a4, a5]
    exact (Cert.AttnClaim.result_eq m hpre c).symm

/-- The experts' reference leaves its arguments and every counter as they were. -/
theorem reference2_frame : Cert.quiescent_Reference2Ideal (hReference2Ideal := Cert.Reference2Ideal.Gen.facts) := fun m g _ =>
  (θ_run _ _ _).mono (fun r h => And.intro (fun c => (h c).2) (sem_eq_zero_of_no_sems rfl r.2))
    (Cert.Reference2Ideal.Value.run (F := Ideal) m g)

/-- The experts: the kernel's result is the reference's, whatever the arguments. -/
theorem experts : Cert.algebraic_Kernel2Ideal_Reference2Ideal
    (hKernel2Ideal := Cert.Kernel2Ideal.Gen.facts) (hReference2Ideal := Cert.Reference2Ideal.Gen.facts) := by
  intro m g m' g' hpre hagree
  refine ⟨fun c => Cert.Kernel2Ideal.FfnArray.result m c, ?_, ?_⟩
  · exact Cert.Kernel2Ideal.FfnArray.run m g
  · refine (θ_run _ _ _).mono (fun r h c => ⟨(h c).1.trans ?_, (h c).2⟩) (Cert.Reference2Ideal.Value.run (F := Ideal) m' g')
    obtain ⟨a0, a1, a2, a3⟩ := hagree c
    rw [Cert.Reference2Ideal.Read.val_main_v14_eq, a0, a1, a2, a3]
    exact (Cert.Reference2Ideal.FfnRef.result_eq m c).symm

/-- The projection's reference leaves its arguments and every counter as they were. -/
theorem reference3_frame : Cert.quiescent_Reference3Ideal (hReference3Ideal := Cert.Reference3Ideal.Gen.facts) := fun m g _ =>
  (θ_run _ _ _).mono (fun r h => And.intro (fun c => (h c).2.2.2.2.2.2.2.2.2) (sem_eq_zero_of_no_sems rfl r.2))
    (Cert.Reference3Ideal.Value.run (F := Ideal) m g)

/-- The word that scales the attention's queries is named by the real number that it stands for. -/
theorem named : Cert.preserves_Kernel3_Kernel3Ideal :=
  IdealRules.named_const.statement Cert.Kernel3Ideal.κ "qscale" .f32 0x3E38AA3B#32 ((8⁻¹ * (Real.log 2)⁻¹ : ℝ) : EReal) rfl

/-- The projection: the kernel's nine results are the reference's, whatever the arguments. -/
theorem projection : Cert.algebraic_Kernel3Ideal_Reference3Ideal
    (hKernel3Ideal := Cert.Kernel3Ideal.Gen.facts) (hReference3Ideal := Cert.Reference3Ideal.Gen.facts) := by
  intro m g m' g' hpre hagree
  refine ⟨fun c => Cert.Kernel3Ideal.ProjArray.result10 m c, fun c => Cert.Kernel3Ideal.ProjArray.result11 m c,
    fun c => Cert.Kernel3Ideal.ProjArray.result12 m c, fun c => Cert.Kernel3Ideal.ProjArray.result13 m c,
    fun c => Cert.Kernel3Ideal.ProjArray.result14 m c, fun c => Cert.Kernel3Ideal.ProjArray.result15 m c,
    fun c => Cert.Kernel3Ideal.ProjArray.result16 m c, fun c => Cert.Kernel3Ideal.ProjArray.result17 m c,
    fun c => Cert.Kernel3Ideal.ProjArray.result18 m c, ?_, ?_⟩
  · exact Cert.Kernel3Ideal.ProjArray.run m g
  · refine (θ_run _ _ _).mono (fun r h c => ?_) (Cert.Reference3Ideal.Value.run (F := Ideal) m' g')
    obtain ⟨a0, a1, a2, a3, a4, a5, a6⟩ := hagree c
    have e0 : StableHlo.launchContents m' c (Proc.devRef .tc Cert.Reference3Ideal.main_arg0)
        = m ((c.tc : Thread Cert.Kernel3Ideal.nD Cert.Kernel3Ideal.τ).loc Cert.Kernel3Ideal.main_arg0) := a0
    have e1 : StableHlo.launchContents m' c (Proc.devRef .tc Cert.Reference3Ideal.main_arg1)
        = m ((c.tc : Thread Cert.Kernel3Ideal.nD Cert.Kernel3Ideal.τ).loc Cert.Kernel3Ideal.main_arg1) := a1
    have e2 : StableHlo.launchContents m' c (Proc.devRef .tc Cert.Reference3Ideal.main_arg2)
        = m ((c.tc : Thread Cert.Kernel3Ideal.nD Cert.Kernel3Ideal.τ).loc Cert.Kernel3Ideal.main_arg2) := a2
    have e3 : StableHlo.launchContents m' c (Proc.devRef .tc Cert.Reference3Ideal.main_arg3)
        = m ((c.tc : Thread Cert.Kernel3Ideal.nD Cert.Kernel3Ideal.τ).loc Cert.Kernel3Ideal.main_arg3) := a3
    have e4 : StableHlo.launchContents m' c (Proc.devRef .tc Cert.Reference3Ideal.main_arg4)
        = m ((c.tc : Thread Cert.Kernel3Ideal.nD Cert.Kernel3Ideal.τ).loc Cert.Kernel3Ideal.main_arg4) := a4
    have e5 : StableHlo.launchContents m' c (Proc.devRef .tc Cert.Reference3Ideal.main_arg5)
        = m ((c.tc : Thread Cert.Kernel3Ideal.nD Cert.Kernel3Ideal.τ).loc Cert.Kernel3Ideal.main_arg5) := a5
    have e6 : StableHlo.launchContents m' c (Proc.devRef .tc Cert.Reference3Ideal.main_arg6)
        = m ((c.tc : Thread Cert.Kernel3Ideal.nD Cert.Kernel3Ideal.τ).loc Cert.Kernel3Ideal.main_arg6) := a6
    obtain ⟨h0, h1, h2, h3, h4, h5, h6, h7, h8, hargs⟩ := h c
    refine ⟨h0.trans ?_, h1.trans ?_, h2.trans ?_, h3.trans ?_, h4.trans ?_, h5.trans ?_, h6.trans ?_, h7.trans ?_, h8.trans ?_, hargs⟩
    · rw [Cert.Reference3Ideal.Read.val_main_v187_eq, e0, e1, e2, e3, e4]
      exact (Cert.Reference3Ideal.ProjRef.result10_eq m c).symm
    · rw [Cert.Reference3Ideal.Read.val_main_v189_eq, e0, e1, e2, e3, e4]
      exact (Cert.Reference3Ideal.ProjRef.result11_eq m c).symm
    · rw [Cert.Reference3Ideal.Read.val_main_v191_eq, e0, e1, e2, e3, e4]
      exact (Cert.Reference3Ideal.ProjRef.result12_eq m c).symm
    · rw [Cert.Reference3Ideal.Read.val_main_v193_eq, e0, e1, e2, e3, e4]
      exact (Cert.Reference3Ideal.ProjRef.result13_eq m c).symm
    · rw [Cert.Reference3Ideal.Read.val_main_v195_eq, e0, e1, e2, e3, e4]
      exact (Cert.Reference3Ideal.ProjRef.result14_eq m c).symm
    · rw [Cert.Reference3Ideal.Read.val_main_v197_eq, e0, e1, e2, e3, e4, e5]
      exact (Cert.Reference3Ideal.ProjRef.result15_eq m c).symm
    · rw [Cert.Reference3Ideal.Read.val_main_v199_eq, e0, e1, e2, e3, e4, e6]
      exact (Cert.Reference3Ideal.ProjRef.result16_eq m c).symm
    · rw [Cert.Reference3Ideal.Read.val_main_v201_eq, e0, e1, e2, e3, e4]
      exact (Cert.Reference3Ideal.ProjRef.result17_eq m c).symm
    · rw [Cert.Reference3Ideal.Read.val_main_v203_eq, e0, e1, e2, e3, e4]
      exact (Cert.Reference3Ideal.ProjRef.result18_eq m c).symm

/-- The merge's reference leaves its arguments and every counter as they were. -/
theorem reference4_frame : Cert.quiescent_Reference4Ideal (hReference4Ideal := Cert.Reference4Ideal.Gen.facts) := fun m g _ =>
  (θ_run _ _ _).mono (fun r h => And.intro (fun c => (h c).2.2.2) (sem_eq_zero_of_no_sems rfl r.2))
    (Cert.Reference4Ideal.Value.run (F := Ideal) m g)

/-- The merge: from a real shift, scale and gain and real router's weights on, the kernel's three results are the reference's. -/
theorem merge : Cert.algebraic_Kernel4Ideal_Reference4Ideal_pre_finite_merge
    (hKernel4Ideal := Cert.Kernel4Ideal.Gen.facts) (hReference4Ideal := Cert.Reference4Ideal.Gen.facts)
    (hPre_finite_merge := Cert.Pre_finite_merge.Gen.facts) := by
  intro m g m' g' hpre hagree
  refine ⟨fun c => Cert.Kernel4Ideal.MergeArray.result14 m c, fun c => Cert.Kernel4Ideal.MergeArray.result15 m c,
    fun c => Cert.Kernel4Ideal.MergeArray.result16 m c, ?_, ?_⟩
  · exact (θ_run _ _ _).mono (fun r h c => ⟨((h c).1).trans (Cert.Kernel4Ideal.MergeArray.final14 m c),
      ((h c).2.1).trans (Cert.Kernel4Ideal.MergeArray.final15 m c),
      ((h c).2.2.1).trans (Cert.Kernel4Ideal.MergeArray.final16 m c (Cert.MergeClaim.reals m hpre c)), (h c).2.2.2⟩)
      (Cert.Kernel4Ideal.Value.run_blocks (F := Ideal) m g)
  · refine (θ_run _ _ _).mono (fun r h c => ?_) (Cert.Reference4Ideal.Value.run (F := Ideal) m' g')
    obtain ⟨a0, a1, a2, a3, a4, a5, a6, a7, a8, a9, a10, a11, a12, a13⟩ := hagree c
    have e0 : m' ((c.tc : Thread Cert.Reference4Ideal.nD Cert.Reference4Ideal.τ).loc Cert.Reference4Ideal.main_arg0)
        = m ((c.tc : Thread Cert.Kernel4Ideal.nD Cert.Kernel4Ideal.τ).loc Cert.Kernel4Ideal.main_arg0) := a0
    have l0 : StableHlo.launchContents m' c (Proc.devRef .tc Cert.Reference4Ideal.main_arg0)
        = m ((c.tc : Thread Cert.Kernel4Ideal.nD Cert.Kernel4Ideal.τ).loc Cert.Kernel4Ideal.main_arg0) := a0
    have e1 : m' ((c.tc : Thread Cert.Reference4Ideal.nD Cert.Reference4Ideal.τ).loc Cert.Reference4Ideal.main_arg1)
        = m ((c.tc : Thread Cert.Kernel4Ideal.nD Cert.Kernel4Ideal.τ).loc Cert.Kernel4Ideal.main_arg1) := a1
    have l1 : StableHlo.launchContents m' c (Proc.devRef .tc Cert.Reference4Ideal.main_arg1)
        = m ((c.tc : Thread Cert.Kernel4Ideal.nD Cert.Kernel4Ideal.τ).loc Cert.Kernel4Ideal.main_arg1) := a1
    have e2 : m' ((c.tc : Thread Cert.Reference4Ideal.nD Cert.Reference4Ideal.τ).loc Cert.Reference4Ideal.main_arg2)
        = m ((c.tc : Thread Cert.Kernel4Ideal.nD Cert.Kernel4Ideal.τ).loc Cert.Kernel4Ideal.main_arg2) := a2
    have l2 : StableHlo.launchContents m' c (Proc.devRef .tc Cert.Reference4Ideal.main_arg2)
        = m ((c.tc : Thread Cert.Kernel4Ideal.nD Cert.Kernel4Ideal.τ).loc Cert.Kernel4Ideal.main_arg2) := a2
    have e3 : m' ((c.tc : Thread Cert.Reference4Ideal.nD Cert.Reference4Ideal.τ).loc Cert.Reference4Ideal.main_arg3)
        = m ((c.tc : Thread Cert.Kernel4Ideal.nD Cert.Kernel4Ideal.τ).loc Cert.Kernel4Ideal.main_arg3) := a3
    have l3 : StableHlo.launchContents m' c (Proc.devRef .tc Cert.Reference4Ideal.main_arg3)
        = m ((c.tc : Thread Cert.Kernel4Ideal.nD Cert.Kernel4Ideal.τ).loc Cert.Kernel4Ideal.main_arg3) := a3
    have e4 : m' ((c.tc : Thread Cert.Reference4Ideal.nD Cert.Reference4Ideal.τ).loc Cert.Reference4Ideal.main_arg4)
        = m ((c.tc : Thread Cert.Kernel4Ideal.nD Cert.Kernel4Ideal.τ).loc Cert.Kernel4Ideal.main_arg4) := a4
    have l4 : StableHlo.launchContents m' c (Proc.devRef .tc Cert.Reference4Ideal.main_arg4)
        = m ((c.tc : Thread Cert.Kernel4Ideal.nD Cert.Kernel4Ideal.τ).loc Cert.Kernel4Ideal.main_arg4) := a4
    have e5 : m' ((c.tc : Thread Cert.Reference4Ideal.nD Cert.Reference4Ideal.τ).loc Cert.Reference4Ideal.main_arg5)
        = m ((c.tc : Thread Cert.Kernel4Ideal.nD Cert.Kernel4Ideal.τ).loc Cert.Kernel4Ideal.main_arg5) := a5
    have l5 : StableHlo.launchContents m' c (Proc.devRef .tc Cert.Reference4Ideal.main_arg5)
        = m ((c.tc : Thread Cert.Kernel4Ideal.nD Cert.Kernel4Ideal.τ).loc Cert.Kernel4Ideal.main_arg5) := a5
    have e6 : m' ((c.tc : Thread Cert.Reference4Ideal.nD Cert.Reference4Ideal.τ).loc Cert.Reference4Ideal.main_arg6)
        = m ((c.tc : Thread Cert.Kernel4Ideal.nD Cert.Kernel4Ideal.τ).loc Cert.Kernel4Ideal.main_arg6) := a6
    have l6 : StableHlo.launchContents m' c (Proc.devRef .tc Cert.Reference4Ideal.main_arg6)
        = m ((c.tc : Thread Cert.Kernel4Ideal.nD Cert.Kernel4Ideal.τ).loc Cert.Kernel4Ideal.main_arg6) := a6
    have e7 : m' ((c.tc : Thread Cert.Reference4Ideal.nD Cert.Reference4Ideal.τ).loc Cert.Reference4Ideal.main_arg7)
        = m ((c.tc : Thread Cert.Kernel4Ideal.nD Cert.Kernel4Ideal.τ).loc Cert.Kernel4Ideal.main_arg7) := a7
    have l7 : StableHlo.launchContents m' c (Proc.devRef .tc Cert.Reference4Ideal.main_arg7)
        = m ((c.tc : Thread Cert.Kernel4Ideal.nD Cert.Kernel4Ideal.τ).loc Cert.Kernel4Ideal.main_arg7) := a7
    have e8 : m' ((c.tc : Thread Cert.Reference4Ideal.nD Cert.Reference4Ideal.τ).loc Cert.Reference4Ideal.main_arg8)
        = m ((c.tc : Thread Cert.Kernel4Ideal.nD Cert.Kernel4Ideal.τ).loc Cert.Kernel4Ideal.main_arg8) := a8
    have l8 : StableHlo.launchContents m' c (Proc.devRef .tc Cert.Reference4Ideal.main_arg8)
        = m ((c.tc : Thread Cert.Kernel4Ideal.nD Cert.Kernel4Ideal.τ).loc Cert.Kernel4Ideal.main_arg8) := a8
    have e9 : m' ((c.tc : Thread Cert.Reference4Ideal.nD Cert.Reference4Ideal.τ).loc Cert.Reference4Ideal.main_arg9)
        = m ((c.tc : Thread Cert.Kernel4Ideal.nD Cert.Kernel4Ideal.τ).loc Cert.Kernel4Ideal.main_arg9) := a9
    have l9 : StableHlo.launchContents m' c (Proc.devRef .tc Cert.Reference4Ideal.main_arg9)
        = m ((c.tc : Thread Cert.Kernel4Ideal.nD Cert.Kernel4Ideal.τ).loc Cert.Kernel4Ideal.main_arg9) := a9
    have e10 : m' ((c.tc : Thread Cert.Reference4Ideal.nD Cert.Reference4Ideal.τ).loc Cert.Reference4Ideal.main_arg10)
        = m ((c.tc : Thread Cert.Kernel4Ideal.nD Cert.Kernel4Ideal.τ).loc Cert.Kernel4Ideal.main_arg10) := a10
    have l10 : StableHlo.launchContents m' c (Proc.devRef .tc Cert.Reference4Ideal.main_arg10)
        = m ((c.tc : Thread Cert.Kernel4Ideal.nD Cert.Kernel4Ideal.τ).loc Cert.Kernel4Ideal.main_arg10) := a10
    have e11 : m' ((c.tc : Thread Cert.Reference4Ideal.nD Cert.Reference4Ideal.τ).loc Cert.Reference4Ideal.main_arg11)
        = m ((c.tc : Thread Cert.Kernel4Ideal.nD Cert.Kernel4Ideal.τ).loc Cert.Kernel4Ideal.main_arg11) := a11
    have l11 : StableHlo.launchContents m' c (Proc.devRef .tc Cert.Reference4Ideal.main_arg11)
        = m ((c.tc : Thread Cert.Kernel4Ideal.nD Cert.Kernel4Ideal.τ).loc Cert.Kernel4Ideal.main_arg11) := a11
    have e12 : m' ((c.tc : Thread Cert.Reference4Ideal.nD Cert.Reference4Ideal.τ).loc Cert.Reference4Ideal.main_arg12)
        = m ((c.tc : Thread Cert.Kernel4Ideal.nD Cert.Kernel4Ideal.τ).loc Cert.Kernel4Ideal.main_arg12) := a12
    have l12 : StableHlo.launchContents m' c (Proc.devRef .tc Cert.Reference4Ideal.main_arg12)
        = m ((c.tc : Thread Cert.Kernel4Ideal.nD Cert.Kernel4Ideal.τ).loc Cert.Kernel4Ideal.main_arg12) := a12
    have e13 : m' ((c.tc : Thread Cert.Reference4Ideal.nD Cert.Reference4Ideal.τ).loc Cert.Reference4Ideal.main_arg13)
        = m ((c.tc : Thread Cert.Kernel4Ideal.nD Cert.Kernel4Ideal.τ).loc Cert.Kernel4Ideal.main_arg13) := a13
    have l13 : StableHlo.launchContents m' c (Proc.devRef .tc Cert.Reference4Ideal.main_arg13)
        = m ((c.tc : Thread Cert.Kernel4Ideal.nD Cert.Kernel4Ideal.τ).loc Cert.Kernel4Ideal.main_arg13) := a13
    obtain ⟨h0, h1, h2, hargs⟩ := h c
    refine ⟨h0.trans ?_, h1.trans ?_, h2.trans ?_, hargs⟩
    · rw [Cert.Reference4Ideal.Read.val_main_v46_eq]
      simp only [e0, e1, e2, e3, e4, e5, e9, e10, e11, e12, l0, l1, l2, l3, l4, l5, l9, l10, l11, l12]
      exact (Cert.Kernel4Ideal.MergeArray.result14_eq m c).symm
    · rw [Cert.Reference4Ideal.Read.val_main_v48_eq, e0, e1, e2, e3, e4, e5, e6, e7, e8, e9, e10, e11, e12]
      exact (Cert.Kernel4Ideal.MergeArray.result15_eq m c).symm
    · rw [Cert.Reference4Ideal.Read.val_main_v49_eq, e0, e1, e2, e3, e4, e5, e6, e7, e8, e9, e10, e11, e12, e13]
      exact (Cert.Kernel4Ideal.MergeArray.result16_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_values.Gen.facts, Cert.Pre_finite_merge.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  ffn_frame,
  ffn_frame_ideal,
  reference2_frame,
  fun m g _ => Cert.Kernel3.Gen.frame m g,
  fun m g _ => Cert.Kernel3Ideal.Gen.frame m g,
  reference3_frame,
  fun m g _ => Cert.Kernel4.Gen.frame m g,
  fun m g _ => Cert.Kernel4Ideal.Gen.frame m g,
  fun m g _ => Cert.Kernel4Ideal.Gen.frame m g,
  reference4_frame,
  fun m g _ => reference4_frame m g trivial,
  trivial,
  attention,
  trivial,
  experts,
  named,
  projection,
  trivial,
  merge⟩

end Cert.Proof

end
